-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_fits_KernelIdeal [hPre_fits_KernelIdeal : Cert.Pre_fits_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_fits_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_fits_ReferenceIdeal [hPre_fits_ReferenceIdeal : Cert.Pre_fits_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_fits_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_fits_KernelIdeal [hKernelIdeal : Cert.KernelIdeal.Facts] [hPre_fits_KernelIdeal : Cert.Pre_fits_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_fits_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_fits_ReferenceIdeal [hReferenceIdeal : Cert.ReferenceIdeal.Facts] [hPre_fits_ReferenceIdeal : Cert.Pre_fits_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_fits_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_fits_KernelIdeal [hKernelIdeal : Cert.KernelIdeal.Facts] [hReferenceIdeal : Cert.ReferenceIdeal.Facts] [hPre_fits_KernelIdeal : Cert.Pre_fits_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_fits_KernelIdeal m →
    (∀ c : Dev Cert.KernelIdeal.nD,
      m ((c.tc : Thread Cert.KernelIdeal.nD Cert.KernelIdeal.τ).loc Cert.KernelIdeal.main_arg0) = Layout.blockN ⟨2, ![4096, 2048]⟩ ⟨2, ![8192, 2048]⟩ (Layout.meshBlock [2, 4, 4] ![[0], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨1, ![4096]⟩ ⟨1, ![8192]⟩ (Layout.meshBlock [2, 4, 4] ![[0]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨3, ![4, 2048, 4096]⟩ ⟨3, ![8, 2048, 4096]⟩ (Layout.meshBlock [2, 4, 4] ![[0], [], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.blockN ⟨3, ![4, 4096, 2048]⟩ ⟨3, ![8, 4096, 2048]⟩ (Layout.meshBlock [2, 4, 4] ![[0], [], []] c) (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v113)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = Layout.blockN ⟨2, ![4096, 2048]⟩ ⟨2, ![8192, 2048]⟩ (Layout.meshBlock [2, 4, 4] ![[0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v113) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_fits_KernelIdeal : Cert.Pre_fits_KernelIdeal.Facts) (hPre_fits_ReferenceIdeal : Cert.Pre_fits_ReferenceIdeal.Facts),
    quiescent_Kernel (hKernel := hKernel)
    ∧ quiescent_KernelIdeal (hKernelIdeal := hKernelIdeal)
    ∧ quiescent_KernelIdeal_pre_fits_KernelIdeal (hKernelIdeal := hKernelIdeal) (hPre_fits_KernelIdeal := hPre_fits_KernelIdeal)
    ∧ quiescent_ReferenceIdeal (hReferenceIdeal := hReferenceIdeal)
    ∧ quiescent_ReferenceIdeal_pre_fits_ReferenceIdeal (hReferenceIdeal := hReferenceIdeal) (hPre_fits_ReferenceIdeal := hPre_fits_ReferenceIdeal)
    ∧ preserves_Kernel_KernelIdeal
    ∧ algebraic_KernelIdeal_ReferenceIdeal_pre_fits_KernelIdeal (hKernelIdeal := hKernelIdeal) (hReferenceIdeal := hReferenceIdeal) (hPre_fits_KernelIdeal := hPre_fits_KernelIdeal)
-- ==== Pre_fits_KernelIdeal.lean ====
abbrev S4096x2048 : Shape := ⟨2, ![4096, 2048]⟩
abbrev S4096 : Shape := ⟨1, ![4096]⟩
abbrev S4x2048x4096 : Shape := ⟨3, ![4, 2048, 4096]⟩
abbrev S4x4096x2048 : Shape := ⟨3, ![4, 4096, 2048]⟩
abbrev S4096x1 : Shape := ⟨2, ![4096, 1]⟩
abbrev S8 : Shape := ⟨1, ![8]⟩
abbrev S1x8 : Shape := ⟨2, ![1, 8]⟩
abbrev S4096x8 : Shape := ⟨2, ![4096, 8]⟩
abbrev S_ : Shape := ⟨0, ![]⟩

class Facts : Prop where
  bcast_S4096_S4096x1_0 : S4096.BroadcastsInDim S4096x1 (![0] : Fin 1 → Fin S4096x1.rank)
  bcast_S8_S1x8_1 : S8.BroadcastsInDim S1x8 (![1] : Fin 1 → Fin S1x8.rank)
  bcast_S4096x1_S4096x8_0_1 : S4096x1.BroadcastsInDim S4096x8 (![0, 1] : Fin 2 → Fin S4096x8.rank)
  bcast_S1x8_S4096x8_0_1 : S1x8.BroadcastsInDim S4096x8 (![0, 1] : Fin 2 → Fin S4096x8.rank)
  natLt_1_32 : 1 < 32
  bcast_S_S4096 : S_.BroadcastsInDim S4096 (![] : Fin 0 → Fin S4096.rank)
  reducesTo_S4096_S_d0 : S4096.ReducesTo [0] S_
  h_S_ : 0 < S_.numel
  reducesTo_S4096x8_S8_d0 : S4096x8.ReducesTo [0] S8
  bcast_S_S8 : S_.BroadcastsInDim S8 (![] : Fin 0 → Fin S8.rank)
  reducesTo_S8_S_d0 : S8.ReducesTo [0] S_

variable [Facts]

def fn {F : FTy → Type} [FloatOps F] (main_arg0 : FVec F S4096x2048 .bf16) (main_arg1 : IVec S4096 32) (main_arg2 : FVec F S4x2048x4096 .bf16) (main_arg3 : FVec F S4x4096x2048 .bf16) : IVec S_ 1 :=
  let main_v0 : IVec S4096x1 32 := broadcastInDim S4096x1 ![0] bcast_S4096_S4096x1_0 main_arg1
  let main_v1 : IVec S8 32 := iotaInDim S8 32 0
  let main_v2 : IVec S1x8 32 := broadcastInDim S1x8 ![1] bcast_S8_S1x8_1 main_v1
  let main_v3 : IVec S4096x8 32 := broadcastInDim S4096x8 ![0, 1] bcast_S4096x1_S4096x8_0_1 main_v0
  let main_v4 : IVec S4096x8 32 := broadcastInDim S4096x8 ![0, 1] bcast_S1x8_S4096x8_0_1 main_v2
  let main_v5 : IVec S4096x8 1 := cmpi .eq main_v3 main_v4
  let main_v6 : IVec S4096x8 32 := (extui 32 · natLt_1_32) main_v5
  let main_c : IVec S_ 32 := constantI S_ 32 0#32
  let main_v7 : IVec S4096 32 := broadcastInDim S4096 ![] bcast_S_S4096 main_c
  let main_v8 : IVec S4096 1 := cmpi .sge main_arg1 main_v7
  let main_c_0 : IVec S_ 32 := constantI S_ 32 8#32
  let main_v9 : IVec S4096 32 := broadcastInDim S4096 ![] bcast_S_S4096 main_c_0
  let main_v10 : IVec S4096 1 := cmpi .slt main_arg1 main_v9
  let main_v11 : IVec S4096 1 := andi main_v8 main_v10
  let main_c_1 : IVec S_ 1 := constantI S_ 1 1#1
  let main_v12 : IVec S_ 1 := (fun x v => Host.reduce IntOp.andi x v reducesTo_S4096_S_d0 h_S_) main_v11 main_c_1
  let main_c_2 : IVec S_ 32 := constantI S_ 32 0#32
  let main_v13 : IVec S8 32 := (fun x v => Host.reduce IntOp.addi x v reducesTo_S4096x8_S8_d0 h_S_) main_v6 main_c_2
  let main_c_3 : IVec S_ 32 := constantI S_ 32 576#32
  let main_v14 : IVec S8 32 := broadcastInDim S8 ![] bcast_S_S8 main_c_3
  let main_v15 : IVec S8 1 := cmpi .sle main_v13 main_v14
  let main_c_4 : IVec S_ 1 := constantI S_ 1 1#1
  let main_v16 : IVec S_ 1 := (fun x v => Host.reduce IntOp.andi x v reducesTo_S8_S_d0 h_S_) main_v15 main_c_4
  let main_v17 : IVec S_ 1 := andi main_v12 main_v16
  main_v17
-- ==== Pre_fits_ReferenceIdeal.lean ====
abbrev S8192x2048 : Shape := ⟨2, ![8192, 2048]⟩
abbrev S8192 : Shape := ⟨1, ![8192]⟩
abbrev S8x2048x4096 : Shape := ⟨3, ![8, 2048, 4096]⟩
abbrev S8x4096x2048 : Shape := ⟨3, ![8, 4096, 2048]⟩
abbrev S8192x1 : Shape := ⟨2, ![8192, 1]⟩
abbrev S8 : Shape := ⟨1, ![8]⟩
abbrev S1x8 : Shape := ⟨2, ![1, 8]⟩
abbrev S8192x8 : Shape := ⟨2, ![8192, 8]⟩
abbrev S_ : Shape := ⟨0, ![]⟩

class Facts : Prop where
  bcast_S8192_S8192x1_0 : S8192.BroadcastsInDim S8192x1 (![0] : Fin 1 → Fin S8192x1.rank)
  bcast_S8_S1x8_1 : S8.BroadcastsInDim S1x8 (![1] : Fin 1 → Fin S1x8.rank)
  bcast_S8192x1_S8192x8_0_1 : S8192x1.BroadcastsInDim S8192x8 (![0, 1] : Fin 2 → Fin S8192x8.rank)
  bcast_S1x8_S8192x8_0_1 : S1x8.BroadcastsInDim S8192x8 (![0, 1] : Fin 2 → Fin S8192x8.rank)
  natLt_1_32 : 1 < 32
  bcast_S_S8192 : S_.BroadcastsInDim S8192 (![] : Fin 0 → Fin S8192.rank)
  reducesTo_S8192_S_d0 : S8192.ReducesTo [0] S_
  h_S_ : 0 < S_.numel
  reducesTo_S8192x8_S8_d0 : S8192x8.ReducesTo [0] S8
  bcast_S_S8 : S_.BroadcastsInDim S8 (![] : Fin 0 → Fin S8.rank)
  reducesTo_S8_S_d0 : S8.ReducesTo [0] S_

variable [Facts]

def fn {F : FTy → Type} [FloatOps F] (main_arg0 : FVec F S8192x2048 .bf16) (main_arg1 : IVec S8192 32) (main_arg2 : FVec F S8x2048x4096 .bf16) (main_arg3 : FVec F S8x4096x2048 .bf16) : IVec S_ 1 :=
  let main_v0 : IVec S8192x1 32 := broadcastInDim S8192x1 ![0] bcast_S8192_S8192x1_0 main_arg1
  let main_v1 : IVec S8 32 := iotaInDim S8 32 0
  let main_v2 : IVec S1x8 32 := broadcastInDim S1x8 ![1] bcast_S8_S1x8_1 main_v1
  let main_v3 : IVec S8192x8 32 := broadcastInDim S8192x8 ![0, 1] bcast_S8192x1_S8192x8_0_1 main_v0
  let main_v4 : IVec S8192x8 32 := broadcastInDim S8192x8 ![0, 1] bcast_S1x8_S8192x8_0_1 main_v2
  let main_v5 : IVec S8192x8 1 := cmpi .eq main_v3 main_v4
  let main_v6 : IVec S8192x8 32 := (extui 32 · natLt_1_32) main_v5
  let main_c : IVec S_ 32 := constantI S_ 32 0#32
  let main_v7 : IVec S8192 32 := broadcastInDim S8192 ![] bcast_S_S8192 main_c
  let main_v8 : IVec S8192 1 := cmpi .sge main_arg1 main_v7
  let main_c_0 : IVec S_ 32 := constantI S_ 32 8#32
  let main_v9 : IVec S8192 32 := broadcastInDim S8192 ![] bcast_S_S8192 main_c_0
  let main_v10 : IVec S8192 1 := cmpi .slt main_arg1 main_v9
  let main_v11 : IVec S8192 1 := andi main_v8 main_v10
  let main_c_1 : IVec S_ 1 := constantI S_ 1 1#1
  let main_v12 : IVec S_ 1 := (fun x v => Host.reduce IntOp.andi x v reducesTo_S8192_S_d0 h_S_) main_v11 main_c_1
  let main_c_2 : IVec S_ 32 := constantI S_ 32 0#32
  let main_v13 : IVec S8 32 := (fun x v => Host.reduce IntOp.addi x v reducesTo_S8192x8_S8_d0 h_S_) main_v6 main_c_2
  let main_c_3 : IVec S_ 32 := constantI S_ 32 576#32
  let main_v14 : IVec S8 32 := broadcastInDim S8 ![] bcast_S_S8 main_c_3
  let main_v15 : IVec S8 1 := cmpi .sle main_v13 main_v14
  let main_c_4 : IVec S_ 1 := constantI S_ 1 1#1
  let main_v16 : IVec S_ 1 := (fun x v => Host.reduce IntOp.andi x v reducesTo_S8_S_d0 h_S_) main_v15 main_c_4
  let main_v17 : IVec S_ 1 := andi main_v12 main_v16
  main_v17
-- ==== Kernel.lean ====
abbrev S4096x2048 : Shape := ⟨2, ![4096, 2048]⟩
abbrev S4096 : Shape := ⟨1, ![4096]⟩
abbrev S4x2048x4096 : Shape := ⟨3, ![4, 2048, 4096]⟩
abbrev S4x4096x2048 : Shape := ⟨3, ![4, 4096, 2048]⟩
abbrev S4096x1 : Shape := ⟨2, ![4096, 1]⟩
abbrev S8 : Shape := ⟨1, ![8]⟩
abbrev S1x8 : Shape := ⟨2, ![1, 8]⟩
abbrev S4096x8 : Shape := ⟨2, ![4096, 8]⟩
abbrev S_ : Shape := ⟨0, ![]⟩
abbrev S8x512 : Shape := ⟨2, ![8, 512]⟩
abbrev S8x576x2048 : Shape := ⟨3, ![8, 576, 2048]⟩
abbrev S1x576x2048 : Shape := ⟨3, ![1, 576, 2048]⟩
abbrev S1x4096 : Shape := ⟨2, ![1, 4096]⟩
abbrev S576x4096 : Shape := ⟨2, ![576, 4096]⟩
abbrev S576x2048 : Shape := ⟨2, ![576, 2048]⟩
abbrev S1x2048x512 : Shape := ⟨3, ![1, 2048, 512]⟩
abbrev S1x512x2048 : Shape := ⟨3, ![1, 512, 2048]⟩
abbrev S4x576x2048 : Shape := ⟨3, ![4, 576, 2048]⟩
abbrev S2x576x2048 : Shape := ⟨3, ![2, 576, 2048]⟩
abbrev S4 : Shape := ⟨1, ![4]⟩
abbrev S1 : Shape := ⟨1, ![1]⟩
abbrev S2048x512 : Shape := ⟨2, ![2048, 512]⟩
abbrev S512x2048 : Shape := ⟨2, ![512, 2048]⟩
abbrev S576x512 : Shape := ⟨2, ![576, 512]⟩
abbrev S1x512 : Shape := ⟨2, ![1, 512]⟩
abbrev S512x1 : Shape := ⟨2, ![512, 1]⟩
abbrev S512x4608 : Shape := ⟨2, ![512, 4608]⟩
abbrev S4608x2048 : Shape := ⟨2, ![4608, 2048]⟩

abbrev nBuf : Space → Nat
  | .hbm => 32
  | .vmem => 18
  | .smem => 0
  | _ => 0

abbrev bufTy : (tb : Table) → Fin (tcTables nBuf tb) → BufTy
  | .hbm, ⟨0, _⟩ => ⟨S4096x2048, .bf16⟩
  | .hbm, ⟨1, _⟩ => ⟨S4096, .i32⟩
  | .hbm, ⟨2, _⟩ => ⟨S4x2048x4096, .bf16⟩
  | .hbm, ⟨3, _⟩ => ⟨S4x4096x2048, .bf16⟩
  | .hbm, ⟨4, _⟩ => ⟨S4096x1, .i32⟩
  | .hbm, ⟨5, _⟩ => ⟨S8, .i32⟩
  | .hbm, ⟨6, _⟩ => ⟨S1x8, .i32⟩
  | .hbm, ⟨7, _⟩ => ⟨S4096x8, .i32⟩
  | .hbm, ⟨8, _⟩ => ⟨S4096x8, .i32⟩
  | .hbm, ⟨9, _⟩ => ⟨S4096x8, .i1⟩
  | .hbm, ⟨10, _⟩ => ⟨S4096x8, .i32⟩
  | .hbm, ⟨11, _⟩ => ⟨S_, .i32⟩
  | .hbm, ⟨12, _⟩ => ⟨S_, .i32⟩
  | .hbm, ⟨13, _⟩ => ⟨S4096x8, .i32⟩
  | .hbm, ⟨14, _⟩ => ⟨S_, .i32⟩
  | .hbm, ⟨15, _⟩ => ⟨S4096x8, .i32⟩
  | .hbm, ⟨16, _⟩ => ⟨S4096x8, .i32⟩
  | .hbm, ⟨17, _⟩ => ⟨S4096x8, .i32⟩
  | .hbm, ⟨18, _⟩ => ⟨S_, .i32⟩
  | .hbm, ⟨19, _⟩ => ⟨S4096, .i32⟩
  | .hbm, ⟨20, _⟩ => ⟨S_, .i32⟩
  | .hbm, ⟨21, _⟩ => ⟨S4096, .i32⟩
  | .hbm, ⟨22, _⟩ => ⟨S4096, .i32⟩
  | .hbm, ⟨23, _⟩ => ⟨S_, .i32⟩
  | .hbm, ⟨24, _⟩ => ⟨S4096, .i32⟩
  | .hbm, ⟨25, _⟩ => ⟨S4096, .i32⟩
  | .hbm, ⟨26, _⟩ => ⟨S4096, .i32⟩
  | .hbm, ⟨27, _⟩ => ⟨S8x512, .i32⟩
  | .hbm, ⟨28, _⟩ => ⟨S8x576x2048, .bf16⟩
  | .hbm, ⟨29, _⟩ => ⟨S8x576x2048, .bf16⟩
  | .hbm, ⟨30, _⟩ => ⟨S8x512, .i32⟩
  | .hbm, ⟨31, _⟩ => ⟨S4096x2048, .f32⟩
  | .local _ .vmem, ⟨0, _⟩ => ⟨S8x512, .i32⟩
  | .local _ .vmem, ⟨1, _⟩ => ⟨S4096x2048, .bf16⟩
  | .local _ .vmem, ⟨2, _⟩ => ⟨S1x576x2048, .bf16⟩
  | .local _ .vmem, ⟨3, _⟩ => ⟨S1x576x2048, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x512x2048, .bf16⟩
  | .local _ .vmem, ⟨7, _⟩ => ⟨S1x512x2048, .bf16⟩
  | .local _ .vmem, ⟨8, _⟩ => ⟨S4x576x2048, .bf16⟩
  | .local _ .vmem, ⟨9, _⟩ => ⟨S576x2048, .bf16⟩
  | .local _ .vmem, ⟨10, _⟩ => ⟨S576x2048, .bf16⟩
  | .local _ .vmem, ⟨11, _⟩ => ⟨S2x576x2048, .bf16⟩
  | .local _ .vmem, ⟨12, _⟩ => ⟨S576x2048, .f32⟩
  | .local _ .vmem, ⟨13, _⟩ => ⟨S576x2048, .f32⟩
  | .local _ .vmem, ⟨14, _⟩ => ⟨S8x512, .i32⟩
  | .local _ .vmem, ⟨15, _⟩ => ⟨S8x576x2048, .bf16⟩
  | .local _ .vmem, ⟨16, _⟩ => ⟨S512x2048, .f32⟩
  | .local _ .vmem, ⟨17, _⟩ => ⟨S512x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 1 → Bool
  | ⟨0, _⟩ => false
  | _ => false

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  (ofTc nBuf bufTy 1 30 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_call0_call0_c : Ref sig .tc := ⟨.hbm, 11, rfl⟩
abbrev main_call0_call0_v0 : Ref sig .tc := ⟨.hbm, 12, rfl⟩
abbrev main_v8 : Ref sig .tc := ⟨.hbm, 13, rfl⟩
abbrev main_c : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c_0 : Ref sig .tc := ⟨.hbm, 18, rfl⟩
abbrev main_v12 : Ref sig .tc := ⟨.hbm, 19, rfl⟩
abbrev main_c_1 : Ref sig .tc := ⟨.hbm, 20, rfl⟩
abbrev main_v13 : Ref sig .tc := ⟨.hbm, 21, rfl⟩
abbrev main_v14 : Ref sig .tc := ⟨.hbm, 22, rfl⟩
abbrev main_c_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_scratch0 : Ref sig .tc := ⟨.vmem, 8, rfl⟩
abbrev cc1_scratch1 : Ref sig .tc := ⟨.vmem, 9, rfl⟩
abbrev cc1_scratch2 : Ref sig .tc := ⟨.vmem, 10, rfl⟩
abbrev cc1_scratch3 : Ref sig .tc := ⟨.vmem, 11, rfl⟩
abbrev cc1_scratch4 : Ref sig .tc := ⟨.vmem, 12, rfl⟩
abbrev cc1_scratch5 : Ref sig .tc := ⟨.vmem, 13, rfl⟩
abbrev cc2_stg0_0 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc0_sem0_0 : DmaSem sig := 0
abbrev cc0_sem1_0 : DmaSem sig := 1
abbrev cc0_sem2_0 : DmaSem sig := 2
abbrev cc0_sem2_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc2_sem0_0 : DmaSem sig := 26
abbrev cc2_sem1_0 : DmaSem sig := 27
abbrev cc2_sem2_0 : DmaSem sig := 28
abbrev cc2_sem2_1 : DmaSem sig := 29
abbrev barrier0 : Sem sig := 0

abbrev nD : Nat := 32
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S8x512 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4096x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x576x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![4, 8], ![false, false]⟩

def k1_cond1 (i : grid1.Coords) : BitVec 1 :=
  let arg0 : BitVec 32 := BitVec.ofNat 32 (i 0).val
  let c0_i32 : BitVec 32 := 0#32
  let v10 : BitVec 1 := Scalar.cmpi .eq arg0 c0_i32
  let arg1 : BitVec 32 := BitVec.ofNat 32 (i 1).val
  let c0_i32_3 : BitVec 32 := 0#32
  let v11 : BitVec 1 := Scalar.cmpi .eq arg1 c0_i32_3
  let v12 : BitVec 1 := Scalar.andi v10 v11
  let v13 : BitVec 32 := Scalar.extui v12
  let c0_i32_4 : BitVec 32 := 0#32
  let v14 : BitVec 1 := Scalar.cmpi .ne v13 c0_i32_4
  v14

def k1_dev1 (d0 : Dev nD) : Nat :=
  let c0_i32_30 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_29 : BitVec 32 := 16#32
  let v51 : BitVec 32 := Scalar.muli v9 c16_i32_29
  let v52 : BitVec 32 := Scalar.addi c0_i32_30 v51
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_31 : BitVec 32 := 4#32
  let v53 : BitVec 32 := Scalar.muli v5 c4_i32_31
  let v54 : BitVec 32 := Scalar.addi v52 v53
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_32 : BitVec 32 := 1#32
  let v55 : BitVec 32 := Scalar.muli v8 c1_i32_32
  let v56 : BitVec 32 := Scalar.addi v54 v55
  v56.toNat
def k1_cond2 (d0 : Dev nD) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_34 : BitVec 32 := 0#32
  let v57 : BitVec 1 := Scalar.cmpi .eq v2 c0_i32_34
  let v58 : BitVec 32 := Scalar.extui v57
  let c0_i32_35 : BitVec 32 := 0#32
  let v59 : BitVec 1 := Scalar.cmpi .ne v58 c0_i32_35
  v59

def k1_dev2 (d0 : Dev nD) : Nat :=
  let c0_i32_43 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_42 : BitVec 32 := 16#32
  let v63 : BitVec 32 := Scalar.muli v9 c16_i32_42
  let v64 : BitVec 32 := Scalar.addi c0_i32_43 v63
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_44 : BitVec 32 := 4#32
  let v65 : BitVec 32 := Scalar.muli v5 c4_i32_44
  let v66 : BitVec 32 := Scalar.addi v64 v65
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_45 : BitVec 32 := 1#32
  let v67 : BitVec 32 := Scalar.muli v8 c1_i32_45
  let v68 : BitVec 32 := Scalar.addi v66 v67
  v68.toNat
def k1_dev3 (d0 : Dev nD) : Nat :=
  let c0_i32_54 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_53 : BitVec 32 := 16#32
  let v77 : BitVec 32 := Scalar.muli v9 c16_i32_53
  let v78 : BitVec 32 := Scalar.addi c0_i32_54 v77
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_55 : BitVec 32 := 4#32
  let v79 : BitVec 32 := Scalar.muli v5 c4_i32_55
  let v80 : BitVec 32 := Scalar.addi v78 v79
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_56 : BitVec 32 := 1#32
  let v81 : BitVec 32 := Scalar.muli v8 c1_i32_56
  let v82 : BitVec 32 := Scalar.addi v80 v81
  v82.toNat
def k1_dev4 (d0 : Dev nD) : Nat :=
  let c0_i32_65 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_64 : BitVec 32 := 16#32
  let v91 : BitVec 32 := Scalar.muli v9 c16_i32_64
  let v92 : BitVec 32 := Scalar.addi c0_i32_65 v91
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_66 : BitVec 32 := 4#32
  let v93 : BitVec 32 := Scalar.muli v5 c4_i32_66
  let v94 : BitVec 32 := Scalar.addi v92 v93
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_67 : BitVec 32 := 1#32
  let v95 : BitVec 32 := Scalar.muli v8 c1_i32_67
  let v96 : BitVec 32 := Scalar.addi v94 v95
  v96.toNat
def k1_dev5 (d0 : Dev nD) : Nat :=
  let c0_i32_77 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_76 : BitVec 32 := 16#32
  let v105 : BitVec 32 := Scalar.muli v9 c16_i32_76
  let v106 : BitVec 32 := Scalar.addi c0_i32_77 v105
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_78 : BitVec 32 := 4#32
  let v107 : BitVec 32 := Scalar.muli v5 c4_i32_78
  let v108 : BitVec 32 := Scalar.addi v106 v107
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_79 : BitVec 32 := 1#32
  let v109 : BitVec 32 := Scalar.muli v8 c1_i32_79
  let v110 : BitVec 32 := Scalar.addi v108 v109
  v110.toNat
def k1_cond3 (d0 : Dev nD) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_36 : BitVec 32 := 1#32
  let v60 : BitVec 1 := Scalar.cmpi .eq v2 c1_i32_36
  let v61 : BitVec 32 := Scalar.extui v60
  let c0_i32_37 : BitVec 32 := 0#32
  let v62 : BitVec 1 := Scalar.cmpi .ne v61 c0_i32_37
  v62

def k1_dev6 (d0 : Dev nD) : Nat :=
  let c0_i32_43 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_42 : BitVec 32 := 16#32
  let v63 : BitVec 32 := Scalar.muli v9 c16_i32_42
  let v64 : BitVec 32 := Scalar.addi c0_i32_43 v63
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_44 : BitVec 32 := 4#32
  let v65 : BitVec 32 := Scalar.muli v5 c4_i32_44
  let v66 : BitVec 32 := Scalar.addi v64 v65
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_45 : BitVec 32 := 1#32
  let v67 : BitVec 32 := Scalar.muli v8 c1_i32_45
  let v68 : BitVec 32 := Scalar.addi v66 v67
  v68.toNat
def k1_dev7 (d0 : Dev nD) : Nat :=
  let c0_i32_55 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_54 : BitVec 32 := 16#32
  let v77 : BitVec 32 := Scalar.muli v9 c16_i32_54
  let v78 : BitVec 32 := Scalar.addi c0_i32_55 v77
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_56 : BitVec 32 := 4#32
  let v79 : BitVec 32 := Scalar.muli v5 c4_i32_56
  let v80 : BitVec 32 := Scalar.addi v78 v79
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_57 : BitVec 32 := 1#32
  let v81 : BitVec 32 := Scalar.muli v8 c1_i32_57
  let v82 : BitVec 32 := Scalar.addi v80 v81
  v82.toNat
def k1_dev8 (d0 : Dev nD) : Nat :=
  let c0_i32_67 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_66 : BitVec 32 := 16#32
  let v91 : BitVec 32 := Scalar.muli v9 c16_i32_66
  let v92 : BitVec 32 := Scalar.addi c0_i32_67 v91
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_68 : BitVec 32 := 4#32
  let v93 : BitVec 32 := Scalar.muli v5 c4_i32_68
  let v94 : BitVec 32 := Scalar.addi v92 v93
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_69 : BitVec 32 := 1#32
  let v95 : BitVec 32 := Scalar.muli v8 c1_i32_69
  let v96 : BitVec 32 := Scalar.addi v94 v95
  v96.toNat
def k1_dev9 (d0 : Dev nD) : Nat :=
  let c0_i32_79 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_78 : BitVec 32 := 16#32
  let v105 : BitVec 32 := Scalar.muli v9 c16_i32_78
  let v106 : BitVec 32 := Scalar.addi c0_i32_79 v105
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_80 : BitVec 32 := 4#32
  let v107 : BitVec 32 := Scalar.muli v5 c4_i32_80
  let v108 : BitVec 32 := Scalar.addi v106 v107
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_81 : BitVec 32 := 1#32
  let v109 : BitVec 32 := Scalar.muli v8 c1_i32_81
  let v110 : BitVec 32 := Scalar.addi v108 v109
  v110.toNat
def k1_off1 (i : grid1.Coords) : Fin 3 → Nat :=
  let arg0 : BitVec 32 := BitVec.ofNat 32 (i 0).val
  let v23 : Index := Scalar.indexCast arg0
  let c0_14 : Index := 0#32
  let c0_15 : Index := 0#32
  ![v23.toNat, 0, 0]
def k1_cond19 (i : grid1.Coords) : BitVec 1 :=
  let arg1 : BitVec 32 := BitVec.ofNat 32 (i 1).val
  let c7_i32 : BitVec 32 := 7#32
  let v42 : BitVec 1 := Scalar.cmpi .eq arg1 c7_i32
  let v43 : BitVec 32 := Scalar.extui v42
  let c0_i32_25 : BitVec 32 := 0#32
  let v44 : BitVec 1 := Scalar.cmpi .ne v43 c0_i32_25
  v44

def k1_cond20 (i : grid1.Coords) : BitVec 1 :=
  let arg0 : BitVec 32 := BitVec.ofNat 32 (i 0).val
  let c0_i32_28 : BitVec 32 := 0#32
  let v50 : BitVec 1 := Scalar.cmpi .eq arg0 c0_i32_28
  let v51 : BitVec 32 := Scalar.extui v50
  let c0_i32_29 : BitVec 32 := 0#32
  let v52 : BitVec 1 := Scalar.cmpi .ne v51 c0_i32_29
  v52

def k1_cond23 (d0 : Dev nD) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_49 : BitVec 32 := 0#32
  let v78 : BitVec 1 := Scalar.cmpi .eq v2 c0_i32_49
  let v79 : BitVec 32 := Scalar.extui v78
  let c0_i32_50 : BitVec 32 := 0#32
  let v80 : BitVec 1 := Scalar.cmpi .ne v79 c0_i32_50
  v80

def k1_dev10 (d0 : Dev nD) : Nat :=
  let c0_i32_58 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_57 : BitVec 32 := 16#32
  let v84 : BitVec 32 := Scalar.muli v9 c16_i32_57
  let v85 : BitVec 32 := Scalar.addi c0_i32_58 v84
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_59 : BitVec 32 := 4#32
  let v86 : BitVec 32 := Scalar.muli v5 c4_i32_59
  let v87 : BitVec 32 := Scalar.addi v85 v86
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_60 : BitVec 32 := 1#32
  let v88 : BitVec 32 := Scalar.muli v8 c1_i32_60
  let v89 : BitVec 32 := Scalar.addi v87 v88
  v89.toNat
def k1_cond24 (d0 : Dev nD) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_51 : BitVec 32 := 1#32
  let v81 : BitVec 1 := Scalar.cmpi .eq v2 c1_i32_51
  let v82 : BitVec 32 := Scalar.extui v81
  let c0_i32_52 : BitVec 32 := 0#32
  let v83 : BitVec 1 := Scalar.cmpi .ne v82 c0_i32_52
  v83

def k1_dev11 (d0 : Dev nD) : Nat :=
  let c0_i32_58 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_57 : BitVec 32 := 16#32
  let v84 : BitVec 32 := Scalar.muli v9 c16_i32_57
  let v85 : BitVec 32 := Scalar.addi c0_i32_58 v84
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_59 : BitVec 32 := 4#32
  let v86 : BitVec 32 := Scalar.muli v5 c4_i32_59
  let v87 : BitVec 32 := Scalar.addi v85 v86
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_60 : BitVec 32 := 1#32
  let v88 : BitVec 32 := Scalar.muli v8 c1_i32_60
  let v89 : BitVec 32 := Scalar.addi v87 v88
  v89.toNat
def k1_cond25 (i : grid1.Coords) : BitVec 1 :=
  let arg0 : BitVec 32 := BitVec.ofNat 32 (i 0).val
  let c1_i32_30 : BitVec 32 := 1#32
  let v53 : BitVec 1 := Scalar.cmpi .eq arg0 c1_i32_30
  let v54 : BitVec 32 := Scalar.extui v53
  let c0_i32_31 : BitVec 32 := 0#32
  let v55 : BitVec 1 := Scalar.cmpi .ne v54 c0_i32_31
  v55

def k1_cond28 (d0 : Dev nD) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_48 : BitVec 32 := 0#32
  let v78 : BitVec 1 := Scalar.cmpi .eq v2 c0_i32_48
  let v79 : BitVec 32 := Scalar.extui v78
  let c0_i32_49 : BitVec 32 := 0#32
  let v80 : BitVec 1 := Scalar.cmpi .ne v79 c0_i32_49
  v80

def k1_dev12 (d0 : Dev nD) : Nat :=
  let c0_i32_57 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_56 : BitVec 32 := 16#32
  let v84 : BitVec 32 := Scalar.muli v9 c16_i32_56
  let v85 : BitVec 32 := Scalar.addi c0_i32_57 v84
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_58 : BitVec 32 := 4#32
  let v86 : BitVec 32 := Scalar.muli v5 c4_i32_58
  let v87 : BitVec 32 := Scalar.addi v85 v86
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_59 : BitVec 32 := 1#32
  let v88 : BitVec 32 := Scalar.muli v8 c1_i32_59
  let v89 : BitVec 32 := Scalar.addi v87 v88
  v89.toNat
def k1_cond29 (d0 : Dev nD) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_50 : BitVec 32 := 1#32
  let v81 : BitVec 1 := Scalar.cmpi .eq v2 c1_i32_50
  let v82 : BitVec 32 := Scalar.extui v81
  let c0_i32_51 : BitVec 32 := 0#32
  let v83 : BitVec 1 := Scalar.cmpi .ne v82 c0_i32_51
  v83

def k1_dev13 (d0 : Dev nD) : Nat :=
  let c0_i32_56 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_55 : BitVec 32 := 16#32
  let v84 : BitVec 32 := Scalar.muli v9 c16_i32_55
  let v85 : BitVec 32 := Scalar.addi c0_i32_56 v84
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_57 : BitVec 32 := 4#32
  let v86 : BitVec 32 := Scalar.muli v5 c4_i32_57
  let v87 : BitVec 32 := Scalar.addi v85 v86
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v88 : BitVec 32 := Scalar.muli v8 c1_i32_58
  let v89 : BitVec 32 := Scalar.addi v87 v88
  v89.toNat
def k1_cond30 (i : grid1.Coords) : BitVec 1 :=
  let arg0 : BitVec 32 := BitVec.ofNat 32 (i 0).val
  let c2_i32_32 : BitVec 32 := 2#32
  let v56 : BitVec 1 := Scalar.cmpi .eq arg0 c2_i32_32
  let v57 : BitVec 32 := Scalar.extui v56
  let c0_i32_33 : BitVec 32 := 0#32
  let v58 : BitVec 1 := Scalar.cmpi .ne v57 c0_i32_33
  v58

def k1_cond35 (d0 : Dev nD) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_53 : BitVec 32 := 0#32
  let v84 : BitVec 1 := Scalar.cmpi .eq v2 c0_i32_53
  let v85 : BitVec 32 := Scalar.extui v84
  let c0_i32_54 : BitVec 32 := 0#32
  let v86 : BitVec 1 := Scalar.cmpi .ne v85 c0_i32_54
  v86

def k1_dev14 (d0 : Dev nD) : Nat :=
  let c0_i32_62 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_61 : BitVec 32 := 16#32
  let v90 : BitVec 32 := Scalar.muli v9 c16_i32_61
  let v91 : BitVec 32 := Scalar.addi c0_i32_62 v90
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_63 : BitVec 32 := 4#32
  let v92 : BitVec 32 := Scalar.muli v5 c4_i32_63
  let v93 : BitVec 32 := Scalar.addi v91 v92
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_64 : BitVec 32 := 1#32
  let v94 : BitVec 32 := Scalar.muli v8 c1_i32_64
  let v95 : BitVec 32 := Scalar.addi v93 v94
  v95.toNat
def k1_cond36 (d0 : Dev nD) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_55 : BitVec 32 := 1#32
  let v87 : BitVec 1 := Scalar.cmpi .eq v2 c1_i32_55
  let v88 : BitVec 32 := Scalar.extui v87
  let c0_i32_56 : BitVec 32 := 0#32
  let v89 : BitVec 1 := Scalar.cmpi .ne v88 c0_i32_56
  v89

def k1_dev15 (d0 : Dev nD) : Nat :=
  let c0_i32_61 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_60 : BitVec 32 := 16#32
  let v90 : BitVec 32 := Scalar.muli v9 c16_i32_60
  let v91 : BitVec 32 := Scalar.addi c0_i32_61 v90
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_62 : BitVec 32 := 4#32
  let v92 : BitVec 32 := Scalar.muli v5 c4_i32_62
  let v93 : BitVec 32 := Scalar.addi v91 v92
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_63 : BitVec 32 := 1#32
  let v94 : BitVec 32 := Scalar.muli v8 c1_i32_63
  let v95 : BitVec 32 := Scalar.addi v93 v94
  v95.toNat
def k1_cond37 (i : grid1.Coords) : BitVec 1 :=
  let arg0 : BitVec 32 := BitVec.ofNat 32 (i 0).val
  let c3_i32_34 : BitVec 32 := 3#32
  let v59 : BitVec 1 := Scalar.cmpi .eq arg0 c3_i32_34
  let v60 : BitVec 32 := Scalar.extui v59
  let c0_i32_35 : BitVec 32 := 0#32
  let v61 : BitVec 1 := Scalar.cmpi .ne v60 c0_i32_35
  v61

def k1_cond42 (d0 : Dev nD) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_52 : BitVec 32 := 0#32
  let v84 : BitVec 1 := Scalar.cmpi .eq v2 c0_i32_52
  let v85 : BitVec 32 := Scalar.extui v84
  let c0_i32_53 : BitVec 32 := 0#32
  let v86 : BitVec 1 := Scalar.cmpi .ne v85 c0_i32_53
  v86

def k1_dev16 (d0 : Dev nD) : Nat :=
  let c0_i32_61 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_60 : BitVec 32 := 16#32
  let v90 : BitVec 32 := Scalar.muli v9 c16_i32_60
  let v91 : BitVec 32 := Scalar.addi c0_i32_61 v90
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_62 : BitVec 32 := 4#32
  let v92 : BitVec 32 := Scalar.muli v5 c4_i32_62
  let v93 : BitVec 32 := Scalar.addi v91 v92
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_63 : BitVec 32 := 1#32
  let v94 : BitVec 32 := Scalar.muli v8 c1_i32_63
  let v95 : BitVec 32 := Scalar.addi v93 v94
  v95.toNat
def k1_cond43 (d0 : Dev nD) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_54 : BitVec 32 := 1#32
  let v87 : BitVec 1 := Scalar.cmpi .eq v2 c1_i32_54
  let v88 : BitVec 32 := Scalar.extui v87
  let c0_i32_55 : BitVec 32 := 0#32
  let v89 : BitVec 1 := Scalar.cmpi .ne v88 c0_i32_55
  v89

def k1_dev17 (d0 : Dev nD) : Nat :=
  let c0_i32_61 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_60 : BitVec 32 := 16#32
  let v90 : BitVec 32 := Scalar.muli v9 c16_i32_60
  let v91 : BitVec 32 := Scalar.addi c0_i32_61 v90
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_62 : BitVec 32 := 4#32
  let v92 : BitVec 32 := Scalar.muli v5 c4_i32_62
  let v93 : BitVec 32 := Scalar.addi v91 v92
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_63 : BitVec 32 := 1#32
  let v94 : BitVec 32 := Scalar.muli v8 c1_i32_63
  let v95 : BitVec 32 := Scalar.addi v93 v94
  v95.toNat
def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x2048x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x512x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev grid2 : Pipeline.Grid := ⟨1, ![8], ![false]⟩

def k2_off1 (i : grid2.Coords) : Fin 2 → Nat :=
  let arg0 : BitVec 32 := BitVec.ofNat 32 (i 0).val
  let v0 : Index := Scalar.indexCast arg0
  let c0 : Index := 0#32
  ![v0.toNat, 0]
def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 1 → Memref sig .tc .vmem S8x512 .i32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S8x576x2048 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S512x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]
-- ==== ReferenceIdeal.lean ====
abbrev S8192x2048 : Shape := ⟨2, ![8192, 2048]⟩
abbrev S8192 : Shape := ⟨1, ![8192]⟩
abbrev S8x2048x4096 : Shape := ⟨3, ![8, 2048, 4096]⟩
abbrev S8x4096x2048 : Shape := ⟨3, ![8, 4096, 2048]⟩
abbrev S_ : Shape := ⟨0, ![]⟩
abbrev S1x2048x4096 : Shape := ⟨3, ![1, 2048, 4096]⟩
abbrev S2048x4096 : Shape := ⟨2, ![2048, 4096]⟩
abbrev S1x4096x2048 : Shape := ⟨3, ![1, 4096, 2048]⟩
abbrev S4096x2048 : Shape := ⟨2, ![4096, 2048]⟩
abbrev S8192x4096 : Shape := ⟨2, ![8192, 4096]⟩
abbrev S8192x1 : Shape := ⟨2, ![8192, 1]⟩

abbrev nBuf : Space → Nat
  | .hbm => 143
  | .vmem => 0
  | .smem => 0
  | _ => 0

abbrev hbmTy0_0 (i : Nat) : BufTy := match i % 128 with
  | 0 => ⟨S8192x2048, .bf16⟩
  | 1 => ⟨S8192, .i32⟩
  | 2 => ⟨S8x2048x4096, .bf16⟩
  | 3 => ⟨S8x4096x2048, .bf16⟩
  | 4 => ⟨S_, .f32⟩
  | 5 => ⟨S8192x2048, .f32⟩
  | 6 => ⟨S8192x2048, .f32⟩
  | 7 => ⟨S1x2048x4096, .bf16⟩
  | 8 => ⟨S2048x4096, .bf16⟩
  | 9 => ⟨S2048x4096, .f32⟩
  | 10 => ⟨S1x4096x2048, .bf16⟩
  | 11 => ⟨S4096x2048, .bf16⟩
  | 12 => ⟨S4096x2048, .f32⟩
  | 13 => ⟨S8192x4096, .f32⟩
  | 14 => ⟨S_, .f32⟩
  | 15 => ⟨S8192x4096, .f32⟩
  | 16 => ⟨S8192x4096, .f32⟩
  | 17 => ⟨S_, .i32⟩
  | 18 => ⟨S8192, .i32⟩
  | 19 => ⟨S8192, .i1⟩
  | 20 => ⟨S8192x1, .i1⟩
  | 21 => ⟨S8192x2048, .f32⟩
  | 22 => ⟨S8192x2048, .i1⟩
  | 23 => ⟨S8192x2048, .f32⟩
  | 24 => ⟨S1x2048x4096, .bf16⟩
  | 25 => ⟨S2048x4096, .bf16⟩
  | 26 => ⟨S2048x4096, .f32⟩
  | 27 => ⟨S1x4096x2048, .bf16⟩
  | 28 => ⟨S4096x2048, .bf16⟩
  | 29 => ⟨S4096x2048, .f32⟩
  | 30 => ⟨S8192x4096, .f32⟩
  | 31 => ⟨S_, .f32⟩
  | 32 => ⟨S8192x4096, .f32⟩
  | 33 => ⟨S8192x4096, .f32⟩
  | 34 => ⟨S_, .i32⟩
  | 35 => ⟨S8192, .i32⟩
  | 36 => ⟨S8192, .i1⟩
  | 37 => ⟨S8192x1, .i1⟩
  | 38 => ⟨S8192x2048, .f32⟩
  | 39 => ⟨S8192x2048, .i1⟩
  | 40 => ⟨S8192x2048, .f32⟩
  | 41 => ⟨S1x2048x4096, .bf16⟩
  | 42 => ⟨S2048x4096, .bf16⟩
  | 43 => ⟨S2048x4096, .f32⟩
  | 44 => ⟨S1x4096x2048, .bf16⟩
  | 45 => ⟨S4096x2048, .bf16⟩
  | 46 => ⟨S4096x2048, .f32⟩
  | 47 => ⟨S8192x4096, .f32⟩
  | 48 => ⟨S_, .f32⟩
  | 49 => ⟨S8192x4096, .f32⟩
  | 50 => ⟨S8192x4096, .f32⟩
  | 51 => ⟨S_, .i32⟩
  | 52 => ⟨S8192, .i32⟩
  | 53 => ⟨S8192, .i1⟩
  | 54 => ⟨S8192x1, .i1⟩
  | 55 => ⟨S8192x2048, .f32⟩
  | 56 => ⟨S8192x2048, .i1⟩
  | 57 => ⟨S8192x2048, .f32⟩
  | 58 => ⟨S1x2048x4096, .bf16⟩
  | 59 => ⟨S2048x4096, .bf16⟩
  | 60 => ⟨S2048x4096, .f32⟩
  | 61 => ⟨S1x4096x2048, .bf16⟩
  | 62 => ⟨S4096x2048, .bf16⟩
  | 63 => ⟨S4096x2048, .f32⟩
  | 64 => ⟨S8192x4096, .f32⟩
  | 65 => ⟨S_, .f32⟩
  | 66 => ⟨S8192x4096, .f32⟩
  | 67 => ⟨S8192x4096, .f32⟩
  | 68 => ⟨S_, .i32⟩
  | 69 => ⟨S8192, .i32⟩
  | 70 => ⟨S8192, .i1⟩
  | 71 => ⟨S8192x1, .i1⟩
  | 72 => ⟨S8192x2048, .f32⟩
  | 73 => ⟨S8192x2048, .i1⟩
  | 74 => ⟨S8192x2048, .f32⟩
  | 75 => ⟨S1x2048x4096, .bf16⟩
  | 76 => ⟨S2048x4096, .bf16⟩
  | 77 => ⟨S2048x4096, .f32⟩
  | 78 => ⟨S1x4096x2048, .bf16⟩
  | 79 => ⟨S4096x2048, .bf16⟩
  | 80 => ⟨S4096x2048, .f32⟩
  | 81 => ⟨S8192x4096, .f32⟩
  | 82 => ⟨S_, .f32⟩
  | 83 => ⟨S8192x4096, .f32⟩
  | 84 => ⟨S8192x4096, .f32⟩
  | 85 => ⟨S_, .i32⟩
  | 86 => ⟨S8192, .i32⟩
  | 87 => ⟨S8192, .i1⟩
  | 88 => ⟨S8192x1, .i1⟩
  | 89 => ⟨S8192x2048, .f32⟩
  | 90 => ⟨S8192x2048, .i1⟩
  | 91 => ⟨S8192x2048, .f32⟩
  | 92 => ⟨S1x2048x4096, .bf16⟩
  | 93 => ⟨S2048x4096, .bf16⟩
  | 94 => ⟨S2048x4096, .f32⟩
  | 95 => ⟨S1x4096x2048, .bf16⟩
  | 96 => ⟨S4096x2048, .bf16⟩
  | 97 => ⟨S4096x2048, .f32⟩
  | 98 => ⟨S8192x4096, .f32⟩
  | 99 => ⟨S_, .f32⟩
  | 100 => ⟨S8192x4096, .f32⟩
  | 101 => ⟨S8192x4096, .f32⟩
  | 102 => ⟨S_, .i32⟩
  | 103 => ⟨S8192, .i32⟩
  | 104 => ⟨S8192, .i1⟩
  | 105 => ⟨S8192x1, .i1⟩
  | 106 => ⟨S8192x2048, .f32⟩
  | 107 => ⟨S8192x2048, .i1⟩
  | 108 => ⟨S8192x2048, .f32⟩
  | 109 => ⟨S1x2048x4096, .bf16⟩
  | 110 => ⟨S2048x4096, .bf16⟩
  | 111 => ⟨S2048x4096, .f32⟩
  | 112 => ⟨S1x4096x2048, .bf16⟩
  | 113 => ⟨S4096x2048, .bf16⟩
  | 114 => ⟨S4096x2048, .f32⟩
  | 115 => ⟨S8192x4096, .f32⟩
  | 116 => ⟨S_, .f32⟩
  | 117 => ⟨S8192x4096, .f32⟩
  | 118 => ⟨S8192x4096, .f32⟩
  | 119 => ⟨S_, .i32⟩
  | 120 => ⟨S8192, .i32⟩
  | 121 => ⟨S8192, .i1⟩
  | 122 => ⟨S8192x1, .i1⟩
  | 123 => ⟨S8192x2048, .f32⟩
  | 124 => ⟨S8192x2048, .i1⟩
  | 125 => ⟨S8192x2048, .f32⟩
  | 126 => ⟨S1x2048x4096, .bf16⟩
  | 127 => ⟨S2048x4096, .bf16⟩
  | _ => ⟨S8192x2048, .bf16⟩

abbrev hbmTy0_1 (i : Nat) : BufTy := match i % 128 with
  | 0 => ⟨S2048x4096, .f32⟩
  | 1 => ⟨S1x4096x2048, .bf16⟩
  | 2 => ⟨S4096x2048, .bf16⟩
  | 3 => ⟨S4096x2048, .f32⟩
  | 4 => ⟨S8192x4096, .f32⟩
  | 5 => ⟨S_, .f32⟩
  | 6 => ⟨S8192x4096, .f32⟩
  | 7 => ⟨S8192x4096, .f32⟩
  | 8 => ⟨S_, .i32⟩
  | 9 => ⟨S8192, .i32⟩
  | 10 => ⟨S8192, .i1⟩
  | 11 => ⟨S8192x1, .i1⟩
  | 12 => ⟨S8192x2048, .f32⟩
  | 13 => ⟨S8192x2048, .i1⟩
  | 14 => ⟨S8192x2048, .f32⟩
  | _ => ⟨S8192x2048, .bf16⟩

abbrev hbmTy (i : Nat) : BufTy := match i / 128 with
  | 0 => hbmTy0_0 i
  | 1 => hbmTy0_1 i
  | _ => ⟨S8192x2048, .bf16⟩

abbrev bufTy : (tb : Table) → Fin (tcTables nBuf tb) → BufTy
  | .hbm, ⟨i, _⟩ => hbmTy i
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_c : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call0_v0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_1 : Ref sig .tc := ⟨.hbm, 31, rfl⟩
abbrev main_v23 : Ref sig .tc := ⟨.hbm, 32, rfl⟩
abbrev main_v24 : Ref sig .tc := ⟨.hbm, 33, rfl⟩
abbrev main_c_2 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_call1_v0 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_3 : Ref sig .tc := ⟨.hbm, 48, rfl⟩
abbrev main_v37 : Ref sig .tc := ⟨.hbm, 49, rfl⟩
abbrev main_v38 : Ref sig .tc := ⟨.hbm, 50, rfl⟩
abbrev main_c_4 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_call2_v0 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_5 : Ref sig .tc := ⟨.hbm, 65, rfl⟩
abbrev main_v51 : Ref sig .tc := ⟨.hbm, 66, rfl⟩
abbrev main_v52 : Ref sig .tc := ⟨.hbm, 67, rfl⟩
abbrev main_c_6 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_call3_v0 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_cst_7 : Ref sig .tc := ⟨.hbm, 82, rfl⟩
abbrev main_v65 : Ref sig .tc := ⟨.hbm, 83, rfl⟩
abbrev main_v66 : Ref sig .tc := ⟨.hbm, 84, rfl⟩
abbrev main_c_8 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_call4_v0 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_cst_9 : Ref sig .tc := ⟨.hbm, 99, rfl⟩
abbrev main_v79 : Ref sig .tc := ⟨.hbm, 100, rfl⟩
abbrev main_v80 : Ref sig .tc := ⟨.hbm, 101, rfl⟩
abbrev main_c_10 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_call5_v0 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_cst_11 : Ref sig .tc := ⟨.hbm, 116, rfl⟩
abbrev main_v93 : Ref sig .tc := ⟨.hbm, 117, rfl⟩
abbrev main_v94 : Ref sig .tc := ⟨.hbm, 118, rfl⟩
abbrev main_c_12 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_call6_v0 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_cst_13 : Ref sig .tc := ⟨.hbm, 133, rfl⟩
abbrev main_v107 : Ref sig .tc := ⟨.hbm, 134, rfl⟩
abbrev main_v108 : Ref sig .tc := ⟨.hbm, 135, rfl⟩
abbrev main_c_14 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_call7_v0 : Ref sig .tc := ⟨.hbm, 141, rfl⟩
abbrev main_v113 : Ref sig .tc := ⟨.hbm, 142, rfl⟩

abbrev nD : Nat := 1
abbrev τ : Topo := Topo.v7x

variable {F : FTy → Type} [FloatOps F]
-- ==== Proof.Schedule.lean ====
/-
  The exchange of `_moe_body`, written down before any step of it is run.

  Device `c` and its partner `peer c` differ only in the mesh coordinate "x".  Each holds, for eight experts, the packed rows of
  its own tokens; the experts `lo c jj` (jj = 0..3) are its own, the experts `ro c jj` its partner's.

    * barrier: one unit from the partner.  The partner hands over its receive buffer, its own part of its result, and the
      knowledge that its receive counters are open.
    * dispatch, per jj: the rows `ro c jj` are copied into slot jj of the partner's receive buffer.
    * combine, per jj: the rows computed for the partner are copied into the partner's result.

  Every receive counter is credited once, so each counter has one round, and the payload of that round says what arrived.
-/
module

public import proofs.«01_k».proof.Proof.Gen.KernelIdeal.Regions
public import proofs.«01_k».proof.Proof.Gen.KernelIdeal.Points
public import proofs.«01_k».proof.Proof.Gen.KernelIdeal.Skeleton
public import Idealize.ShloMosaic.Lib.Pipeline.RegionTalk
public import Idealize.ShloMosaic.Lib.Pipeline.FrameBody
public import Idealize.ShloMosaic.Lib.Ring
public import Idealize.ShloMosaic.Lib.Tactic
public import Idealize.ShloMosaic.Lib.WordCmp
public import Idealize.ShloMosaic.Lib.Rounds.Family
public import Idealize.ShloMosaic.Lib.Transfers

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The algebra: the pipeline's rounds, the exchange's rounds, the local copies' counters -/

abbrev UX : Type := URounds (GSem nD τ sig) Unit
abbrev UU : Type := UR sig nD τ × (UX × Counters)

local notation "𝕄" => MT nD τ sig Unit (Elt F) ℕ UU ℕ

abbrev EP : Emb (UR sig nD τ) (MT nD τ sig Unit (Elt F) ℕ UU ℕ) := embL
/-- The exchange's rounds: the left half of the right factor. -/
def ER : Emb UX (MT nD τ sig Unit (Elt F) ℕ UU ℕ) :=
  ((Emb.inl : Emb UX (UX × Counters)).trans (Emb.inr : Emb (UX × Counters) UU)).trans
    (uEmb (nD := nD) (τ := τ) (sig := sig) (Ix := Unit) (Val := Elt F) (Name := ℕ) (U := UU) (Lvl := ℕ)).toEmb
instance ER_landsIn : (ER : Emb UX 𝕄).LandsIn (upEmb : UEmb _ 𝕄) := by unfold ER; infer_instance
abbrev EC : UEmb Counters (MT nD τ sig Unit (Elt F) ℕ UU ℕ) := countersEmb

/-! ## Devices -/

/-- The device with the other mesh coordinate "x". -/
def peer (c : Dev nD) : Dev nD := ⟨(c.val + 16) % 32, Nat.mod_lt _ (by decide)⟩
theorem peer_peer (c : Dev nD) : peer (peer c) = c := by revert c; decide
def swap : Dev nD ≃ Dev nD := ⟨peer, peer, peer_peer, peer_peer⟩

/-- The mesh coordinate "x". -/
def xOf (c : Dev nD) : Fin 2 := ⟨c.val / 16, by have : c.val < 32 := c.isLt; omega⟩
theorem xOf_peer (c : Dev nD) : xOf (peer c) = 1 - xOf c := by revert c; decide

/-- Slot `jj` of group `x`, as one of the eight experts. -/
def slotOf (x : Fin 2) (jj : Fin 4) : Fin 8 := ⟨4 * x.val + jj.val, by omega⟩
/-- The experts device `c` computes, -/
def lo (c : Dev nD) (jj : Fin 4) : Fin 8 := slotOf (xOf c) jj
/-- and those its partner computes. -/
def ro (c : Dev nD) (jj : Fin 4) : Fin 8 := slotOf (1 - xOf c) jj
theorem ro_peer (c : Dev nD) (jj : Fin 4) : ro (peer c) jj = lo c jj := by
  unfold ro lo; rw [xOf_peer]; congr 1; revert c; decide
theorem lo_peer (c : Dev nD) (jj : Fin 4) : lo (peer c) jj = ro c jj := by
  unfold ro lo; rw [xOf_peer]

/-! ## Slices -/

abbrev xpM : Memref sig .tc .hbm S8x576x2048 .bf16 := Memref.whole main_v19
abbrev outM : Memref sig .tc .hbm S8x576x2048 .bf16 := Memref.whole main_v20
abbrev recvM : Memref sig .tc .vmem S4x576x2048 .bf16 := Memref.whole cc1_scratch0
abbrev xlM : Memref sig .tc .vmem S576x2048 .bf16 := Memref.whole cc1_scratch1
abbrev ystM : Memref sig .tc .vmem S576x2048 .bf16 := Memref.whole cc1_scratch2
abbrev sendM : Memref sig .tc .vmem S2x576x2048 .bf16 := Memref.whole cc1_scratch3
abbrev accLM : Memref sig .tc .vmem S576x2048 .f32 := Memref.whole cc1_scratch4
abbrev accRM : Memref sig .tc .vmem S576x2048 .f32 := Memref.whole cc1_scratch5

theorem inb8 (e : Fin 8) : ∀ a, (![e.val, 0, 0] : Fin 3 → Nat) a + S1x576x2048.size a ≤ S8x576x2048.size a := by
  revert e; decide
theorem inb4 (e : Fin 4) : ∀ a, (![e.val, 0, 0] : Fin 3 → Nat) a + S1x576x2048.size a ≤ S4x576x2048.size a := by
  revert e; decide
theorem inb2 (e : Fin 2) : ∀ a, (![e.val, 0, 0] : Fin 3 → Nat) a + S1x576x2048.size a ≤ S2x576x2048.size a := by
  revert e; decide

/-- Row block `e` of a packed array of eight, of the receive buffer, and of the send buffer. -/
abbrev r8 (e : Fin 8) : Rect S8x576x2048 := Rect.unit (s := S8x576x2048) ![e.val, 0, 0] S1x576x2048.size (inb8 e)
abbrev r4 (e : Fin 4) : Rect S4x576x2048 := Rect.unit (s := S4x576x2048) ![e.val, 0, 0] S1x576x2048.size (inb4 e)
abbrev r2 (e : Fin 2) : Rect S2x576x2048 := Rect.unit (s := S2x576x2048) ![e.val, 0, 0] S1x576x2048.size (inb2 e)
abbrev xpSl (e : Fin 8) : Memref sig .tc .hbm S576x2048 .bf16 :=
  (xpM.slice (r8 e) (fun _ => rfl)).squeeze S576x2048 squeezes_S1x576x2048_S576x2048
abbrev outSl (e : Fin 8) : Memref sig .tc .hbm S576x2048 .bf16 :=
  (outM.slice (r8 e) (fun _ => rfl)).squeeze S576x2048 squeezes_S1x576x2048_S576x2048
abbrev recvSl (e : Fin 4) : Memref sig .tc .vmem S576x2048 .bf16 :=
  (recvM.slice (r4 e) (fun _ => rfl)).squeeze S576x2048 squeezes_S1x576x2048_S576x2048
abbrev sendSl (e : Fin 2) : Memref sig .tc .vmem S576x2048 .bf16 :=
  (sendM.slice (r2 e) (fun _ => rfl)).squeeze S576x2048 squeezes_S1x576x2048_S576x2048

/-! ## Counters -/

/-- The four families of four counters: 0 dispatch sent, 1 dispatch arrived, 2 combine sent, 3 combine arrived. -/
abbrev dsem (k jj : Fin 4) : DmaSem sig := ⟨8 + 4 * k.val + jj.val, by show _ < 30; omega⟩
abbrev lxS : DmaSem sig := ⟨24, by decide⟩
abbrev loS : DmaSem sig := ⟨25, by decide⟩
abbrev barS : Sem sig := (SemArray.scalar (sig.barrier 0 rfl) : Sems sig S_).sem
abbrev barCell (c : Dev nD) : GSem nD τ sig := ((c : Thread nD τ), .reg barS)
abbrev dcell (c : Dev nD) (k jj : Fin 4) : GSem nD τ sig := ((c : Thread nD τ), .dma (dsem k jj))

/-- One copy of a 576 x 2048 block, in units of a counter: the same for every block copied here. -/
abbrev N : ℕ := (recvSl 0).view.dmaCredit
theorem N_pos : 0 < N := View.dmaCredit_pos _ (by decide)

/-! ## Contents -/

/-- A 576 x 2048 block of halves. -/
abbrev Blk (F : FTy → Type) : Type := S576x2048.Idx → Elt F .bf16

variable (m : (ℓ : Loc nD τ sig) → Buf (Elt F) ℓ)

/-- The packed rows of expert `e` on device `c`. -/
def Xs (c : Dev nD) (e : Fin 8) : Blk F := (xpSl e).view.read (Elt F) (m ((c : Thread nD τ).loc main_v19))
/-- The rows device `c` computes at its expert `jj`: its own, and those its partner sends. -/
def XL (c : Dev nD) (jj : Fin 4) : Blk F := Xs m c (lo c jj)
def XR (c : Dev nD) (jj : Fin 4) : Blk F := Xs m (peer c) (lo c jj)

/-- Point number `t`, as a point of the grid. -/
def pt (t : ℕ) : Fin cfg1.N := ⟨t % 32, lt_of_lt_of_eq (Nat.mod_lt _ (by decide)) N_1.symm⟩
theorem pt_val (t : Fin cfg1.N) : pt t.val = t := Fin.ext (Nat.mod_eq_of_lt (lt_of_lt_of_eq t.isLt N_1))
/-- The expert of point number `t`. -/
def jOf (t : ℕ) : Fin 4 := ⟨t / 8 % 4, Nat.mod_lt _ (by decide)⟩

/-- Window `w`'s block at point `t`. -/
def iblk (c : Dev nD) (w : Fin cfg1.W) (t : Fin cfg1.N) : ((cfg1.win w).xblock (cfg1.grid.coords t)).Idx → Elt F (cfg1.win w).elt :=
  ((cfg1.win w).blk t).view.read (Elt F) (m ((c : Thread nD τ).loc (Pipeline.arrRef spec1 w)))

/-- The two weight blocks staged at point `t`. -/
def wA (c : Dev nD) (t : Fin cfg1.N) : Vec F S1x2048x512 .bf16 := iblk m c 0 t
def wB (c : Dev nD) (t : Fin cfg1.N) : Vec F S1x512x2048 .bf16 := iblk m c 1 t

/-- One block of hidden features: the first of an expert, and a later one added to what is accumulated. -/
def acc0 (wa : Vec F S1x2048x512 .bf16) (wb : Vec F S1x512x2048 .bf16) (x : Blk F) : Vec F S576x2048 .f32 :=
  k1_pay4 (k1_pay15 wa) (k1_pay16 wb) x
def accS (wa : Vec F S1x2048x512 .bf16) (wb : Vec F S1x512x2048 .bf16) (x : Blk F) (a : Vec F S576x2048 .f32) : Vec F S576x2048 .f32 :=
  k1_pay6 (k1_pay15 wa) (k1_pay16 wb) x a
/-- The accumulator after point `t`, over the rows `x`. -/
def acc (c : Dev nD) (x : Fin 4 → Blk F) : ℕ → Vec F S576x2048 .f32
  | 0 => acc0 (wA m c (pt 0)) (wB m c (pt 0)) (x (jOf 0))
  | t + 1 => if (t + 1) % 8 = 0 then acc0 (wA m c (pt (t + 1))) (wB m c (pt (t + 1))) (x (jOf (t + 1)))
      else accS (wA m c (pt (t + 1))) (wB m c (pt (t + 1))) (x (jOf (t + 1))) (acc c x t)
theorem acc_first (c : Dev nD) (x : Fin 4 → Blk F) (t : ℕ) (h : t % 8 = 0) :
    acc m c x t = acc0 (wA m c (pt t)) (wB m c (pt t)) (x (jOf t)) := by
  cases t with
  | zero => rfl
  | succ t => rw [acc, if_pos h]
theorem acc_later (c : Dev nD) (x : Fin 4 → Blk F) (t : ℕ) (h : t % 8 ≠ 0) :
    acc m c x t = accS (wA m c (pt t)) (wB m c (pt t)) (x (jOf t)) (acc m c x (t - 1)) := by
  cases t with
  | zero => exact absurd rfl h
  | succ t => rw [acc, if_neg h]; rfl
/-- What device `c` computes at its expert `jj` over the rows `x`. -/
def Y (c : Dev nD) (x : Fin 4 → Blk F) (jj : Fin 4) : Blk F := k1_pay7 (acc m c x (8 * jj.val + 7))
/-- For itself, and for its partner. -/
def YL (c : Dev nD) (jj : Fin 4) : Blk F := Y m c (XL m c) jj
def YR (c : Dev nD) (jj : Fin 4) : Blk F := Y m c (XR m c) jj

/-- A memref's elements held, whatever they are. -/
abbrev any (c : Dev nD) {sp : Space} {s : Shape} {e : EltTy} (M : Memref sig .tc sp s e) : sProp 𝕄 :=
  iprop(∃ X, owns (c : Thread nD τ) M fullShare X)
/-- A memref's elements held at `X`. -/
abbrev at' (c : Dev nD) {sp : Space} {s : Shape} {e : EltTy} (M : Memref sig .tc sp s e) (X : s.Idx → Elt F e) : sProp 𝕄 :=
  owns (c : Thread nD τ) M fullShare X

/-! ## The schedule -/

/-- What the partner hands device `c` with its barrier unit. -/
def barPay (c : Dev nD) : sProp 𝕄 :=
  iprop((bigSep Finset.univ fun jj : Fin 4 => any (F := F) (peer c) (recvSl jj))
    ∗ (bigSep Finset.univ fun jj : Fin 4 => any (F := F) (peer c) (outSl (lo c jj)))
    ∗ (bigSep Finset.univ fun jj : Fin 4 => reached (ER (F := F)) (dcell (peer c) 1 jj) 0)
    ∗ (bigSep Finset.univ fun jj : Fin 4 => reached (ER (F := F)) (dcell (peer c) 3 jj) 0))
/-- What a copy hands over at its counter on device `c`. -/
def dmaPay (c : Dev nD) (k jj : Fin 4) : sProp 𝕄 :=
  match k with
  | 0 => at' c (xpSl (ro c jj)) (Xs m c (ro c jj))
  | 1 => at' c (recvSl jj) (XR m c jj)
  | 2 => any c (sendSl ⟨jj.val % 2, Nat.mod_lt _ (by decide)⟩)
  | 3 => at' c (outSl (ro c jj)) (YR m (peer c) jj)

instance barPay_storable (c : Dev nD) : BI.Storable (upEmb : UEmb _ 𝕄) (barPay (F := F) c) := by unfold barPay; infer_instance
instance dmaPay_storable (c : Dev nD) (k jj : Fin 4) : BI.Storable (upEmb : UEmb _ 𝕄) (dmaPay m c k jj) := by
  unfold dmaPay; split <;> infer_instance

/-- The family and member of a transfer's counter. -/
def famOf (s : DmaSem sig) : Fin 4 × Fin 4 := (⟨(s.val - 8) / 4 % 4, Nat.mod_lt _ (by decide)⟩, ⟨(s.val - 8) % 4, Nat.mod_lt _ (by decide)⟩)
theorem famOf_dsem (k jj : Fin 4) : famOf (dsem k jj) = (k, jj) := by revert k jj; decide

/-- The counters of the exchange. -/
def IsX (sm : SemLoc sig) : Prop := match sm with
  | .reg _ => True
  | .dma s => ∃ k jj : Fin 4, s = dsem k jj

/-- One round at every counter of the exchange, with one payment. -/
def Rd : Rounds.Schedule (GSem nD τ sig) Unit 𝕄 where
  duties g r := open Classical in if r = 0 ∧ g.1.2 = .tc ∧ IsX g.2 then {()} else ∅
  unitless _ := False
  amount g _ _ := match g.2 with
    | .reg _ => 1
    | .dma _ => N
  payload g _ _ := match g.2 with
    | .reg _ => barPay g.1.1
    | .dma s => dmaPay m g.1.1 (famOf s).1 (famOf s).2
  amount_pos g _ _ _ := by
    rcases g with ⟨c, _ | _⟩
    · exact Nat.one_pos
    · exact N_pos

instance Rd_payload_storable (g : GSem nD τ sig) (r : ℕ) (d : Unit) :
    BI.Storable (upEmb : UEmb _ 𝕄) ((Rd (F := F) m).payload g r d) := by
  rcases g with ⟨c, _ | s⟩
  · exact barPay_storable c.1
  · exact dmaPay_storable m c.1 (famOf s).1 (famOf s).2

section Tables

variable (c : Dev nD) (k jj : Fin 4)

theorem duties_bar : (Rd (F := F) m).duties (barCell c) 0 = {()} := by dsimp only [Rd]; exact if_pos ⟨rfl, rfl, trivial⟩
theorem duties_dma : (Rd (F := F) m).duties (dcell c k jj) 0 = {()} := by dsimp only [Rd]; exact if_pos ⟨rfl, rfl, k, jj, rfl⟩
theorem mem_bar : () ∈ (Rd (F := F) m).duties (barCell c) 0 := by rw [duties_bar]; exact Finset.mem_singleton_self _
theorem mem_dma : () ∈ (Rd (F := F) m).duties (dcell c k jj) 0 := by rw [duties_dma]; exact Finset.mem_singleton_self _
theorem duties_later (g : GSem nD τ sig) : ∀ r, 1 ≤ r → (Rd (F := F) m).duties g r = ∅ :=
  fun r hr => by dsimp only [Rd]; exact if_neg fun h => by omega
theorem amount_bar (u : Unit) : (Rd (F := F) m).amount (barCell c) 0 u = 1 := rfl
theorem amount_dma (u : Unit) : (Rd (F := F) m).amount (dcell c k jj) 0 u = N := rfl
theorem expect_bar : (Rd (F := F) m).expect (barCell c) 0 = 1 := by
  unfold Schedule.expect Schedule.amountOf; rw [duties_bar, Finset.sum_singleton, amount_bar]
theorem expect_dma : (Rd (F := F) m).expect (dcell c k jj) 0 = N := by
  unfold Schedule.expect Schedule.amountOf; rw [duties_dma, Finset.sum_singleton, amount_dma]
theorem payload_bar (u : Unit) : (Rd (F := F) m).payload (barCell c) 0 u = barPay c := rfl
theorem payload_dma (u : Unit) : (Rd (F := F) m).payload (dcell c k jj) 0 u = dmaPay m c k jj := by
  show dmaPay m c (famOf (dsem k jj)).1 (famOf (dsem k jj)).2 = _; rw [famOf_dsem]
theorem rest_bar : bigSep ((Rd (F := F) m).duties (barCell c) 0 \ ∅) (fun u => (Rd (F := F) m).payload (barCell c) 0 u) = barPay c := by
  rw [Finset.sdiff_empty, duties_bar, bigSep_singleton, payload_bar]
theorem rest_dma : bigSep ((Rd (F := F) m).duties (dcell c k jj) 0 \ ∅) (fun u => (Rd (F := F) m).payload (dcell c k jj) 0 u) = dmaPay m c k jj := by
  rw [Finset.sdiff_empty, duties_dma, bigSep_singleton, payload_dma]

end Tables

/-! ## What is owed, and the levels -/

/-- The credit of one copy at the partner's counter. -/
abbrev owe1 (c : Dev nD) (k jj : Fin 4) : CellTallies nD τ sig Unit := tallyAt (dcell (peer c) k jj) () N
/-- The combine copies still to come when `n` experts are done. -/
def oweC (c : Dev nD) (n : ℕ) : CellTallies nD τ sig Unit := ∑ jj ∈ Finset.univ.filter (fun jj : Fin 4 => n ≤ jj.val), owe1 c 3 jj
/-- The dispatch copies still to come when `n` are issued, over everything owed after them. -/
def oweD (c : Dev nD) (n : ℕ) : CellTallies nD τ sig Unit :=
  oweC c 0 + ∑ jj ∈ Finset.univ.filter (fun jj : Fin 4 => n ≤ jj.val), owe1 c 1 jj
/-- At launch: everything. -/
def O₀ (c : Dev nD) : CellTallies nD τ sig Unit := oweD c 0 + tallyAt (barCell (peer c)) () 1

theorem oweC_step (c : Dev nD) (jj : Fin 4) : oweC c jj.val = oweC c (jj.val + 1) + owe1 c 3 jj := by
  unfold oweC
  rw [show Finset.univ.filter (fun i : Fin 4 => jj.val ≤ i.val) = insert jj (Finset.univ.filter (fun i : Fin 4 => jj.val + 1 ≤ i.val)) from by
    revert jj; decide, Finset.sum_insert (by simp), add_comm]
theorem oweD_step (c : Dev nD) (jj : Fin 4) : oweD c jj.val = oweD c (jj.val + 1) + owe1 c 1 jj := by
  unfold oweD
  rw [show Finset.univ.filter (fun i : Fin 4 => jj.val ≤ i.val) = insert jj (Finset.univ.filter (fun i : Fin 4 => jj.val + 1 ≤ i.val)) from by
    revert jj; decide, Finset.sum_insert (by simp), add_assoc, add_comm (owe1 c 1 jj)]
theorem oweC_done (c : Dev nD) : oweC c 4 = 0 := by
  unfold oweC
  rw [show Finset.univ.filter (fun i : Fin 4 => 4 ≤ i.val) = ∅ from by decide, Finset.sum_empty]
theorem oweD_done (c : Dev nD) : oweD c 4 = oweC c 0 := by
  unfold oweD
  rw [show Finset.univ.filter (fun i : Fin 4 => 4 ≤ i.val) = ∅ from by decide, Finset.sum_empty, add_zero]

def L (g : GSem nD τ sig) : Finset Unit := if g.1.2 = .tc then {()} else ∅
/-- Barrier at 1, dispatch arrivals at 2, combine arrivals at 3, everything else at 0. -/
def lv (g : GSem nD τ sig) (_ : Unit) : ℕ := match g.2 with
  | .reg _ => 1
  | .dma s => if 12 ≤ s.val ∧ s.val < 16 then 2 else if 20 ≤ s.val ∧ s.val < 24 then 3 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := rfl
theorem lv_dma (c : Dev nD) (k jj : Fin 4) (u : Unit) : lv (dcell c k jj) u = if k = 1 then 2 else if k = 3 then 3 else 0 := by
  revert k jj; unfold lv; dsimp only; decide

theorem sum_apply {ι : Type} (s : Finset ι) (f : ι → CellTallies nD τ sig Unit) (g : GSem nD τ sig) (u : Unit) :
    (∑ i ∈ s, f i) g u = ∑ i ∈ s, f i g u := by
  rw [Finset.sum_apply, Finsupp.finset_sum_apply]
theorem owe1_pos {c : Dev nD} {k jj : Fin 4} {g : GSem nD τ sig} {u : Unit} (h : 0 < owe1 c k jj g u) : g = dcell (peer c) k jj := by
  rw [owe1, tallyAt_apply] at h
  split at h
  · next hg => exact hg.1
  · exact absurd h (Nat.lt_irrefl 0)
theorem sum_pos {c : Dev nD} {k : Fin 4} (s : Finset (Fin 4)) {g : GSem nD τ sig} {u : Unit} (h : 0 < (∑ jj ∈ s, owe1 c k jj) g u) :
    ∃ jj, g = dcell (peer c) k jj := by
  rw [sum_apply] at h
  obtain ⟨jj, -, hj⟩ := Finset.exists_ne_zero_of_sum_ne_zero (Nat.pos_iff_ne_zero.mp h)
  exact ⟨jj, owe1_pos (Nat.pos_of_ne_zero hj)⟩
theorem oweC_pos {c : Dev nD} {n : ℕ} {g : GSem nD τ sig} {u : Unit} (h : 0 < oweC c n g u) : ∃ jj, g = dcell (peer c) 3 jj := sum_pos _ h
theorem oweD_pos {c : Dev nD} {n : ℕ} {g : GSem nD τ sig} {u : Unit} (h : 0 < oweD c n g u) :
    ∃ k jj, (k = 1 ∨ k = 3) ∧ g = dcell (peer c) k jj := by
  unfold oweD at h
  rw [Pi.add_apply, Finsupp.add_apply] at h
  rcases Nat.add_pos_iff_pos_or_pos.mp h with h | h
  · obtain ⟨jj, e⟩ := oweC_pos h; exact ⟨3, jj, .inr rfl, e⟩
  · obtain ⟨jj, e⟩ := sum_pos _ h; exact ⟨1, jj, .inl rfl, e⟩
theorem O₀_pos {c : Dev nD} {g : GSem nD τ sig} {u : Unit} (h : 0 < O₀ c g u) :
    (∃ k jj, (k = 1 ∨ k = 3) ∧ g = dcell (peer c) k jj) ∨ g = barCell (peer c) := by
  unfold O₀ at h
  rw [Pi.add_apply, Finsupp.add_apply] at h
  rcases Nat.add_pos_iff_pos_or_pos.mp h with h | h
  · exact .inl (oweD_pos h)
  · rw [tallyAt_apply] at h
    split at h
    · next hg => exact .inr hg.1
    · exact absurd h (Nat.lt_irrefl 0)

/-- Waiting on a counter below everything owed. -/
theorem mayWait_of (c : Dev nD) (sm : SemLoc sig) (O : CellTallies nD τ sig Unit)
    (h : ∀ g u, 0 < O g u → ∃ k jj, (k = 1 ∨ k = 3) ∧ g = dcell (peer c) k jj ∧ lv ((c : Thread nD τ), sm) () < lv (dcell (peer c) k jj) ()) :
    (levAts L lv : sProp 𝕄) ⊢ MayWait (c : Thread nD τ) sm () O :=
  MayOwe.of_cut (L := L) (lev := lv) (lv ((c : Thread nD τ), sm) ())
    (fun p hp => by rw [Finset.mem_singleton.mp hp, L_tc]; exact Finset.mem_singleton_self _)
    (fun g u hg => by obtain ⟨k, jj, -, rfl, -⟩ := h g u hg; rw [L_tc]; exact Finset.mem_singleton_self _)
    (fun p hp => by rw [Finset.mem_singleton.mp hp])
    (fun g u hg => by obtain ⟨k, jj, -, rfl, h⟩ := h g u hg; exact h)

/-- On the barrier while the dispatch and combine copies are owed; -/
theorem mayWait_bar (c : Dev nD) : (levAts L lv : sProp 𝕄) ⊢ MayWait (c : Thread nD τ) (.reg barS) () (oweD c 0) :=
  mayWait_of c _ _ fun g u hg => by
    obtain ⟨k, jj, hk, rfl⟩ := oweD_pos hg
    refine ⟨k, jj, hk, rfl, ?_⟩
    rw [lv_dma, lv_bar]; rcases hk with rfl | rfl <;> decide
/-- on a transfer's counter below the combine arrivals while combine copies are owed. -/
theorem mayWait_dma (c : Dev nD) (s : DmaSem sig) (n : ℕ) (hs : s.val < 20 ∨ 24 ≤ s.val) :
    (levAts L lv : sProp 𝕄) ⊢ MayWait (c : Thread nD τ) (.dma s) () (oweC c n) :=
  mayWait_of c _ _ fun g u hg => by
    obtain ⟨jj, rfl⟩ := oweC_pos hg
    refine ⟨3, jj, .inr rfl, rfl, ?_⟩
    rw [lv_dma, if_neg (by decide), if_pos rfl]
    unfold lv; dsimp only
    split
    · decide
    · rw [if_neg (by omega)]; decide

end Cert.Moe

end
-- ==== Proof.Conds.lean ====
/-
  The conditions the body branches on, read as statements about the grid point and the device's place.
-/
module

public import proofs.«01_k».proof.Proof.Schedule

@[expose] public section

noncomputable section

namespace Cert.Moe

open Cert.KernelIdeal Cert.KernelIdeal.Gen
open Idealize.ShloMosaic Idealize.ShloMosaic.TcCoe

/-- A printed test of two words. -/
abbrev tst (p : CmpIPredicate) (a b : BitVec 32) : Prop := Scalar.cmpi .ne (Scalar.extui (Scalar.cmpi p a b)) 0#32 = 1#1

/-- The word of mesh coordinate "x". -/
abbrev xW (c : Dev nD) : BitVec 32 := Scalar.remsi (Scalar.divsi (Dev.word c) 16#32) 2#32
theorem tst_x0 (c : Dev nD) : tst .eq (xW c) 0#32 ↔ xOf c = 0 := by revert c; decide
theorem tst_x1 (c : Dev nD) : tst .eq (xW c) 1#32 ↔ xOf c = 1 := by revert c; decide

theorem tst_j (t : Fin grid1.N) (j : Fin 4) : tst .eq (BitVec.ofNat 32 (grid1.coords t 0).val) (BitVec.ofNat 32 j.val) ↔ jOf t.val = j := by
  revert t j; decide
theorem tst_first (t : Fin grid1.N) : tst .eq (BitVec.ofNat 32 (grid1.coords t 1).val) 0#32 ↔ t.val % 8 = 0 := by revert t; decide
theorem tst_later (t : Fin grid1.N) : tst .sgt (BitVec.ofNat 32 (grid1.coords t 1).val) 0#32 ↔ t.val % 8 ≠ 0 := by revert t; decide
theorem tst_flush (t : Fin grid1.N) : k1_cond19 (grid1.coords t) = 1#1 ↔ t.val % 8 = 7 := by revert t; decide
theorem tst_start (t : Fin grid1.N) : k1_cond1 (grid1.coords t) = 1#1 ↔ t.val = 0 := by revert t; decide
theorem tst_end (t : Fin grid1.N) : Scalar.cmpi .ne (Scalar.extui (Scalar.andi (Scalar.cmpi .eq (BitVec.ofNat 32 (grid1.coords t 0).val) 3#32)
    (Scalar.cmpi .eq (BitVec.ofNat 32 (grid1.coords t 1).val) 7#32))) 0#32 = 1#1 ↔ t.val = 31 := by revert t; decide

/-! The same tests under the names the printed conditions carry. -/

theorem cond_x0 (c : Dev nD) : (k1_cond2 c = 1#1 ↔ xOf c = 0) ∧ (k1_cond23 c = 1#1 ↔ xOf c = 0) ∧ (k1_cond28 c = 1#1 ↔ xOf c = 0)
    ∧ (k1_cond35 c = 1#1 ↔ xOf c = 0) ∧ (k1_cond42 c = 1#1 ↔ xOf c = 0) := ⟨tst_x0 c, tst_x0 c, tst_x0 c, tst_x0 c, tst_x0 c⟩
theorem cond_x1 (c : Dev nD) : (k1_cond3 c = 1#1 ↔ xOf c = 1) ∧ (k1_cond24 c = 1#1 ↔ xOf c = 1) ∧ (k1_cond29 c = 1#1 ↔ xOf c = 1)
    ∧ (k1_cond36 c = 1#1 ↔ xOf c = 1) ∧ (k1_cond43 c = 1#1 ↔ xOf c = 1) := ⟨tst_x1 c, tst_x1 c, tst_x1 c, tst_x1 c, tst_x1 c⟩
theorem cond_j (t : Fin grid1.N) : (k1_cond20 (grid1.coords t) = 1#1 ↔ jOf t.val = 0) ∧ (k1_cond25 (grid1.coords t) = 1#1 ↔ jOf t.val = 1)
    ∧ (k1_cond30 (grid1.coords t) = 1#1 ↔ jOf t.val = 2) ∧ (k1_cond37 (grid1.coords t) = 1#1 ↔ jOf t.val = 3) :=
  ⟨tst_j t 0, tst_j t 1, tst_j t 2, tst_j t 3⟩

/-- Every copy goes to the partner. -/
theorem dev1 (c : Dev nD) : k1_dev1 c = (peer c).val := by revert c; decide

end Cert.Moe

end
-- ==== Proof.Steps.lean ====
/-
  One step at a time: loads and stores of buffers held at known contents, local copies, the copies between partners, and the
  waits, each stated once for every block and every counter of the exchange.
-/
module

public import proofs.«01_k».proof.Proof.Conds
public import Idealize.ShloMosaic.Lib.Tactic

@[expose] public section

set_option maxRecDepth 20000

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- Running `p` on device `c` to `Q`. -/
abbrev Wp (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## Families -/

/-- One member for each of the four experts. -/
abbrev fam (f : Fin 4 → sProp 𝕄) : sProp 𝕄 := bigSep Finset.univ f

/-- One member taken out; the family comes back with it changed. -/
theorem fam_take (f : Fin 4 → sProp 𝕄) (jj : Fin 4) :
    fam f ⊢ iprop(f jj ∗ (∀ g : Fin 4 → sProp 𝕄, ⌜∀ i, i ≠ jj → g i = f i⌝ -∗ g jj -∗ fam g)) := by
  unfold fam
  rw [bigSep_univ_at f jj]
  iintro ⟨H, HR⟩
  isplitl [H]; · iexact H
  iintro %g %hg Hg
  rw [bigSep_univ_at g jj, bigSep_congr (Φ := g) (Ψ := f) (fun i hi => hg i (Finset.ne_of_mem_erase hi))]
  isplitl [Hg] <;> iassumption

theorem fam_congr {f g : Fin 4 → sProp 𝕄} (h : ∀ i, f i = g i) : fam f = fam g := congrArg fam (funext h)

theorem fam_four (f : Fin 4 → sProp 𝕄) : fam f = iprop(f 0 ∗ f 1 ∗ f 2 ∗ f 3) := by
  unfold fam
  rw [bigSep_univ_eq_bigSepL [0, 1, 2, 3] (by decide) (by decide), bigSepL_cons_cons, bigSepL_cons_cons, bigSepL_cons_cons, bigSepL_singleton]
  rfl

/-! ## Buffers -/

section Buffers

variable (c : Dev nD) {α : Type}

/-- A load of everything a memref covers. -/
theorem ld_full {cs : CoreSpace} {s : Shape} {e : EltTy} {M : Memref sig .tc cs s e} {off : Fin s.rank → Nat} (h0 : off = fun _ => 0)
    {inb : ∀ a, off a + s.size a ≤ s.size a} {hl : M.view.LoadsAt (Rect.unit off s.size inb).toLoadRect}
    {k : (s.Idx → Elt F e) → Prog (TpuEff nD τ sig (Elt F) Λ₀ .tc) α} (X : s.Idx → Elt F e) {Q : α → sProp 𝕄} :
    at' c M X ⊢ iprop((at' c M X -∗ Wp c (k X) Q) -∗ Wp c (.op (.load M (Rect.unit off s.size inb).toLoadRect hl) k) Q) := by
  subst h0
  unfold at' owns
  iintro ⟨%f, %hf, H⟩ Hk
  iapply (wp_load 𝒱₀ (c : Thread nD τ) none Set.univ (View.setOn_subset_set _ _)) $$ H
  iintro H
  have hv : M.view.readAt (Elt F) (Rect.unit (fun _ => 0) s.size inb).toLoadRect f = X := by
    rw [← hf]; funext x; rw [View.readAt_apply]; congr 1
    exact Rect.emb_whole_apply s x
  rw [hv]
  iapply Hk
  iexists f; isplitr; · ipureintro; exact hf
  iexact H

/-- A store to everything a memref covers. -/
theorem st_full {cs : CoreSpace} {s : Shape} {e : EltTy} {M : Memref sig .tc cs s e} {off : Fin s.rank → Nat} (h0 : off = fun _ => 0)
    {inb : ∀ a, off a + s.size a ≤ s.size a} {w : s.Idx → Elt F e}
    {hx : (M.access (Rect.unit off s.size inb)).Stores Finset.univ} {hm}
    {k : PUnit → Prog (TpuEff nD τ sig (Elt F) Λ₀ .tc) α} (X : s.Idx → Elt F e) {Q : α → sProp 𝕄} :
    at' c M X ⊢ iprop((at' c M w -∗ Wp c (k ⟨⟩) Q) -∗ Wp c (.op (.store M (Rect.unit off s.size inb) w Finset.univ hx hm) k) Q) := by
  subst h0
  unfold at' owns
  iintro ⟨%f, %hf, H⟩ Hk
  iapply (wp_store 𝒱₀ (c : Thread nD τ) none Set.univ (m := M) (r := Rect.unit (fun _ => 0) s.size inb) (Mk := Finset.univ) (f := f)
    ((View.setOn_subset_set _ _).trans (View.set_slice_subset _ _))) $$ H
  iintro H
  iapply Hk
  iexists ((M.access (Rect.unit (fun _ => 0) s.size inb)).write (Elt F) f w Finset.univ)
  isplitr
  · ipureintro; funext x
    have h := congrFun (View.read_write_univ (v := M.access (Rect.unit (fun _ => 0) s.size inb)) f w) x
    rw [← h]
    exact congrArg (M.view.read (Elt F) _) (Rect.emb_whole_apply s x).symm
  · iexact H

/-- A load of the block under a squeezed slice, its offsets written in any way. -/
theorem ld_slot {cs : CoreSpace} {s s₂ : Shape} {e : EltTy} {M : Memref sig .tc cs s e} {off off' size : Fin s.rank → Nat} (ho : off' = off)
    {inb : ∀ a, off a + size a ≤ s.size a} {inb' : ∀ a, off' a + size a ≤ s.size a} {hu : ∀ a, (Rect.unit off size inb).stride a = 1}
    {hq : (Rect.unit off size inb).shape.Squeezes s₂} {hl : M.view.LoadsAt (Rect.unit off' size inb').toLoadRect}
    {k : (((⟨s.rank, size⟩ : Shape).Idx) → Elt F e) → Prog (TpuEff nD τ sig (Elt F) Λ₀ .tc) α} (X : s₂.Idx → Elt F e) {Q : α → sProp 𝕄} :
    at' c ((M.slice (Rect.unit off size inb) hu).squeeze s₂ hq) X
      ⊢ iprop((∀ v : (⟨s.rank, size⟩ : Shape).Idx → Elt F e, ⌜(fun x => v (Shape.reshapeEquiv hq.numel_eq x)) = X⌝
        -∗ at' c ((M.slice (Rect.unit off size inb) hu).squeeze s₂ hq) X -∗ Wp c (k v) Q)
        -∗ Wp c (.op (.load M (Rect.unit off' size inb').toLoadRect hl) k) Q) := by
  subst ho
  unfold at' owns
  iintro ⟨%f, %hf, H⟩ Hk
  iapply (wp_load 𝒱₀ (c : Thread nD τ) none Set.univ (m := M) (r := (Rect.unit off' size inb).toLoadRect) (hl := hl) (by
    rw [Memref.set_view_squeeze]; exact (View.set_slice M.view (Rect.unit off' size inb)).symm.subset)) $$ H
  iintro H
  iapply Hk $$ %(M.view.readAt (Elt F) (Rect.unit off' size inb).toLoadRect f) [] [H]
  · ipureintro; exact hf
  · iexists f; isplitr; · ipureintro; exact hf
    iexact H

/-- A store to the block under a squeezed slice. -/
theorem st_slot {cs : CoreSpace} {s s₂ : Shape} {e : EltTy} {M : Memref sig .tc cs s e} {r : Rect s} {hu : ∀ a, r.stride a = 1}
    {hq : r.shape.Squeezes s₂} {w : r.shape.Idx → Elt F e} {hx : (M.access r).Stores Finset.univ} {hm}
    {k : PUnit → Prog (TpuEff nD τ sig (Elt F) Λ₀ .tc) α} (X : s₂.Idx → Elt F e) {Q : α → sProp 𝕄} :
    at' c ((M.slice r hu).squeeze s₂ hq) X
      ⊢ iprop((at' c ((M.slice r hu).squeeze s₂ hq) (fun x => w (Shape.reshapeEquiv hq.numel_eq x)) -∗ Wp c (k ⟨⟩) Q)
        -∗ Wp c (.op (.store M r w Finset.univ hx hm) k) Q) := by
  unfold at' owns
  iintro ⟨%f, %hf, H⟩ Hk
  iapply (wp_store 𝒱₀ (c : Thread nD τ) none Set.univ (m := M) (r := r) (Mk := Finset.univ) (f := f) (by
    rw [Memref.set_view_squeeze]; exact View.setOn_subset_set _ _)) $$ H
  iintro H
  iapply Hk
  iexists ((M.access r).write (Elt F) f w Finset.univ)
  isplitr
  · ipureintro; funext x
    exact congrFun (View.read_write_univ (v := M.access r) f w) (Shape.reshapeEquiv hq.numel_eq x)
  · iexact H

end Buffers

/-! ## What every step may consult -/

variable (m : (ℓ : Loc nD τ sig) → Buf (Elt F) ℓ)

/-- A counter follows the schedule. -/
def inv1 (g : GSem nD τ sig) : sProp 𝕄 := iprop(∃ κ, cellInv ER (Rd (F := F) m) κ g)
instance inv1_persistent (g : GSem nD τ sig) : BI.Persistent (inv1 m g) := by unfold inv1; infer_instance
/-- What is owed, after some waits. -/
def ow (c : Dev nD) (O : CellTallies nD τ sig Unit) : sProp 𝕄 := iprop(∃ W, owes (c : Thread nD τ) O W)

/-- Device `c` and its partner follow the schedule, and the levels are fixed. -/
def Kn (c : Dev nD) : sProp 𝕄 :=
  iprop(levAts L lv ∗ inv1 m (barCell c) ∗ inv1 m (barCell (peer c)) ∗ reached (ER (F := F)) (barCell (peer c)) 0
    ∗ (fam fun k => fam fun jj => inv1 m (dcell c k jj)) ∗ (fam fun k => fam fun jj => inv1 m (dcell (peer c) k jj))
    ∗ (fam fun k => fam fun jj => reached (ER (F := F)) (dcell c k jj) 0))
instance Kn_persistent (c : Dev nD) : BI.Persistent (Kn m c) := by unfold Kn; infer_instance
/-- The partner's arrival counters are open. -/
def Kp (c : Dev nD) : sProp 𝕄 :=
  iprop((fam fun jj => reached (ER (F := F)) (dcell (peer c) 1 jj) 0) ∗ (fam fun jj => reached (ER (F := F)) (dcell (peer c) 3 jj) 0))
instance Kp_persistent (c : Dev nD) : BI.Persistent (Kp (F := F) c) := by unfold Kp; infer_instance

theorem fam_at (f : Fin 4 → sProp 𝕄) (jj : Fin 4) : fam f ⊢ f jj := bigSep_elim (Finset.mem_univ jj)
theorem Kn_lev (c : Dev nD) : Kn m c ⊢ levAts L lv := by
  unfold Kn; iintro ⟨H, -⟩; iexact H
theorem Kn_own (c : Dev nD) (k jj : Fin 4) : Kn m c ⊢ inv1 m (dcell c k jj) := by
  unfold Kn; iintro ⟨-, -, -, -, H, -⟩
  iapply (fam_at (fun jj => inv1 m (dcell c k jj)) jj); iapply (fam_at (fun k => fam fun jj => inv1 m (dcell c k jj)) k) $$ H
theorem Kn_peer (c : Dev nD) (k jj : Fin 4) : Kn m c ⊢ inv1 m (dcell (peer c) k jj) := by
  unfold Kn; iintro ⟨-, -, -, -, -, H, -⟩
  iapply (fam_at (fun jj => inv1 m (dcell (peer c) k jj)) jj); iapply (fam_at (fun k => fam fun jj => inv1 m (dcell (peer c) k jj)) k) $$ H
theorem Kn_open (c : Dev nD) (k jj : Fin 4) : Kn m c ⊢ reached (ER (F := F)) (dcell c k jj) 0 := by
  unfold Kn; iintro ⟨-, -, -, -, -, -, H⟩
  iapply (fam_at (fun jj => reached (ER (F := F)) (dcell c k jj) 0) jj)
  iapply (fam_at (fun k => fam fun jj => reached (ER (F := F)) (dcell c k jj) 0) k) $$ H
theorem Kp_recv (c : Dev nD) (jj : Fin 4) : Kp (F := F) c ⊢ reached (ER (F := F)) (dcell (peer c) 1 jj) 0 := by
  unfold Kp; iintro ⟨H, -⟩; iapply (fam_at (fun jj => reached (ER (F := F)) (dcell (peer c) 1 jj) 0) jj) $$ H
theorem Kp_out (c : Dev nD) (jj : Fin 4) : Kp (F := F) c ⊢ reached (ER (F := F)) (dcell (peer c) 3 jj) 0 := by
  unfold Kp; iintro ⟨-, H⟩; iapply (fam_at (fun jj => reached (ER (F := F)) (dcell (peer c) 3 jj) 0) jj) $$ H

/-! ## Waits and copies -/

section Moves

variable (c : Dev nD) {α : Type}

/-- A wait for the one arrival at a counter of the exchange. -/
theorem wait_step (k jj : Fin 4) {sp sp' : Space} {s s' : Shape} {e e' : EltTy} {κ' : Kind}
    {srcw : Memref sig .tc sp' s' e'} {dstw : Memref sig κ' sp s e} {h1 : srcw.view.WordExact} {h2 : dstw.view.WordExact}
    {p : PUnit → Prog (TpuEff nD τ sig (Elt F) Λ₀ .tc) α} {Q : α → sProp 𝕄}
    (hN : dstw.view.dmaCredit = N) (O : CellTallies nD τ sig Unit)
    (hO : (levAts L lv : sProp 𝕄) ⊢ MayWait (c : Thread nD τ) (.dma (dsem k jj)) () O) :
    iprop(Kn m c ∗ ow (F := F) c O ∗ cred (tallyAt (dcell c k jj) () N) ∗ atPos (ER (F := F)) (dcell c k jj) 0 ∅ 0)
      ⊢ iprop((iprop(ow (F := F) c O ∗ dmaPay m c k jj ∗ atPos (ER (F := F)) (dcell c k jj) 1 ∅ 0) -∗ Wp c (p ⟨⟩) Q)
        -∗ Wp c (.op (.waitDma2 (dsem k jj) srcw dstw h1 h2) p) Q) := by
  iintro ⟨#HK, HO, Hc, Ha⟩ Hk
  icases (Kn_own m c k jj) $$ HK with #Hi
  icases (Kn_lev m c) $$ HK with #Hl
  unfold inv1 ow
  icases Hi with ⟨%κ, #Hi⟩
  icases HO with ⟨%W, HO⟩
  iapply (Rounds.wp_wait_rest_token 𝒱₀ ER (Rd m) (c : Thread nD τ) none (κ := κ)
    (wpE_waitDma2_eq (src := srcw) (dst := dstw) 𝒱₀ (c : Thread nD τ) none Set.univ) (Set.mem_univ _) () (O := O) (W := W) (R := 0) (m := 0) (T := ∅)
    ((Nat.zero_add _).trans (hN.trans (expect_dma m c k jj).symm))) $$ [Hc HO Ha]
  · isplitr; · iexact Hi
    isplitl [Hc]; · iapply (Entails.of_eq (congrArg (fun n => (cred (tallyAt (dcell c k jj) () n) : sProp 𝕄)) hN.symm)) $$ Hc
    isplitl [HO]; · iexact HO
    isplitr; · iapply hO $$ Hl
    iexact Ha
  iintro ⟨HO, Ha, -, Hp⟩
  iapply Hk
  isplitl [HO]; · iexists _; iexact HO
  isplitl [Hp]; · iapply (Entails.of_eq (rest_dma m c k jj)) $$ Hp
  iexact Ha

/-- A copy on the device, issued and waited for. -/
theorem copy_step {sp sp' : Space} {src : Memref sig .tc sp S576x2048 .bf16} {dst : Memref sig .tc sp' S576x2048 .bf16} {s : DmaSem sig}
    {sp₁ : Space} {s₁ : Shape} {e₁ : EltTy} {srcw : Memref sig .tc sp₁ s₁ e₁} {h1 h2 h3 h4 h5}
    {p : PUnit → Prog (TpuEff nD τ sig (Elt F) Λ₀ .tc) α} {Q : α → sProp 𝕄}
    (hN : dst.view.dmaCredit = N) (O : CellTallies nD τ sig Unit)
    (hO : (levAts L lv : sProp 𝕄) ⊢ MayWait (c : Thread nD τ) (.dma s) () O) (X : Blk F) :
    iprop(Kn m c ∗ ow (F := F) c O ∗ semVal ((c : Thread nD τ), .dma s) 0 ∗ at' c src X ∗ any (F := F) c dst)
      ⊢ iprop((iprop(ow (F := F) c O ∗ semVal ((c : Thread nD τ), .dma s) 0 ∗ at' c src X ∗ at' c dst X) -∗ Wp c (p ⟨⟩) Q)
        -∗ Wp c (.op (.enqueueDma src (.here dst) (.dma s) h1 h2 h3) fun _ => .op (.waitDma2 s srcw dst h4 h5) p) Q) := by
  iintro ⟨#HK, HO, Hs, Hx, Hd⟩ Hk
  icases (Kn_lev m c) $$ HK with #Hl
  unfold ow any at' owns
  icases HO with ⟨%W, HO⟩
  icases Hx with ⟨%fs, %hfs, Hx⟩
  icases Hd with ⟨%Y, %fd, %hfd, Hd⟩
  iapply (Transfers.wp_dmaLocal EC 𝒱₀ (c : Thread nD τ) none (src := src) (dst := dst) (sm := .dma s) (Sd := dst.view.set) () dst.view.dmaCredit rfl (lt_of_lt_of_eq N_pos hN.symm) subset_rfl)
    $$ [Hx Hd Hs]
  · isplitl [Hx]; · iexact Hx
    isplitl [Hd]; · iexact Hd
    iexact Hs
  iintro HF
  iapply (Transfers.wp_waitLocalO EC 𝒱₀ (c : Thread nD τ) none () rfl (O := O) (W := W)) $$ [HF HO]
  · isplitl [HF]; · iexact HF
    isplitl [HO]; · iexact HO
    iapply hO $$ Hl
  iintro ⟨⟨Hd, Hx⟩, Hs, HO⟩
  iapply Hk
  isplitl [HO]; · iexists _; iexact HO
  isplitl [Hs]; · iexact Hs
  isplitl [Hx]
  · iexists fs; isplitr; · ipureintro; exact hfs
    iexact Hx
  · iexists _
    isplitr [Hd]
    rotate_left
    · iexact Hd
    · ipureintro; rw [View.read_write_univ]; exact hfs

/-- A copy to the partner of device `c`: it hands `P₁` to the copying device's counter and `P₂` to the partner's. -/
theorem send_step {sp sp' : Space} {src : Memref sig .tc sp S576x2048 .bf16} {dst : Memref sig .tc sp' S576x2048 .bf16} {k₁ k₂ jj : Fin 4}
    {d : Dev nD} (hd : d = peer c) {hsc h1 h2 h3}
    {p : PUnit → Prog (TpuEff nD τ sig (Elt F) Λ₀ .tc) α} {Q : α → sProp 𝕄}
    (hN : dst.view.dmaCredit = N) (O : CellTallies nD τ sig Unit) (X : Blk F)
    (hp₁ : at' c src X ⊢ dmaPay m c k₁ jj) (hp₂ : at' (peer c) dst X ⊢ dmaPay m (peer c) k₂ jj) :
    iprop(Kn m c ∗ reached (ER (F := F)) (dcell (peer c) k₂ jj) 0 ∗ ow (F := F) c (O + owe1 c k₂ jj) ∗ at' c src X ∗ any (F := F) (peer c) dst
        ∗ dutyTok (ER (F := F)) (dcell c k₁ jj) 0 () ∗ dutyTok (ER (F := F)) (dcell (peer c) k₂ jj) 0 ())
      ⊢ iprop((iprop(ow (F := F) c O ∗ cred (tallyAt (dcell c k₁ jj) () N)) -∗ Wp c (p ⟨⟩) Q)
        -∗ Wp c (.op (.enqueueDma src (.remote (d : Thread nD τ) dst (.dma (dsem k₁ jj)) hsc) (.dma (dsem k₂ jj)) h1 h2 h3) p) Q) := by
  subst hd
  iintro ⟨#HK, #Hr, HO, Hx, Hd, Ht1, Ht2⟩ Hk
  icases (Kn_own m c k₁ jj) $$ HK with #Hi1
  icases (Kn_peer m c k₂ jj) $$ HK with #Hi2
  icases (Kn_open m c k₁ jj) $$ HK with #Hr1
  unfold ow any at' owns inv1
  icases HO with ⟨%W, HO⟩
  icases Hx with ⟨%fs, %hfs, Hx⟩
  icases Hd with ⟨%Y, %fd, %hfd, Hd⟩
  icases Hi1 with ⟨%κ₁, #Hi1⟩
  icases Hi2 with ⟨%κ₂, #Hi2⟩
  subst hfs
  iapply (Rounds.wp_send_pointsTo 𝒱₀ ER (Rd m) (c : Thread nD τ) none (c' := (peer c : Thread nD τ)) (src := src) (dst := dst)
    (sS := .dma (dsem k₁ jj)) (sem := .dma (dsem k₂ jj)) (q := fullShare) (fs := fs) (fd := fd) (r₁ := 0) (r₂ := 0) (d₁ := ()) (d₂ := ())
    (κ₁ := κ₁) (κ₂ := κ₂) (mem_dma m c k₁ jj) (mem_dma m (peer c) k₂ jj) () () N hN (amount_dma m c k₁ jj ()) (amount_dma m (peer c) k₂ jj ()) O rfl (W := W)
    (by rw [payload_dma]; exact (owns_intro _ _ _ _).trans hp₁)
    (by rw [payload_dma]; refine (owns_intro _ _ _ _).trans ?_; rw [View.read_write_univ]; exact hp₂)) $$ [HO Hx Hd Ht1 Ht2]
  · isplitr; · iexact Hi1
    isplitr; · iexact Hi2
    isplitl [Hx]; · iexact Hx
    isplitl [Hd]; · iexact Hd
    isplitl [HO]; · iexact HO
    isplitl [Ht1]; · iexact Ht1
    isplitr; · iexact Hr1
    isplitl [Ht2]; · iexact Ht2
    iexact Hr
  iintro ⟨Hc, HO⟩
  iapply Hk
  isplitl [HO]; · iexists _; iexact HO
  iexact Hc

/-- The barrier unit to the partner, -/
theorem signal_step {d : Dev nD} (hd : d = peer c) {p : PUnit → Prog (TpuEff nD τ sig (Elt F) Λ₀ .tc) α} {Q : α → sProp 𝕄} :
    iprop(Kn m c ∗ ow (F := F) c (O₀ c) ∗ dutyTok (ER (F := F)) (barCell (peer c)) 0 () ∗ barPay (peer c))
      ⊢ iprop((ow (F := F) c (oweD c 0) -∗ Wp c (p ⟨⟩) Q) -∗ Wp c (.op (.semSignal (d : Thread nD τ) barS 1) p) Q) := by
  subst hd
  unfold Kn ow inv1
  iintro ⟨⟨-, -, ⟨%κ, #Hi⟩, #Hr, -⟩, ⟨%W, HO⟩, Ht, Hp⟩ Hk
  iapply (Rounds.wp_signal 𝒱₀ ER (Rd m) (c : Thread nD τ) none (dst := (peer c : Thread nD τ)) (sem := barS) (r := 0) (d := ()) (κ := κ)
    (mem_bar m (peer c)) (amount_bar m (peer c) ()) () (oweD c 0) rfl (W := W)) $$ [HO Ht Hp]
  · isplitr; · iexact Hi
    isplitl [HO]; · iexact HO
    isplitl [Ht]; · iexact Ht
    isplitl [Hp]; · iapply (Entails.of_eq (payload_bar m (peer c) ()).symm) $$ Hp
    iexact Hr
  iintro HO
  iapply Hk
  iexists _; iexact HO

/-- and the wait for the partner's. -/
theorem barrier_step {p : PUnit → Prog (TpuEff nD τ sig (Elt F) Λ₀ .tc) α} {Q : α → sProp 𝕄} :
    iprop(Kn m c ∗ ow (F := F) c (oweD c 0) ∗ cred (tallyAt (barCell c) () 1) ∗ atPos (ER (F := F)) (barCell c) 0 ∅ 0)
      ⊢ iprop((iprop(ow (F := F) c (oweD c 0) ∗ barPay c ∗ atPos (ER (F := F)) (barCell c) 1 ∅ 0) -∗ Wp c (p ⟨⟩) Q)
        -∗ Wp c (.op (.semWait barS 1) p) Q) := by
  unfold Kn ow inv1
  iintro ⟨⟨#Hl, ⟨%κ, #Hi⟩, -⟩, ⟨%W, HO⟩, Hc, Ha⟩ Hk
  iapply (Rounds.wp_wait_rest_token 𝒱₀ ER (Rd m) (c : Thread nD τ) none (κ := κ)
    (wpE_semWait_eq 𝒱₀ (c : Thread nD τ) none Set.univ) (Set.mem_univ _) () (O := oweD c 0) (W := W) (R := 0) (m := 0) (T := ∅)
    ((Nat.zero_add _).trans (expect_bar m c).symm)) $$ [Hc HO Ha]
  · isplitr; · iexact Hi
    isplitl [Hc]; · iexact Hc
    isplitl [HO]; · iexact HO
    isplitr; · iapply (mayWait_bar c) $$ Hl
    iexact Ha
  iintro ⟨HO, Ha, -, Hp⟩
  iapply Hk
  isplitl [HO]; · iexists _; iexact HO
  isplitl [Hp]; · iapply (Entails.of_eq (rest_bar m c)) $$ Hp
  iexact Ha

end Moves

end Cert.Moe

end
-- ==== Proof.State.lean ====
/-
  What a device holds between the points of the grid, in groups, and how each block of the body changes its group:
  the dispatch copies, the arrival of one expert's rows, and the three parts of handing over one expert's results.
-/
module

public import proofs.«01_k».proof.Proof.Steps

@[expose] public section

set_option maxRecDepth 20000

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

/-! ## The groups -/

/-- A counter of the exchange before its round, and after. -/
abbrev pos0 (k jj : Fin 4) : sProp 𝕄 := atPos (ER (F := F)) (dcell c k jj) 0 ∅ 0
abbrev pos1 (k jj : Fin 4) : sProp 𝕄 := atPos (ER (F := F)) (dcell c k jj) 1 ∅ 0
/-- The right to wait once at a counter of the exchange. -/
abbrev crd (k jj : Fin 4) : sProp 𝕄 := cred (tallyAt (dcell c k jj) () N)
/-- The right to pay a counter of device `d`. -/
abbrev tok (d : Dev nD) (k jj : Fin 4) : sProp 𝕄 := dutyTok (ER (F := F)) (dcell d k jj) 0 ()

/-- The dispatch copies: those numbered `n` and up are still to be issued. -/
def Dsp1 (n : ℕ) (jj : Fin 4) : sProp 𝕄 :=
  if n ≤ jj.val then iprop(at' c (xpSl (ro c jj)) (Xs m c (ro c jj)) ∗ any (F := F) (peer c) (recvSl jj) ∗ tok (F := F) c 0 jj ∗ tok (F := F) (peer c) 1 jj)
  else crd (F := F) c 0 jj
abbrev Dsp (n : ℕ) : sProp 𝕄 := fam (Dsp1 m c n)
/-- The arrivals: those below `r` are in. -/
def Rcv1 (r : ℕ) (jj : Fin 4) : sProp 𝕄 :=
  if jj.val < r then iprop(at' c (recvSl jj) (XR m c jj) ∗ pos1 (F := F) c 1 jj) else iprop(crd (F := F) c 1 jj ∗ pos0 (F := F) c 1 jj)
abbrev Rcv (r : ℕ) : sProp 𝕄 := fam (Rcv1 m c r)
/-- The device's own rows, the arrivals, and the local copy's counter. -/
def RS (r : ℕ) : sProp 𝕄 :=
  iprop((fam fun jj => at' c (xpSl (lo c jj)) (XL m c jj)) ∗ Rcv m c r ∗ semVal ((c : Thread nD τ), .dma lxS) 0)
/-- The device's own results: those below `n` are written. -/
def Own1 (n : ℕ) (jj : Fin 4) : sProp 𝕄 :=
  if jj.val < n then at' c (outSl (lo c jj)) (YL m c jj) else any (F := F) c (outSl (lo c jj))
abbrev Own (n : ℕ) : sProp 𝕄 := fam (Own1 m c n)
/-- The combine copies: those below `n` are issued, those below `n - w` have left. -/
def Cmb1 (n w : ℕ) (jj : Fin 4) : sProp 𝕄 :=
  if n ≤ jj.val then iprop(tok (F := F) c 2 jj ∗ pos0 (F := F) c 2 jj)
  else if jj.val + w < n then pos1 (F := F) c 2 jj else iprop(crd (F := F) c 2 jj ∗ pos0 (F := F) c 2 jj)
abbrev Cmb (n w : ℕ) : sProp 𝕄 := fam (Cmb1 (F := F) c n w)
/-- Room at the partner for those still to come. -/
def Room1 (n : ℕ) (jj : Fin 4) : sProp 𝕄 :=
  if n ≤ jj.val then iprop(any (F := F) (peer c) (outSl (lo c jj)) ∗ tok (F := F) (peer c) 3 jj) else iprop(emp)
abbrev Room (n : ℕ) : sProp 𝕄 := fam (Room1 (F := F) c n)
/-- The slots of the send buffer not yet used. -/
def Slots (n : ℕ) : sProp 𝕄 :=
  iprop((if n ≤ 0 then any (F := F) c (sendSl 0) else iprop(emp)) ∗ (if n ≤ 1 then any (F := F) c (sendSl 1) else iprop(emp)))
/-- All that a hand-over changes. -/
def FS (n : ℕ) : sProp 𝕄 :=
  iprop(Own m c n ∗ Cmb (F := F) c n 2 ∗ Room (F := F) c n ∗ Slots (F := F) c n ∗ semVal ((c : Thread nD τ), .dma loS) 0)
/-- What waits for the last point. -/
def Late : sProp 𝕄 :=
  iprop((fam fun jj => crd (F := F) c 0 jj) ∗ (fam fun jj => pos0 (F := F) c 0 jj) ∗ (fam fun jj => crd (F := F) c 3 jj) ∗ (fam fun jj => pos0 (F := F) c 3 jj)
    ∗ atPos (ER (F := F)) (barCell c) 1 ∅ 0)

/-! ## How the blocks change them -/

theorem credit_recv (jj : Fin 4) : (recvSl jj).view.dmaCredit = N := rfl
theorem credit_out (e : Fin 8) : (outSl e).view.dmaCredit = N := rfl
theorem credit_xl : xlM.view.dmaCredit = N := rfl

section Blocks

variable {α : Type} {p : PUnit → Prog (TpuEff nD τ sig (Elt F) Λ₀ .tc) α}

/-- A family with one member changed. -/
theorem fam_step (f g : Fin 4 → sProp 𝕄) (jj : Fin 4) (h : ∀ i, i ≠ jj → g i = f i) {A B : sProp 𝕄} (hA : f jj = A) (hB : g jj = B) :
    fam f ⊢ iprop(A ∗ (B -∗ fam g)) := by
  subst hA hB
  iintro H
  icases (fam_take f jj) $$ H with ⟨H, HR⟩
  isplitl [H]; · iexact H
  iintro Hg
  iapply HR $$ %g [] Hg
  ipureintro; exact h

theorem le_step {A B : sProp 𝕄} {i jj : Fin 4} (h : i ≠ jj) : (if jj.val + 1 ≤ i.val then A else B) = if jj.val ≤ i.val then A else B := by
  have hv : i.val ≠ jj.val := fun e => h (Fin.ext e)
  by_cases h' : jj.val ≤ i.val
  · rw [if_pos h', if_pos (by omega)]
  · rw [if_neg h', if_neg (by omega)]
theorem lt_step {A B : sProp 𝕄} {i jj : Fin 4} (h : i ≠ jj) : (if i.val < jj.val + 1 then A else B) = if i.val < jj.val then A else B := by
  have hv : i.val ≠ jj.val := fun e => h (Fin.ext e)
  by_cases h' : i.val < jj.val
  · rw [if_pos h', if_pos (by omega)]
  · rw [if_neg h', if_neg (by omega)]

/-- One dispatch copy. -/
theorem dispatch_blk (jj : Fin 4) {n n' : ℕ} (hn : n = jj.val) (hn' : n' = jj.val + 1) {e : Fin 8} (he : ro c jj = e)
    {d : Dev nD} (hd : d = peer c) {hsc h1 h2 h3} {Q : α → sProp 𝕄} :
    iprop(Kn m c ∗ Kp (F := F) c ∗ ow (F := F) c (oweD c n) ∗ Dsp m c n)
      ⊢ iprop((iprop(ow (F := F) c (oweD c n') ∗ Dsp m c n') -∗ Wp c (p ⟨⟩) Q)
        -∗ Wp c (.op (.enqueueDma (xpSl e) (.remote (d : Thread nD τ) (recvSl jj) (.dma (dsem 0 jj)) hsc) (.dma (dsem 1 jj)) h1 h2 h3) p) Q) := by
  subst hn hn' he
  iintro ⟨#HK, #HP, HO, HD⟩ Hk
  icases (fam_step (Dsp1 m c jj.val) (Dsp1 m c (jj.val + 1)) jj (fun i hi => le_step hi) (if_pos (le_refl _)) (if_neg (by omega))) $$ HD
    with ⟨⟨Hx, Hr, Ht0, Ht1⟩, Hback⟩
  rw [oweD_step c jj]
  iapply (send_step m c (k₁ := 0) (k₂ := 1) (jj := jj) hd (credit_recv jj) (oweD c (jj.val + 1)) (Xs m c (ro c jj)) (Entails.of_eq rfl)
    (Entails.of_eq (by unfold dmaPay XR; rw [peer_peer, lo_peer]))) $$ [HO Hx Hr Ht0 Ht1]
  · isplitr; · iexact HK
    isplitr; · iapply (Kp_recv c jj) $$ HP
    isplitl [HO]; · iexact HO
    isplitl [Hx]; · iexact Hx
    isplitl [Hr]; · iexact Hr
    isplitl [Ht0] <;> iassumption
  iintro ⟨HO, Hc⟩
  iapply Hk
  isplitl [HO]; · iexact HO
  iapply Hback $$ Hc

/-- One expert's rows: the device's own are copied, the partner's have arrived. -/
theorem recv_blk (jj : Fin 4) {r r' : ℕ} (hr : r = jj.val) (hr' : r' = jj.val + 1) (n : ℕ) {e : Fin 8} (he : lo c jj = e)
    {sp₁ sp₂ : Space} {s₁ s₂ : Shape} {e₁ e₂ : EltTy} {w₁ : Memref sig .tc sp₁ s₁ e₁} {w₂ : Memref sig .tc sp₂ s₂ e₂} {h1 h2 h3 h4 h5 h6 h7} {Q : α → sProp 𝕄} :
    iprop(Kn m c ∗ ow (F := F) c (oweC c n) ∗ RS m c r ∗ any (F := F) c xlM)
      ⊢ iprop((iprop(ow (F := F) c (oweC c n) ∗ RS m c r' ∗ at' c xlM (XL m c jj)) -∗ Wp c (p ⟨⟩) Q)
        -∗ Wp c (.op (.enqueueDma (xpSl e) (.here xlM) (.dma lxS) h1 h2 h3) fun _ => .op (.waitDma2 lxS w₁ xlM h4 h5) fun _ =>
          .op (.waitDma2 (dsem 1 jj) w₂ (recvSl jj) h6 h7) p) Q) := by
  subst hr hr' he
  iintro ⟨#HK, HO, HR, Hx⟩ Hk
  unfold RS
  icases HR with ⟨HA, HR, Hs⟩
  icases (fam_step (fun jj => at' c (xpSl (lo c jj)) (XL m c jj)) (fun jj => at' c (xpSl (lo c jj)) (XL m c jj)) jj (fun _ _ => rfl) rfl rfl) $$ HA
    with ⟨HA, HAback⟩
  iapply (copy_step m c (src := xpSl (lo c jj)) (dst := xlM) credit_xl (oweC c n) (mayWait_dma c lxS n (.inr (by decide))) (XL m c jj)) $$ [HO Hs HA Hx]
  · isplitr; · iexact HK
    isplitl [HO]; · iexact HO
    isplitl [Hs]; · iexact Hs
    isplitl [HA]; · iexact HA
    iexact Hx
  iintro ⟨HO, Hs, HA, Hx⟩
  icases (fam_step (Rcv1 m c jj.val) (Rcv1 m c (jj.val + 1)) jj (fun i hi => lt_step hi) (if_neg (lt_irrefl _)) (if_pos (by omega))) $$ HR
    with ⟨⟨Hc, Hp⟩, HRback⟩
  iapply (wait_step m c 1 jj (credit_recv jj) (oweC c n) (mayWait_dma c (dsem 1 jj) n (.inl (by show 8 + 4 * 1 + jj.val < 20; omega)))) $$ [HO Hc Hp]
  · isplitr; · iexact HK
    isplitl [HO]; · iexact HO
    isplitl [Hc] <;> iassumption
  iintro ⟨HO, HR, Hp⟩
  iapply Hk
  isplitl [HO]; · iexact HO
  isplitr [Hx]
  · isplitl [HA HAback]
    · iapply HAback $$ HA
    isplitr [Hs]
    · iapply HRback
      isplitl [HR]; · iapply (Entails.of_eq (show dmaPay m c 1 jj = at' c (recvSl jj) (XR m c jj) from rfl)) $$ HR
      iexact Hp
    · iexact Hs
  · iexact Hx

/-- The rows that arrived, taken out to be read. -/
theorem RS_take (jj : Fin 4) {r : ℕ} (hr : r = jj.val + 1) :
    RS m c r ⊢ iprop(at' c (recvSl jj) (XR m c jj) ∗ (at' c (recvSl jj) (XR m c jj) -∗ RS m c r)) := by
  subst hr
  unfold RS
  iintro ⟨HA, HR, Hs⟩
  icases (fam_step (Rcv1 m c (jj.val + 1)) (Rcv1 m c (jj.val + 1)) jj (fun _ _ => rfl) (if_pos (by omega)) (if_pos (by omega))) $$ HR
    with ⟨⟨HR, Hp⟩, HRback⟩
  isplitl [HR]; · iexact HR
  iintro HR
  isplitl [HA]; · iexact HA
  isplitr [Hs]
  · iapply HRback
    isplitl [HR] <;> iassumption
  · iexact Hs

/-- Handing over, first part: the device's own result is copied out. -/
theorem out_blk (jj : Fin 4) {n n' : ℕ} (hn : n = jj.val) (hn' : n' = jj.val + 1) {e : Fin 8} (he : lo c jj = e)
    {sp₁ : Space} {s₁ : Shape} {e₁ : EltTy} {w₁ : Memref sig .tc sp₁ s₁ e₁} {h1 h2 h3 h4 h5} {Q : α → sProp 𝕄} :
    iprop(Kn m c ∗ ow (F := F) c (oweC c n) ∗ Own m c n ∗ semVal ((c : Thread nD τ), .dma loS) 0 ∗ at' c ystM (YL m c jj))
      ⊢ iprop((iprop(ow (F := F) c (oweC c n) ∗ Own m c n' ∗ semVal ((c : Thread nD τ), .dma loS) 0 ∗ any (F := F) c ystM) -∗ Wp c (p ⟨⟩) Q)
        -∗ Wp c (.op (.enqueueDma ystM (.here (outSl e)) (.dma loS) h1 h2 h3) fun _ => .op (.waitDma2 loS w₁ (outSl e) h4 h5) p) Q) := by
  subst hn hn' he
  iintro ⟨#HK, HO, HF, Hs, Hy⟩ Hk
  icases (fam_step (Own1 m c jj.val) (Own1 m c (jj.val + 1)) jj (fun i hi => lt_step hi) (if_neg (lt_irrefl _)) (if_pos (by omega))) $$ HF
    with ⟨HF, Hback⟩
  iapply (copy_step m c (src := ystM) (dst := outSl (lo c jj)) (credit_out _) (oweC c jj.val) (mayWait_dma c loS jj.val (.inr (by decide))) (YL m c jj)) $$ [HO Hs HF Hy]
  · isplitr; · iexact HK
    isplitl [HO]; · iexact HO
    isplitl [Hs]; · iexact Hs
    isplitl [Hy] <;> iassumption
  iintro ⟨HO, Hs, Hy, HF⟩
  iapply Hk
  isplitl [HO]; · iexact HO
  isplitl [HF Hback]
  · iapply Hback $$ HF
  isplitl [Hs]; · iexact Hs
  iexists _; iexact Hy

/-- Second part, from the third expert on: the copy before the last has left its slot. -/
theorem free_blk (i : Fin 4) {n : ℕ} (hn : n = i.val + 2) (hn4 : n < 4) {b : Fin 2} (hb : b.val = i.val % 2)
    {sp₁ sp₂ : Space} {s₁ s₂ : Shape} {e₁ e₂ : EltTy} {κ : Kind} {w₁ : Memref sig .tc sp₁ s₁ e₁} {w₂ : Memref sig κ sp₂ s₂ e₂} {h1 h2}
    (hN : w₂.view.dmaCredit = N) {Q : α → sProp 𝕄} :
    iprop(Kn m c ∗ ow (F := F) c (oweC c n) ∗ Cmb (F := F) c n 2)
      ⊢ iprop((iprop(ow (F := F) c (oweC c n) ∗ Cmb (F := F) c n 1 ∗ any (F := F) c (sendSl b)) -∗ Wp c (p ⟨⟩) Q)
        -∗ Wp c (.op (.waitDma2 (dsem 2 i) w₁ w₂ h1 h2) p) Q) := by
  subst hn
  have hb' : (⟨i.val % 2, Nat.mod_lt _ (by decide)⟩ : Fin 2) = b := Fin.ext hb.symm
  iintro ⟨#HK, HO, HC⟩ Hk
  icases (fam_step (Cmb1 (F := F) c (i.val + 2) 2) (Cmb1 (F := F) c (i.val + 2) 1) i (fun j hj => by
      have hv : j.val ≠ i.val := fun h => hj (Fin.ext h)
      unfold Cmb1
      by_cases h : i.val + 2 ≤ j.val
      · rw [if_pos h, if_pos h]
      · rw [if_neg h, if_neg h]
        by_cases h' : j.val + 1 < i.val + 2
        · rw [if_pos h', if_pos (by omega)]
        · rw [if_neg h', if_neg (by omega)])
    ((if_neg (by omega)).trans (if_neg (by omega))) ((if_neg (by omega)).trans (if_pos (by omega)))) $$ HC with ⟨⟨Hc, Hp⟩, Hback⟩
  iapply (wait_step m c 2 i hN (oweC c (i.val + 2)) (mayWait_dma c (dsem 2 i) (i.val + 2) (.inl (by show 8 + 4 * 2 + i.val < 20; omega)))) $$ [HO Hc Hp]
  · isplitr; · iexact HK
    isplitl [HO]; · iexact HO
    isplitl [Hc] <;> iassumption
  iintro ⟨HO, HR, Hp⟩
  iapply Hk
  isplitl [HO]; · iexact HO
  isplitr [HR]
  · iapply Hback $$ Hp
  · rw [← hb']; unfold dmaPay; iexact HR

/-- For the first two experts nothing has to leave. -/
theorem Cmb_early {n : ℕ} (hn : n < 2) : Cmb (F := F) c n 2 = Cmb (F := F) c n 1 := by
  refine fam_congr fun j => ?_
  unfold Cmb1
  by_cases h : n ≤ j.val
  · rw [if_pos h, if_pos h]
  · rw [if_neg h, if_neg h, if_neg (by omega), if_neg (by omega)]

/-- Third part: the partner's result is sent. -/
theorem comb_blk (jj : Fin 4) {n n' : ℕ} (hn : n = jj.val) (hn' : n' = jj.val + 1) {e : Fin 8} (he : lo c jj = e) {b : Fin 2} (hb : b.val = jj.val % 2)
    {d : Dev nD} (hd : d = peer c) {hsc h1 h2 h3} (Z : Blk F) (hZ : Z = YR m c jj) {Q : α → sProp 𝕄} :
    iprop(Kn m c ∗ Kp (F := F) c ∗ ow (F := F) c (oweC c n) ∗ Cmb (F := F) c n 1 ∗ Room (F := F) c n ∗ at' c (sendSl b) Z)
      ⊢ iprop((iprop(ow (F := F) c (oweC c n') ∗ Cmb (F := F) c n' 2 ∗ Room (F := F) c n') -∗ Wp c (p ⟨⟩) Q)
        -∗ Wp c (.op (.enqueueDma (sendSl b) (.remote (d : Thread nD τ) (outSl e) (.dma (dsem 2 jj)) hsc) (.dma (dsem 3 jj)) h1 h2 h3) p) Q) := by
  subst hn hn' he hZ
  have hb' : (⟨jj.val % 2, Nat.mod_lt _ (by decide)⟩ : Fin 2) = b := Fin.ext hb.symm
  iintro ⟨#HK, #HP, HO, HC, HR, Hz⟩ Hk
  icases (fam_step (Cmb1 (F := F) c jj.val 1) (Cmb1 (F := F) c (jj.val + 1) 2) jj (fun i hi => by
      have hv : i.val ≠ jj.val := fun h => hi (Fin.ext h)
      unfold Cmb1
      by_cases h : jj.val ≤ i.val
      · rw [if_pos h, if_pos (by omega)]
      · rw [if_neg h, if_neg (by omega)]
        by_cases h' : i.val + 1 < jj.val
        · rw [if_pos h', if_pos (by omega)]
        · rw [if_neg h', if_neg (by omega)])
    (if_pos (le_refl _)) ((if_neg (by omega)).trans (if_neg (by omega)))) $$ HC with ⟨⟨Ht2, Hp⟩, HCback⟩
  icases (fam_step (Room1 (F := F) c jj.val) (Room1 (F := F) c (jj.val + 1)) jj (fun i hi => le_step hi) (if_pos (le_refl _)) (if_neg (by omega))) $$ HR
    with ⟨⟨Ho, Ht3⟩, HRback⟩
  rw [oweC_step c jj]
  iapply (send_step m c (k₁ := 2) (k₂ := 3) (jj := jj) hd (credit_out (lo c jj)) (oweC c (jj.val + 1)) (YR m c jj)
    (by unfold dmaPay; rw [hb']; iintro H; iexists _; iexact H)
    (Entails.of_eq (by unfold dmaPay; rw [peer_peer, ro_peer]))) $$ [HO Hz Ho Ht2 Ht3]
  · isplitr; · iexact HK
    isplitr; · iapply (Kp_out c jj) $$ HP
    isplitl [HO]; · iexact HO
    isplitl [Hz]; · iexact Hz
    isplitl [Ho]; · iexact Ho
    isplitl [Ht2] <;> iassumption
  iintro ⟨HO, Hc⟩
  iapply Hk
  isplitl [HO]; · iexact HO
  isplitr [HRback]
  · iapply HCback
    isplitl [Hc] <;> iassumption
  · iapply HRback
    iempintro

end Blocks

end Cert.Moe

end
-- ==== Proof.BodyIn.lean ====
/-
  The first half of the body: the barrier and the dispatch copies at the first point, the rows of an expert at its first
  point, and the four loads of every point.
-/
module

public import proofs.«01_k».proof.Proof.State

@[expose] public section

set_option maxRecDepth 20000

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- Running one program after another. -/
theorem seq (c : Dev nD) {α β : Type} {P : sProp 𝕄} {p : Prog (TpuEff nD τ sig (Elt F) Λ₀ .tc) α} {k : α → Prog (TpuEff nD τ sig (Elt F) Λ₀ .tc) β}
    (Q₁ : α → sProp 𝕄) {Q : β → sProp 𝕄} (h1 : P ⊢ Wp c p Q₁) (h2 : ∀ a, Q₁ a ⊢ Wp c (k a) Q) : P ⊢ Wp c (p >>= k) Q :=
  Hoare.bind (Fr := frame) (wpE := wpE (defs₀ (F := F)) 𝒱₀ (c : Thread nD τ) none) (E := Set.univ) (Q := Q₁) h1 h2

variable (m : (ℓ : Loc nD τ sig) → Buf (Elt F) ℓ) (c : Dev nD)

/-- The weight blocks staged at point `t`. -/
def Wts (t : Fin cfg1.N) : sProp 𝕄 :=
  iprop(at' c (stage1_0 (cfg1.slots t 0)) (wA m c t) ∗ at' c (stage1_1 (cfg1.slots t 1)) (wB m c t))

/-- The rows being worked on and the two accumulators, before point `t`: nothing yet at an expert's first point. -/
def Xls (t : ℕ) : sProp 𝕄 := if t % 8 = 0 then any (F := F) c xlM else at' c xlM (XL m c (jOf t))
def Acs (t : ℕ) : sProp 𝕄 :=
  if t % 8 = 0 then iprop(any (F := F) c accLM ∗ any (F := F) c accRM)
  else iprop(at' c accLM (acc m c (XL m c) (t - 1)) ∗ at' c accRM (acc m c (XR m c) (t - 1)))

/-- Before point `t`, once the dispatch copies are issued. -/
def Mid (t : ℕ) : sProp 𝕄 :=
  iprop(Kn m c ∗ Kp (F := F) c ∗ ow (F := F) c (oweC c (t / 8)) ∗ RS m c ((t + 7) / 8) ∗ FS m c (t / 8) ∗ Late (F := F) c ∗ any (F := F) c ystM
    ∗ Xls m c t ∗ Acs m c t)
/-- At point `t`, once the expert's rows are there. -/
def Got (t : ℕ) : sProp 𝕄 :=
  iprop(Kn m c ∗ Kp (F := F) c ∗ ow (F := F) c (oweC c (t / 8)) ∗ RS m c (t / 8 + 1) ∗ FS m c (t / 8) ∗ Late (F := F) c ∗ any (F := F) c ystM
    ∗ at' c xlM (XL m c (jOf t)) ∗ Acs m c t)

theorem Mid_got (t : ℕ) (h : t % 8 ≠ 0) : Mid m c t = Got m c t := by
  unfold Mid Got Xls
  rw [if_neg h, show (t + 7) / 8 = t / 8 + 1 by omega]

theorem zero3 : (![0, 0, 0] : Fin 3 → Nat) = fun _ => 0 := by decide
theorem zero2 : (![0, 0] : Fin 2 → Nat) = fun _ => 0 := by decide

/-- The four loads. -/
theorem loads (t : Fin cfg1.N) {α : Type} {oa ob : Fin 3 → Nat} {ox : Fin 2 → Nat} {ha hb hx hr h1 h2 h3 h4}
    (ea : oa = fun _ => 0) (eb : ob = fun _ => 0) (ex : ox = fun _ => 0)
    {k : Vec F S1x2048x512 .bf16 → Vec F S1x512x2048 .bf16 → Blk F → Vec F S1x576x2048 .bf16 → Prog (TpuEff nD τ sig (Elt F) Λ₀ .tc) α} {Q : α → sProp 𝕄} :
    iprop(Got m c t.val ∗ Wts m c t)
      ⊢ iprop((∀ v : Vec F S1x576x2048 .bf16, ⌜k1_pay17 v = XR m c (jOf t.val)⌝ -∗ iprop(Got m c t.val ∗ Wts m c t)
          -∗ Wp c (k (wA m c t) (wB m c t) (XL m c (jOf t.val)) v) Q)
        -∗ Wp c (.op (.load (stage1_0 (cfg1.slots t 0)) (Rect.unit oa ![1, 2048, 512] ha).toLoadRect h1) fun a =>
          .op (.load (stage1_1 (cfg1.slots t 1)) (Rect.unit ob ![1, 512, 2048] hb).toLoadRect h2) fun b =>
          .op (.load xlM (Rect.unit ox ![576, 2048] hx).toLoadRect h3) fun x =>
          .op (.load recvM (Rect.unit (k1_off1 (grid1.coords t)) ![1, 576, 2048] hr).toLoadRect h4) fun v => k a b x v) Q) := by
  have hN : t.val < 32 := lt_of_lt_of_eq t.isLt N_1
  unfold Got Wts
  iintro ⟨⟨HK, HP, HO, HR, HF, HL, Hy, Hx, HA⟩, HW1, HW2⟩ Hk
  iapply (ld_full c (s := S1x2048x512) ea (wA m c t)) $$ HW1
  iintro HW1
  iapply (ld_full c (s := S1x512x2048) eb (wB m c t)) $$ HW2
  iintro HW2
  iapply (ld_full c (s := S576x2048) ex (XL m c (jOf t.val))) $$ Hx
  iintro Hx
  icases (RS_take m c (jOf t.val) (r := t.val / 8 + 1) (by show _ = t.val / 8 % 4 + 1; omega)) $$ HR with ⟨HR, HRback⟩
  have ho : ∀ t : Fin grid1.N, k1_off1 (grid1.coords t) = ![(jOf t.val).val, 0, 0] := by decide
  iapply (ld_slot c (M := recvM) (size := S1x576x2048.size) (ho t) (XR m c (jOf t.val))) $$ HR
  iintro %v %hv HR
  iapply Hk $$ %v []
  · ipureintro
    rw [← hv]; rfl
  isplitr [HW1 HW2]
  · isplitl [HK]; · iexact HK
    isplitl [HP]; · iexact HP
    isplitl [HO]; · iexact HO
    isplitl [HR HRback]; · iapply HRback $$ HR
    isplitl [HF]; · iexact HF
    isplitl [HL]; · iexact HL
    isplitl [Hy]; · iexact Hy
    isplitl [Hx] <;> iassumption
  · isplitl [HW1] <;> iassumption

/-- What the first half of the body hands to the second. -/
def Out (t : Fin cfg1.N) (r : Σ' (_ : BitVec 32) (_ : BitVec 32) (_ : Dev nD) (_ : BitVec 32) (_ : BitVec 32) (_ : BitVec 32) (_ : BitVec 32)
    (_ : FVec F S2048x512 .bf16) (_ : FVec F S512x2048 .bf16) (_ : FVec F S576x2048 .bf16) (_ : FVec F S576x512 .bf16), FVec F S576x2048 .f32) : sProp 𝕄 :=
  iprop(∃ w₁ w₂ w₃, ⌜r = ⟨BitVec.ofNat 32 (grid1.coords t 0).val, BitVec.ofNat 32 (grid1.coords t 1).val, c, xW c, w₁, w₂, w₃,
      k1_pay15 (wA m c t), k1_pay16 (wB m c t), XR m c (jOf t.val), k1_pay18 (wA m c t) (XL m c (jOf t.val)), constant S576x2048 .f32 0x00000000#32⟩⌝
    ∗ Got m c t.val ∗ Wts m c t)

/-- The first half, applied to the launch's buffers. -/
abbrev part9 (t : Fin cfg1.N) := k1_part9 (F := F) (grid1.coords t) (Memref.whole main_v19) (Memref.isWhole_whole _)
  (stage1_0 (cfg1.slots t 0)) (hstage1_0 ((cfg1.slots t 0).cast nbuf1_0)) (stage1_1 (cfg1.slots t 1)) (hstage1_1 ((cfg1.slots t 1).cast nbuf1_1))
  (Memref.whole main_v20) (Memref.isWhole_whole _) (Memref.whole cc1_scratch0) (Memref.isWhole_whole _) (Memref.whole cc1_scratch1) (Memref.isWhole_whole _)
  (Memref.whole cc1_scratch2) (Memref.isWhole_whole _) (Memref.whole cc1_scratch3) (Memref.isWhole_whole _)
  (Memref.whole cc1_scratch4) (Memref.isWhole_whole _) (Memref.whole cc1_scratch5) (Memref.isWhole_whole _)
  cc1_scratch6 cc1_scratch7 cc1_scratch8 cc1_scratch9 cc1_scratch10 cc1_scratch11

/-- Nothing is left to run. -/
theorem done {α : Type} (a : α) {Q : α → sProp 𝕄} : Q a ⊢ Wp c (.ret a) Q := fupd_intro

/-- The four loads end the first half. -/
theorem loads_out (t : Fin cfg1.N) {oa ob : Fin 3 → Nat} {ox : Fin 2 → Nat} {ha hb hx hr h1 h2 h3 h4}
    (ea : oa = fun _ => 0) (eb : ob = fun _ => 0) (ex : ox = fun _ => 0) (w₁ w₂ w₃ : BitVec 32) :
    iprop(Got m c t.val ∗ Wts m c t)
      ⊢ Wp c (.op (.load (stage1_0 (cfg1.slots t 0)) (Rect.unit oa ![1, 2048, 512] ha).toLoadRect h1) fun a =>
          .op (.load (stage1_1 (cfg1.slots t 1)) (Rect.unit ob ![1, 512, 2048] hb).toLoadRect h2) fun b =>
          .op (.load xlM (Rect.unit ox ![576, 2048] hx).toLoadRect h3) fun x =>
          .op (.load recvM (Rect.unit (k1_off1 (grid1.coords t)) ![1, 576, 2048] hr).toLoadRect h4) fun v =>
          .ret ⟨BitVec.ofNat 32 (grid1.coords t 0).val, BitVec.ofNat 32 (grid1.coords t 1).val, c, xW c, w₁, w₂, w₃,
            k1_pay15 a, k1_pay16 b, k1_pay17 v, k1_pay18 a x, constant S576x2048 .f32 0x00000000#32⟩) (Out m c t) := by
  iintro H
  iapply (loads m c t ea eb ex) $$ H
  iintro %v %hv H
  iapply (done c _ (Q := Out m c t))
  unfold Out
  iexists w₁, w₂, w₃
  isplitr
  · ipureintro; rw [hv]
  · iexact H

/-- A point in the middle of an expert. -/
theorem in_mid (t : Fin cfg1.N) (h : t.val % 8 ≠ 0) : iprop(Mid m c t.val ∗ Wts m c t) ⊢ Wp c (part9 (F := F) t) (Out m c t) := by
  have e1 : ¬ k1_cond1 (grid1.coords t) = 1#1 := fun e => h (by rw [(tst_start t).1 e])
  have e4 := fun e => h ((tst_first t).1 e)
  simp only [tst] at e4
  rw [Mid_got m c t.val h]
  simp only [part9, k1_part9_eq_skeleton]; unfold k1_part9_skel
  simp only [↓dif_neg e1, ↓dif_neg e4, Prog.lift, Prog.bind_op, Prog.bind_ret, Prog.pure_eq_ret, wp_deviceId]
  exact loads_out m c t zero3 zero3 zero2 _ _ _

/-- An expert's first point: its rows are fetched. -/
theorem got_first (t : Fin cfg1.N) (h : t.val % 8 = 0) {α : Type} {p : PUnit → Prog (TpuEff nD τ sig (Elt F) Λ₀ .tc) α} {Q : α → sProp 𝕄}
    {jj : Fin 4} (hj : jOf t.val = jj) {e : Fin 8} (he : lo c jj = e)
    {sp₁ sp₂ : Space} {s₁ s₂ : Shape} {e₁ e₂ : EltTy} {w₁ : Memref sig .tc sp₁ s₁ e₁} {w₂ : Memref sig .tc sp₂ s₂ e₂} {h1 h2 h3 h4 h5 h6 h7}
    (hp : iprop(Got m c t.val ∗ Wts m c t) ⊢ Wp c (p ⟨⟩) Q) :
    iprop(Mid m c t.val ∗ Wts m c t)
      ⊢ Wp c (.op (.enqueueDma (xpSl e) (.here xlM) (.dma lxS) h1 h2 h3) fun _ => .op (.waitDma2 lxS w₁ xlM h4 h5) fun _ =>
          .op (.waitDma2 (dsem 1 jj) w₂ (recvSl jj) h6 h7) p) Q := by
  have hN : t.val < 32 := lt_of_lt_of_eq t.isLt N_1
  have hv : jj.val = t.val / 8 := by rw [← hj]; show t.val / 8 % 4 = _; omega
  unfold Mid Xls
  rw [if_pos h]
  iintro ⟨⟨#HK, #HP, HO, HR, HF, HL, Hy, Hx, HA⟩, HW⟩
  iapply (recv_blk m c jj (r := (t.val + 7) / 8) (r' := t.val / 8 + 1) (by omega) (by omega) (t.val / 8) he) $$ [HO HR Hx]
  · isplitr; · iexact HK
    isplitl [HO]; · iexact HO
    isplitl [HR] <;> iassumption
  iintro ⟨HO, HR, Hx⟩
  iapply hp
  unfold Got
  rw [hj]
  isplitr [HW]
  · isplitr; · iexact HK
    isplitr; · iexact HP
    isplitl [HO]; · iexact HO
    isplitl [HR]; · iexact HR
    isplitl [HF]; · iexact HF
    isplitl [HL]; · iexact HL
    isplitl [Hy]; · iexact Hy
    isplitl [Hx] <;> iassumption
  · iexact HW

theorem lo_of {x : Fin 2} (hx : xOf c = x) (jj : Fin 4) : lo c jj = slotOf x jj := by unfold lo; rw [hx]
theorem ro_of {x : Fin 2} (hx : xOf c = x) (jj : Fin 4) : ro c jj = slotOf (1 - x) jj := by unfold ro; rw [hx]

set_option maxHeartbeats 400000 in
/-- The first point of an expert, after the start. -/
theorem in_first (t : Fin cfg1.N) (h : t.val % 8 = 0) (h0 : t.val ≠ 0) : iprop(Mid m c t.val ∗ Wts m c t) ⊢ Wp c (part9 (F := F) t) (Out m c t) := by
  have e1 : ¬ k1_cond1 (grid1.coords t) = 1#1 := fun e => h0 ((tst_start t).1 e)
  have e4 := (tst_first t).2 h
  have g0 : tst .eq (BitVec.ofNat 32 (grid1.coords t 0).val) 0#32 = (jOf t.val = 0) := propext (tst_j t 0)
  have g1 : tst .eq (BitVec.ofNat 32 (grid1.coords t 0).val) 1#32 = (jOf t.val = 1) := propext (tst_j t 1)
  have g2 : tst .eq (BitVec.ofNat 32 (grid1.coords t 0).val) 2#32 = (jOf t.val = 2) := propext (tst_j t 2)
  have g3 : tst .eq (BitVec.ofNat 32 (grid1.coords t 0).val) 3#32 = (jOf t.val = 3) := propext (tst_j t 3)
  have gx0 := propext (tst_x0 c)
  have gx1 := propext (tst_x1 c)
  simp only [tst, xW] at e4 g0 g1 g2 g3 gx0 gx1
  simp only [part9, k1_part9_eq_skeleton]; unfold k1_part9_skel
  obtain hx | hx : xOf c = 0 ∨ xOf c = 1 := by generalize xOf c = x; revert x; decide
  all_goals obtain hj | hj | hj | hj : jOf t.val = 0 ∨ jOf t.val = 1 ∨ jOf t.val = 2 ∨ jOf t.val = 3 := by generalize jOf t.val = x; revert x; decide
  all_goals
    simp only [↓dif_neg e1, ↓dif_pos e4, g0, g1, g2, g3, gx0, gx1, hx, hj, Fin.reduceEq, ↓reduceDIte, Prog.lift, Prog.bind_op, Prog.bind_ret, Prog.pure_eq_ret, wp_deviceId]
    refine got_first m c t h hj (lo_of c hx _) ?_
    exact loads_out m c t zero3 zero3 zero2 _ _ _

/-! ## The first point -/

/-- Before the first point. -/
def S0 : sProp 𝕄 :=
  iprop(Kn m c ∗ ow (F := F) c (O₀ c)
    ∗ (fam fun jj => at' c (xpSl (lo c jj)) (XL m c jj)) ∗ (fam fun jj => at' c (xpSl (ro c jj)) (Xs m c (ro c jj)))
    ∗ Own m c 0 ∗ (fam fun jj => any (F := F) c (outSl (ro c jj))) ∗ (fam fun jj => any (F := F) c (recvSl jj))
    ∗ any (F := F) c xlM ∗ any (F := F) c ystM ∗ Slots (F := F) c 0 ∗ any (F := F) c accLM ∗ any (F := F) c accRM
    ∗ (fam fun k => fam fun jj => pos0 (F := F) c k jj) ∗ atPos (ER (F := F)) (barCell c) 0 ∅ 0 ∗ reached (ER (F := F)) (barCell c) 0
    ∗ dutyTok (ER (F := F)) (barCell (peer c)) 0 () ∗ cred (tallyAt (barCell c) () 1)
    ∗ (fam fun jj => tok (F := F) c 0 jj) ∗ (fam fun jj => tok (F := F) (peer c) 1 jj) ∗ (fam fun jj => tok (F := F) c 2 jj) ∗ (fam fun jj => tok (F := F) (peer c) 3 jj)
    ∗ (fam fun jj => crd (F := F) c 1 jj) ∗ (fam fun jj => crd (F := F) c 3 jj)
    ∗ semVal ((c : Thread nD τ), .dma lxS) 0 ∗ semVal ((c : Thread nD τ), .dma loS) 0)

/-- What the barrier unit of device `c` hands its partner. -/
theorem barPay_give : iprop((fam fun jj => any (F := F) c (recvSl jj)) ∗ (fam fun jj => any (F := F) c (outSl (ro c jj)))
    ∗ (fam fun jj => reached (ER (F := F)) (dcell c 1 jj) 0) ∗ (fam fun jj => reached (ER (F := F)) (dcell c 3 jj) 0)) ⊢ barPay (F := F) (peer c) := by
  unfold barPay
  rw [peer_peer]
  simp only [lo_peer]
  exact Entails.of_eq rfl

theorem fam_sep (f g : Fin 4 → sProp 𝕄) : iprop(fam f ∗ fam g) = fam fun jj => iprop(f jj ∗ g jj) := (bigSep_sep' _ _ _).symm

/-- The exchange over the barrier. -/
theorem start_blk {d : Dev nD} (hd : d = peer c) {α : Type} {p : PUnit → Prog (TpuEff nD τ sig (Elt F) Λ₀ .tc) α} {Q : α → sProp 𝕄} :
    S0 m c ⊢ iprop((iprop(Kn m c ∗ Kp (F := F) c ∗ ow (F := F) c (oweD c 0) ∗ Dsp m c 0 ∗ RS m c 0 ∗ FS m c 0
          ∗ ((fam fun jj => crd (F := F) c 0 jj) -∗ Late (F := F) c) ∗ any (F := F) c ystM ∗ any (F := F) c xlM ∗ any (F := F) c accLM ∗ any (F := F) c accRM) -∗ Wp c (p ⟨⟩) Q)
        -∗ Wp c (.op (.semSignal (d : Thread nD τ) barS 1) fun _ => .op (.semWait barS 1) p) Q) := by
  unfold S0
  rw [fam_four (fun k => fam fun jj => pos0 (F := F) c k jj)]
  iintro ⟨#HK, HO, Hxl, Hxr, Hol, Hor, Hrv, HX, HY, HS, HAL, HAR, ⟨Hp0, Hp1, Hp2, Hp3⟩, Hb, -, Htb, Hcb, Ht0, Ht1, Ht2, Ht3, Hc1, Hc3, Hlx, Hlo⟩ Hk
  iapply (signal_step m c hd) $$ [HO Htb Hrv Hor]
  · isplitr; · iexact HK
    isplitl [HO]; · iexact HO
    isplitl [Htb]; · iexact Htb
    iapply (barPay_give c)
    isplitl [Hrv]; · iexact Hrv
    isplitl [Hor]; · iexact Hor
    unfold Kn
    icases HK with ⟨-, -, -, -, -, -, #HR⟩
    isplitr
    · iapply (fam_at (fun k => fam fun jj => reached (ER (F := F)) (dcell c k jj) 0) 1) $$ HR
    · iapply (fam_at (fun k => fam fun jj => reached (ER (F := F)) (dcell c k jj) 0) 3) $$ HR
  iintro HO
  iapply (barrier_step m c) $$ [HO Hcb Hb]
  · isplitr; · iexact HK
    isplitl [HO]; · iexact HO
    isplitl [Hcb] <;> iassumption
  iintro ⟨HO, HP, Hb⟩
  unfold barPay
  icases HP with ⟨Hprv, Hpout, #Hr1, #Hr3⟩
  iapply Hk
  isplitr; · iexact HK
  isplitr
  · unfold Kp; isplitr
    · iexact Hr1
    · iexact Hr3
  isplitl [HO]; · iexact HO
  isplitl [Hxr Hprv Ht0 Ht1]
  · rw [show Dsp m c 0 = fam fun jj => iprop(at' c (xpSl (ro c jj)) (Xs m c (ro c jj)) ∗ any (F := F) (peer c) (recvSl jj) ∗ tok (F := F) c 0 jj ∗ tok (F := F) (peer c) 1 jj)
      from fam_congr fun jj => if_pos (Nat.zero_le _)]
    simp only [← fam_sep]
    isplitl [Hxr]; · iexact Hxr
    isplitl [Hprv]; · iexact Hprv
    isplitl [Ht0] <;> iassumption
  isplitl [Hxl Hc1 Hp1 Hlx]
  · unfold RS
    rw [show Rcv m c 0 = fam fun jj => iprop(crd (F := F) c 1 jj ∗ pos0 (F := F) c 1 jj) from fam_congr fun jj => if_neg (Nat.not_lt_zero _), ← fam_sep]
    isplitl [Hxl]; · iexact Hxl
    isplitl [Hc1 Hp1]
    · isplitl [Hc1] <;> iassumption
    · iexact Hlx
  isplitl [Hol Ht2 Hp2 Hpout Ht3 HS Hlo]
  · unfold FS
    rw [show Cmb (F := F) c 0 2 = fam fun jj => iprop(tok (F := F) c 2 jj ∗ pos0 (F := F) c 2 jj) from fam_congr fun jj => if_pos (Nat.zero_le _),
      show Room (F := F) c 0 = fam fun jj => iprop(any (F := F) (peer c) (outSl (lo c jj)) ∗ tok (F := F) (peer c) 3 jj) from fam_congr fun jj => if_pos (Nat.zero_le _),
      ← fam_sep, ← fam_sep]
    isplitl [Hol]; · iexact Hol
    isplitl [Ht2 Hp2]
    · isplitl [Ht2] <;> iassumption
    isplitl [Hpout Ht3]
    · isplitl [Hpout] <;> iassumption
    isplitl [HS] <;> iassumption
  isplitl [Hp0 Hc3 Hp3 Hb]
  · iintro Hc0
    unfold Late
    isplitl [Hc0]; · iexact Hc0
    isplitl [Hp0]; · iexact Hp0
    isplitl [Hc3]; · iexact Hc3
    isplitl [Hp3] <;> iassumption
  isplitl [HY]; · iexact HY
  isplitl [HX]; · iexact HX
  isplitl [HAL] <;> iassumption

/-- All four dispatch copies. -/
theorem dispatch_all {d₀ d₁ d₂ d₃ : Dev nD} (h0 : d₀ = peer c) (h1 : d₁ = peer c) (h2 : d₂ = peer c) (h3 : d₃ = peer c)
    {e₀ e₁ e₂ e₃ : Fin 8} (he0 : ro c 0 = e₀) (he1 : ro c 1 = e₁) (he2 : ro c 2 = e₂) (he3 : ro c 3 = e₃)
    {s₀ s₁ s₂ s₃ a₀ a₁ a₂ a₃ b₀ b₁ b₂ b₃ l₀ l₁ l₂ l₃} {α : Type} {p : PUnit → Prog (TpuEff nD τ sig (Elt F) Λ₀ .tc) α} {Q : α → sProp 𝕄} :
    iprop(Kn m c ∗ Kp (F := F) c ∗ ow (F := F) c (oweD c 0) ∗ Dsp m c 0)
      ⊢ iprop((iprop(ow (F := F) c (oweC c 0) ∗ (fam fun jj => crd (F := F) c 0 jj)) -∗ Wp c (p ⟨⟩) Q)
        -∗ Wp c (.op (.enqueueDma (xpSl e₀) (.remote (d₀ : Thread nD τ) (recvSl 0) (.dma (dsem 0 0)) s₀) (.dma (dsem 1 0)) a₀ b₀ l₀) fun _ =>
          .op (.enqueueDma (xpSl e₁) (.remote (d₁ : Thread nD τ) (recvSl 1) (.dma (dsem 0 1)) s₁) (.dma (dsem 1 1)) a₁ b₁ l₁) fun _ =>
          .op (.enqueueDma (xpSl e₂) (.remote (d₂ : Thread nD τ) (recvSl 2) (.dma (dsem 0 2)) s₂) (.dma (dsem 1 2)) a₂ b₂ l₂) fun _ =>
          .op (.enqueueDma (xpSl e₃) (.remote (d₃ : Thread nD τ) (recvSl 3) (.dma (dsem 0 3)) s₃) (.dma (dsem 1 3)) a₃ b₃ l₃) p) Q) := by
  iintro ⟨#HK, #HP, HO, HD⟩ Hk
  iapply (dispatch_blk m c 0 (n := 0) (n' := 1) rfl rfl he0 h0) $$ [HO HD]
  · isplitr; · iexact HK
    isplitr; · iexact HP
    isplitl [HO] <;> iassumption
  iintro ⟨HO, HD⟩
  iapply (dispatch_blk m c 1 (n := 1) (n' := 2) rfl rfl he1 h1) $$ [HO HD]
  · isplitr; · iexact HK
    isplitr; · iexact HP
    isplitl [HO] <;> iassumption
  iintro ⟨HO, HD⟩
  iapply (dispatch_blk m c 2 (n := 2) (n' := 3) rfl rfl he2 h2) $$ [HO HD]
  · isplitr; · iexact HK
    isplitr; · iexact HP
    isplitl [HO] <;> iassumption
  iintro ⟨HO, HD⟩
  iapply (dispatch_blk m c 3 (n := 3) (n' := 4) rfl rfl he3 h3) $$ [HO HD]
  · isplitr; · iexact HK
    isplitr; · iexact HP
    isplitl [HO] <;> iassumption
  iintro ⟨HO, HD⟩
  iapply Hk
  isplitl [HO]
  · rw [← oweD_done]; iexact HO
  · iapply (Entails.of_eq (fam_congr (f := Dsp1 m c 4) (g := fun jj => crd (F := F) c 0 jj) fun jj => if_neg (by omega))) $$ HD

/-- The barrier and the dispatch copies at the first point. -/
theorem got_start (t : Fin cfg1.N) (h : t.val = 0) {d d₀ d₁ d₂ d₃ : Dev nD} (hd : d = peer c) (h0 : d₀ = peer c) (h1 : d₁ = peer c) (h2 : d₂ = peer c) (h3 : d₃ = peer c)
    {e₀ e₁ e₂ e₃ : Fin 8} (he0 : ro c 0 = e₀) (he1 : ro c 1 = e₁) (he2 : ro c 2 = e₂) (he3 : ro c 3 = e₃)
    {s₀ s₁ s₂ s₃ a₀ a₁ a₂ a₃ b₀ b₁ b₂ b₃ l₀ l₁ l₂ l₃} {α : Type} {p : PUnit → Prog (TpuEff nD τ sig (Elt F) Λ₀ .tc) α} {Q : α → sProp 𝕄}
    (hp : iprop(Mid m c t.val ∗ Wts m c t) ⊢ Wp c (p ⟨⟩) Q) :
    iprop(S0 m c ∗ Wts m c t) ⊢ Wp c (.op (.semSignal (d : Thread nD τ) barS 1) fun _ => .op (.semWait barS 1) fun _ =>
          .op (.enqueueDma (xpSl e₀) (.remote (d₀ : Thread nD τ) (recvSl 0) (.dma (dsem 0 0)) s₀) (.dma (dsem 1 0)) a₀ b₀ l₀) fun _ =>
          .op (.enqueueDma (xpSl e₁) (.remote (d₁ : Thread nD τ) (recvSl 1) (.dma (dsem 0 1)) s₁) (.dma (dsem 1 1)) a₁ b₁ l₁) fun _ =>
          .op (.enqueueDma (xpSl e₂) (.remote (d₂ : Thread nD τ) (recvSl 2) (.dma (dsem 0 2)) s₂) (.dma (dsem 1 2)) a₂ b₂ l₂) fun _ =>
          .op (.enqueueDma (xpSl e₃) (.remote (d₃ : Thread nD τ) (recvSl 3) (.dma (dsem 0 3)) s₃) (.dma (dsem 1 3)) a₃ b₃ l₃) p) Q := by
  iintro ⟨HS, HW⟩
  iapply (start_blk m c hd) $$ HS
  iintro ⟨#HK, #HP, HO, HD, HR, HF, HL, HY, HX, HA⟩
  iapply (dispatch_all m c h0 h1 h2 h3 he0 he1 he2 he3) $$ [HO HD]
  · isplitr; · iexact HK
    isplitr; · iexact HP
    isplitl [HO] <;> iassumption
  iintro ⟨HO, HC⟩
  iapply hp
  unfold Mid Xls Acs
  rw [h, if_pos rfl, if_pos rfl]
  isplitr [HW]
  · isplitr; · iexact HK
    isplitr; · iexact HP
    isplitl [HO]; · iexact HO
    isplitl [HR]; · iexact HR
    isplitl [HF]; · iexact HF
    isplitl [HL HC]; · iapply HL $$ HC
    isplitl [HY]; · iexact HY
    isplitl [HX] <;> iassumption
  · iexact HW

set_option maxHeartbeats 400000 in
theorem in_start (t : Fin cfg1.N) (h : t.val = 0) : iprop(S0 m c ∗ Wts m c t) ⊢ Wp c (part9 (F := F) t) (Out m c t) := by
  have h8 : t.val % 8 = 0 := by rw [h]
  have hj : jOf t.val = 0 := by rw [h]; rfl
  have e1 := (tst_start t).2 h
  have e4 := (tst_first t).2 h8
  have c0 := propext (cond_x0 c).1
  have c1 := propext (cond_x1 c).1
  have g0 : tst .eq (BitVec.ofNat 32 (grid1.coords t 0).val) 0#32 = (jOf t.val = 0) := propext (tst_j t 0)
  have g1 : tst .eq (BitVec.ofNat 32 (grid1.coords t 0).val) 1#32 = (jOf t.val = 1) := propext (tst_j t 1)
  have g2 : tst .eq (BitVec.ofNat 32 (grid1.coords t 0).val) 2#32 = (jOf t.val = 2) := propext (tst_j t 2)
  have g3 : tst .eq (BitVec.ofNat 32 (grid1.coords t 0).val) 3#32 = (jOf t.val = 3) := propext (tst_j t 3)
  have gx0 := propext (tst_x0 c)
  have gx1 := propext (tst_x1 c)
  simp only [tst, xW] at e4 g0 g1 g2 g3 gx0 gx1
  simp only [part9, k1_part9_eq_skeleton]; unfold k1_part9_skel
  obtain hx | hx : xOf c = 0 ∨ xOf c = 1 := by generalize xOf c = x; revert x; decide
  all_goals
    simp only [↓dif_pos e1, ↓dif_pos e4, c0, c1, g0, g1, g2, g3, gx0, gx1, hx, hj, Fin.reduceEq, ↓reduceDIte, k1_part1_eq_skeleton, k1_part2_eq_skeleton, k1_part1_skel, k1_part2_skel,
      semSignalWord, semWaitWord, Prog.lift, Prog.bind_op, Prog.bind_ret, Prog.pure_eq_ret, wp_deviceId]
    refine got_start m c t h (by exact Fin.ext (dev1 c)) (by exact Fin.ext (dev1 c)) (by exact Fin.ext (dev1 c)) (by exact Fin.ext (dev1 c)) (by exact Fin.ext (dev1 c)) (ro_of c hx _) (ro_of c hx _) (ro_of c hx _) (ro_of c hx _) ?_
    refine got_first m c t h8 hj (lo_of c hx _) ?_
    exact loads_out m c t zero3 zero3 zero2 _ _ _

end Cert.Moe

end
-- ==== Proof.BodyOut.lean ====
/-
  The second half of the body: the accumulation of every point, the hand-over at an expert's last point, and the waits at the
  last point of all.
-/
module

public import proofs.«01_k».proof.Proof.BodyIn

@[expose] public section

set_option maxRecDepth 20000

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

/-- Both accumulators, after point `t`. -/
def Acd (t : ℕ) : sProp 𝕄 := iprop(at' c accLM (acc m c (XL m c) t) ∗ at' c accRM (acc m c (XR m c) t))
/-- After the accumulation of point `t`; `n` experts are handed over. -/
def Dn (t n : ℕ) : sProp 𝕄 :=
  iprop(Kn m c ∗ Kp (F := F) c ∗ ow (F := F) c (oweC c n) ∗ RS m c (t / 8 + 1) ∗ FS m c n ∗ Late (F := F) c ∗ any (F := F) c ystM
    ∗ at' c xlM (XL m c (jOf t)) ∗ Acd m c t)

/-- The end of a point that is not the last. -/
theorem Dn_mid (t : ℕ) : Dn m c t ((t + 1) / 8) ⊢ Mid m c (t + 1) := by
  unfold Dn Mid Xls Acs Acd
  rw [show (t + 1 + 7) / 8 = t / 8 + 1 by omega, show t + 1 - 1 = t from rfl]
  iintro ⟨HK, HP, HO, HR, HF, HL, HY, HX, HA1, HA2⟩
  isplitl [HK]; · iexact HK
  isplitl [HP]; · iexact HP
  isplitl [HO]; · iexact HO
  isplitl [HR]; · iexact HR
  isplitl [HF]; · iexact HF
  isplitl [HL]; · iexact HL
  isplitl [HY]; · iexact HY
  by_cases h : (t + 1) % 8 = 0
  · rw [if_pos h, if_pos h]
    isplitl [HX]; · iexists _; iexact HX
    isplitl [HA1]
    · iexists _; iexact HA1
    · iexists _; iexact HA2
  · rw [if_neg h, if_neg h, show jOf (t + 1) = jOf t from Fin.ext (by show (t + 1) / 8 % 4 = t / 8 % 4; omega)]
    isplitl [HX]; · iexact HX
    isplitl [HA1] <;> iassumption

section Parts

variable {α : Type} {p : PUnit → Prog (TpuEff nD τ sig (Elt F) Λ₀ .tc) α}

/-- An expert's first block of hidden features. -/
theorem first_blk (t : Fin cfg1.N) (h : t.val % 8 = 0) {o : Fin 2 → Nat} (ho : o = fun _ => 0) {zl zr : Vec F S576x2048 .f32}
    (hl : zl = acc m c (XL m c) t.val) (hr : zr = acc m c (XR m c) t.val) {hb hl1 hl2 hs1 hs2 hm1 hm2}
    {Q : α → sProp 𝕄} (hp : iprop(Dn m c t.val (t.val / 8) ∗ Wts m c t) ⊢ Wp c (p ⟨⟩) Q) :
    iprop(Got m c t.val ∗ Wts m c t)
      ⊢ Wp c (.op (.load accLM (Rect.unit o ![576, 2048] hb).toLoadRect hl1) fun _ => .op (.store accLM (Rect.unit o ![576, 2048] hb) zl Finset.univ hs1 hm1) fun _ =>
          .op (.load accRM (Rect.unit o ![576, 2048] hb).toLoadRect hl2) fun _ => .op (.store accRM (Rect.unit o ![576, 2048] hb) zr Finset.univ hs2 hm2) p) Q := by
  subst hl hr
  unfold Got Acs Dn Acd at *
  rw [if_pos h]
  iintro ⟨⟨HK, HP, HO, HR, HF, HL, HY, HX, ⟨%A, HA1⟩, ⟨%B, HA2⟩⟩, HW⟩
  iapply (ld_full c (s := S576x2048) ho A) $$ HA1
  iintro HA1
  iapply (st_full c (s := S576x2048) ho A) $$ HA1
  iintro HA1
  iapply (ld_full c (s := S576x2048) ho B) $$ HA2
  iintro HA2
  iapply (st_full c (s := S576x2048) ho B) $$ HA2
  iintro HA2
  iapply hp
  isplitr [HW]
  · isplitl [HK]; · iexact HK
    isplitl [HP]; · iexact HP
    isplitl [HO]; · iexact HO
    isplitl [HR]; · iexact HR
    isplitl [HF]; · iexact HF
    isplitl [HL]; · iexact HL
    isplitl [HY]; · iexact HY
    isplitl [HX]; · iexact HX
    isplitl [HA1] <;> iassumption
  · iexact HW

/-- A later block. -/
theorem later_blk (t : Fin cfg1.N) (h : t.val % 8 ≠ 0) {o : Fin 2 → Nat} (ho : o = fun _ => 0) {zl zr : Vec F S576x2048 .f32 → Vec F S576x2048 .f32}
    (hl : zl (acc m c (XL m c) (t.val - 1)) = acc m c (XL m c) t.val) (hr : zr (acc m c (XR m c) (t.val - 1)) = acc m c (XR m c) t.val)
    {hb hl1 hl2 hl3 hl4 hs1 hs2 hm1 hm2}
    {Q : α → sProp 𝕄} (hp : iprop(Dn m c t.val (t.val / 8) ∗ Wts m c t) ⊢ Wp c (p ⟨⟩) Q) :
    iprop(Got m c t.val ∗ Wts m c t)
      ⊢ Wp c (.op (.load accLM (Rect.unit o ![576, 2048] hb).toLoadRect hl1) fun a => .op (.load accLM (Rect.unit o ![576, 2048] hb).toLoadRect hl2) fun _ =>
          .op (.store accLM (Rect.unit o ![576, 2048] hb) (zl a) Finset.univ hs1 hm1) fun _ =>
          .op (.load accRM (Rect.unit o ![576, 2048] hb).toLoadRect hl3) fun b => .op (.load accRM (Rect.unit o ![576, 2048] hb).toLoadRect hl4) fun _ =>
          .op (.store accRM (Rect.unit o ![576, 2048] hb) (zr b) Finset.univ hs2 hm2) p) Q := by
  unfold Got Acs Dn Acd at *
  rw [if_neg h]
  iintro ⟨⟨HK, HP, HO, HR, HF, HL, HY, HX, HA1, HA2⟩, HW⟩
  iapply (ld_full c (s := S576x2048) ho (acc m c (XL m c) (t.val - 1))) $$ HA1
  iintro HA1
  iapply (ld_full c (s := S576x2048) ho (acc m c (XL m c) (t.val - 1))) $$ HA1
  iintro HA1
  iapply (st_full c (s := S576x2048) ho (acc m c (XL m c) (t.val - 1))) $$ HA1
  iintro HA1
  iapply (ld_full c (s := S576x2048) ho (acc m c (XR m c) (t.val - 1))) $$ HA2
  iintro HA2
  iapply (ld_full c (s := S576x2048) ho (acc m c (XR m c) (t.val - 1))) $$ HA2
  iintro HA2
  iapply (st_full c (s := S576x2048) ho (acc m c (XR m c) (t.val - 1))) $$ HA2
  iintro HA2
  rw [hl, hr]
  iapply hp
  isplitr [HW]
  · isplitl [HK]; · iexact HK
    isplitl [HP]; · iexact HP
    isplitl [HO]; · iexact HO
    isplitl [HR]; · iexact HR
    isplitl [HF]; · iexact HF
    isplitl [HL]; · iexact HL
    isplitl [HY]; · iexact HY
    isplitl [HX]; · iexact HX
    isplitl [HA1] <;> iassumption
  · iexact HW

/-! ## Handing over -/

/-- The slot of the send buffer expert `jj` uses. -/
def bOf (jj : Fin 4) : Fin 2 := ⟨jj.val % 2, Nat.mod_lt _ (by decide)⟩

/-- The device's own result is rounded and copied out. -/
theorem own_blk (jj : Fin 4) {n n' : ℕ} (hn : n = jj.val) (hn' : n' = jj.val + 1) {e : Fin 8} (he : lo c jj = e) {o : Fin 2 → Nat} (ho : o = fun _ => 0)
    {z : Vec F S576x2048 .f32 → Blk F} (A : Vec F S576x2048 .f32) (hz : z A = YL m c jj)
    {sp₁ : Space} {s₁ : Shape} {e₁ : EltTy} {w₁ : Memref sig .tc sp₁ s₁ e₁} {hb hl1 hl2 hs1 hm1 h1 h2 h3 h4 h5} {Q : α → sProp 𝕄} :
    iprop(Kn m c ∗ ow (F := F) c (oweC c n) ∗ Own m c n ∗ semVal ((c : Thread nD τ), .dma loS) 0 ∗ any (F := F) c ystM ∗ at' c accLM A)
      ⊢ iprop((iprop(ow (F := F) c (oweC c n) ∗ Own m c n' ∗ semVal ((c : Thread nD τ), .dma loS) 0 ∗ any (F := F) c ystM ∗ at' c accLM A) -∗ Wp c (p ⟨⟩) Q)
        -∗ Wp c (.op (.load accLM (Rect.unit o ![576, 2048] hb).toLoadRect hl1) fun a => .op (.load ystM (Rect.unit o ![576, 2048] hb).toLoadRect hl2) fun _ =>
          .op (.store ystM (Rect.unit o ![576, 2048] hb) (z a) Finset.univ hs1 hm1) fun _ =>
          .op (.enqueueDma ystM (.here (outSl e)) (.dma loS) h1 h2 h3) fun _ => .op (.waitDma2 loS w₁ (outSl e) h4 h5) p) Q) := by
  iintro ⟨#HK, HO, HF, Hs, ⟨%B, HY⟩, HA⟩ Hk
  iapply (ld_full c (s := S576x2048) ho A) $$ HA
  iintro HA
  iapply (ld_full c (s := S576x2048) ho B) $$ HY
  iintro HY
  iapply (st_full c (s := S576x2048) ho B) $$ HY
  iintro HY
  rw [hz]
  iapply (out_blk m c jj hn hn' he) $$ [HO HF Hs HY]
  · isplitr; · iexact HK
    isplitl [HO]; · iexact HO
    isplitl [HF]; · iexact HF
    isplitl [Hs] <;> iassumption
  iintro ⟨HO, HF, Hs, HY⟩
  iapply Hk
  isplitl [HO]; · iexact HO
  isplitl [HF]; · iexact HF
  isplitl [Hs]; · iexact Hs
  isplitl [HY] <;> iassumption

/-- The partner's result is rounded and sent. -/
theorem far_blk (jj : Fin 4) {n n' : ℕ} (hn : n = jj.val) (hn' : n' = jj.val + 1) {e : Fin 8} (he : lo c jj = e) {o : Fin 2 → Nat} (ho : o = fun _ => 0)
    {z : Vec F S576x2048 .f32 → Vec F S1x576x2048 .bf16} (A : Vec F S576x2048 .f32)
    (hz : (fun x => z A (Shape.reshapeEquiv (Shape.Squeezes.numel_eq squeezes_S1x576x2048_S576x2048) x)) = YR m c jj)
    {d : Dev nD} (hd : d = peer c) {hb hl1 hl2 hs1 hm1 hsc h1 h2 h3} {Q : α → sProp 𝕄} :
    iprop(Kn m c ∗ Kp (F := F) c ∗ ow (F := F) c (oweC c n) ∗ Cmb (F := F) c n 1 ∗ Room (F := F) c n ∗ any (F := F) c (sendSl (bOf jj)) ∗ at' c accRM A)
      ⊢ iprop((iprop(ow (F := F) c (oweC c n') ∗ Cmb (F := F) c n' 2 ∗ Room (F := F) c n' ∗ at' c accRM A) -∗ Wp c (p ⟨⟩) Q)
        -∗ Wp c (.op (.load accRM (Rect.unit o ![576, 2048] hb).toLoadRect hl1) fun a => .op (.load sendM (r2 (bOf jj)).toLoadRect hl2) fun _ =>
          .op (.store sendM (r2 (bOf jj)) (z a) Finset.univ hs1 hm1) fun _ =>
          .op (.enqueueDma (sendSl (bOf jj)) (.remote (d : Thread nD τ) (outSl e) (.dma (dsem 2 jj)) hsc) (.dma (dsem 3 jj)) h1 h2 h3) p) Q) := by
  iintro ⟨#HK, #HP, HO, HC, HR, ⟨%B, HS⟩, HA⟩ Hk
  iapply (ld_full c (s := S576x2048) ho A) $$ HA
  iintro HA
  iapply (ld_slot c (M := sendM) (off := ![(bOf jj).val, 0, 0]) rfl B) $$ HS
  iintro %v - HS
  iapply (st_slot c (M := sendM) (r := r2 (bOf jj)) B) $$ HS
  iintro HS
  rw [hz]
  iapply (comb_blk m c jj hn hn' he rfl hd (YR m c jj) rfl) $$ [HO HC HR HS]
  · isplitr; · iexact HK
    isplitr; · iexact HP
    isplitl [HO]; · iexact HO
    isplitl [HC]; · iexact HC
    isplitl [HR] <;> iassumption
  iintro ⟨HO, HC, HR⟩
  iapply Hk
  isplitl [HO]; · iexact HO
  isplitl [HC]; · iexact HC
  isplitl [HR] <;> iassumption

/-- The slot of one of the first two experts. -/
theorem Slots_take (jj : Fin 4) (hj : jj.val < 2) {n n' : ℕ} (hn : n = jj.val) (hn' : n' = jj.val + 1) :
    Slots (F := F) c n ⊢ iprop(any (F := F) c (sendSl (bOf jj)) ∗ Slots (F := F) c n') := by
  subst hn hn'
  obtain rfl | rfl : jj = 0 ∨ jj = 1 := by revert jj; decide
  · show Slots (F := F) c 0 ⊢ iprop(any (F := F) c (sendSl 0) ∗ Slots (F := F) c 1)
    unfold Slots
    rw [if_pos (le_refl _), if_pos (by decide), if_neg (by decide), if_pos (by decide)]
    iintro ⟨H0, H1⟩
    isplitl [H0]; · iexact H0
    isplitr; · iempintro
    iexact H1
  · show Slots (F := F) c 1 ⊢ iprop(any (F := F) c (sendSl 1) ∗ Slots (F := F) c 2)
    unfold Slots
    rw [if_neg (by decide), if_pos (by decide), if_neg (by decide), if_neg (by decide)]
    iintro ⟨H0, H1⟩
    isplitl [H1]; · iexact H1
    isplitr
    · iempintro
    · iempintro
theorem Slots_late {n n' : ℕ} (h : 2 ≤ n) (h' : 2 ≤ n') : Slots (F := F) c n = Slots (F := F) c n' := by
  unfold Slots
  rw [if_neg (by omega), if_neg (by omega), if_neg (by omega), if_neg (by omega)]

/-- One of the first two experts is handed over. -/
theorem hand_early (t : Fin cfg1.N) (h7' : t.val % 8 = 7) {jj : Fin 4} (hj : jOf t.val = jj) (hjj : jj.val < 2) {e : Fin 8} (he : lo c jj = e) {o : Fin 2 → Nat} (ho : o = fun _ => 0)
    {zl : Vec F S576x2048 .f32 → Blk F} {zr : Vec F S576x2048 .f32 → Vec F S1x576x2048 .bf16} (hzl : ∀ A, zl A = k1_pay7 A)
    (hzr : ∀ A, (fun x => zr A (Shape.reshapeEquiv (Shape.Squeezes.numel_eq squeezes_S1x576x2048_S576x2048) x)) = k1_pay7 A)
    {d : Dev nD} (hd : d = peer c) {sp₁ : Space} {s₁ : Shape} {e₁ : EltTy} {w₁ : Memref sig .tc sp₁ s₁ e₁}
    {hb hl1 hl2 hs1 hm1 h1 h2 h3 h4 h5 gl1 gl2 gs1 gm1 gsc g1 g2 g3} {Q : α → sProp 𝕄}
    (hp : iprop(Dn m c t.val ((t.val + 1) / 8) ∗ Wts m c t) ⊢ Wp c (p ⟨⟩) Q) :
    iprop(Dn m c t.val (t.val / 8) ∗ Wts m c t)
      ⊢ Wp c (.op (.load accLM (Rect.unit o ![576, 2048] hb).toLoadRect hl1) fun a => .op (.load ystM (Rect.unit o ![576, 2048] hb).toLoadRect hl2) fun _ =>
          .op (.store ystM (Rect.unit o ![576, 2048] hb) (zl a) Finset.univ hs1 hm1) fun _ =>
          .op (.enqueueDma ystM (.here (outSl e)) (.dma loS) h1 h2 h3) fun _ => .op (.waitDma2 loS w₁ (outSl e) h4 h5) fun _ =>
          .op (.load accRM (Rect.unit o ![576, 2048] hb).toLoadRect gl1) fun a => .op (.load sendM (r2 (bOf jj)).toLoadRect gl2) fun _ =>
          .op (.store sendM (r2 (bOf jj)) (zr a) Finset.univ gs1 gm1) fun _ =>
          .op (.enqueueDma (sendSl (bOf jj)) (.remote (d : Thread nD τ) (outSl e) (.dma (dsem 2 jj)) gsc) (.dma (dsem 3 jj)) g1 g2 g3) p) Q := by
  have hlt : t.val < 32 := lt_of_lt_of_eq t.isLt N_1
  have hn : t.val / 8 = jj.val := by rw [← hj]; show _ = t.val / 8 % 4; omega
  have hn' : (t.val + 1) / 8 = jj.val + 1 := by omega
  have ht : t.val = 8 * jj.val + 7 := by omega
  have hYL : zl (acc m c (XL m c) t.val) = YL m c jj := by rw [hzl, ht]; rfl
  have hYR := (hzr (acc m c (XR m c) t.val)).trans (show _ = YR m c jj by rw [ht]; rfl)
  unfold Dn Acd FS at *
  iintro ⟨⟨#HK, #HP, HO, HR, ⟨HOw, HC, HRm, HS, Hlo⟩, HL, HY, HX, HA1, HA2⟩, HW⟩
  iapply (own_blk m c jj hn hn' he ho _ hYL) $$ [HO HOw Hlo HY HA1]
  · isplitr; · iexact HK
    isplitl [HO]; · iexact HO
    isplitl [HOw]; · iexact HOw
    isplitl [Hlo]; · iexact Hlo
    isplitl [HY] <;> iassumption
  iintro ⟨HO, HOw, Hlo, HY, HA1⟩
  icases (Entails.of_eq (Cmb_early (F := F) c (n := t.val / 8) (by omega))) $$ HC with HC
  icases (Slots_take (F := F) c jj hjj hn hn') $$ HS with ⟨HB, HS⟩
  iapply (far_blk m c jj hn hn' he ho _ hYR hd) $$ [HO HC HRm HB HA2]
  · isplitr; · iexact HK
    isplitr; · iexact HP
    isplitl [HO]; · iexact HO
    isplitl [HC]; · iexact HC
    isplitl [HRm]; · iexact HRm
    isplitl [HB] <;> iassumption
  iintro ⟨HO, HC, HRm, HA2⟩
  iapply hp
  isplitr [HW]
  · isplitr; · iexact HK
    isplitr; · iexact HP
    isplitl [HO]; · iexact HO
    isplitl [HR]; · iexact HR
    isplitl [HOw HC HRm HS Hlo]
    · isplitl [HOw]; · iexact HOw
      isplitl [HC]; · iexact HC
      isplitl [HRm]; · iexact HRm
      isplitl [HS] <;> iassumption
    isplitl [HL]; · iexact HL
    isplitl [HY]; · iexact HY
    isplitl [HX]; · iexact HX
    isplitl [HA1] <;> iassumption
  · iexact HW

/-- One of the last two experts is handed over: the copy that used its slot has to leave first. -/
theorem hand_late (t : Fin cfg1.N) (h7' : t.val % 8 = 7) {jj : Fin 4} (hj : jOf t.val = jj) (i : Fin 4) (hi : jj.val = i.val + 2) {e : Fin 8} (he : lo c jj = e) {o : Fin 2 → Nat} (ho : o = fun _ => 0)
    {zl : Vec F S576x2048 .f32 → Blk F} {zr : Vec F S576x2048 .f32 → Vec F S1x576x2048 .bf16} (hzl : ∀ A, zl A = k1_pay7 A)
    (hzr : ∀ A, (fun x => zr A (Shape.reshapeEquiv (Shape.Squeezes.numel_eq squeezes_S1x576x2048_S576x2048) x)) = k1_pay7 A)
    {d : Dev nD} (hd : d = peer c) {sp₂ sp₃ : Space} {s₂ s₃ : Shape} {e₂ e₃ : EltTy} {w₂ : Memref sig .tc sp₂ s₂ e₂} {w₃ : Memref sig .tc sp₃ s₃ e₃} {h6 h7}
    (hN : w₃.view.dmaCredit = N) {sp₁ : Space} {s₁ : Shape} {e₁ : EltTy} {w₁ : Memref sig .tc sp₁ s₁ e₁}
    {hb hl1 hl2 hs1 hm1 h1 h2 h3 h4 h5 gl1 gl2 gs1 gm1 gsc g1 g2 g3} {Q : α → sProp 𝕄}
    (hp : iprop(Dn m c t.val ((t.val + 1) / 8) ∗ Wts m c t) ⊢ Wp c (p ⟨⟩) Q) :
    iprop(Dn m c t.val (t.val / 8) ∗ Wts m c t)
      ⊢ Wp c (.op (.load accLM (Rect.unit o ![576, 2048] hb).toLoadRect hl1) fun a => .op (.load ystM (Rect.unit o ![576, 2048] hb).toLoadRect hl2) fun _ =>
          .op (.store ystM (Rect.unit o ![576, 2048] hb) (zl a) Finset.univ hs1 hm1) fun _ =>
          .op (.enqueueDma ystM (.here (outSl e)) (.dma loS) h1 h2 h3) fun _ => .op (.waitDma2 loS w₁ (outSl e) h4 h5) fun _ =>
          .op (.waitDma2 (dsem 2 i) w₂ w₃ h6 h7) fun _ =>
          .op (.load accRM (Rect.unit o ![576, 2048] hb).toLoadRect gl1) fun a => .op (.load sendM (r2 (bOf jj)).toLoadRect gl2) fun _ =>
          .op (.store sendM (r2 (bOf jj)) (zr a) Finset.univ gs1 gm1) fun _ =>
          .op (.enqueueDma (sendSl (bOf jj)) (.remote (d : Thread nD τ) (outSl e) (.dma (dsem 2 jj)) gsc) (.dma (dsem 3 jj)) g1 g2 g3) p) Q := by
  have hlt : t.val < 32 := lt_of_lt_of_eq t.isLt N_1
  have hn : t.val / 8 = jj.val := by rw [← hj]; show _ = t.val / 8 % 4; omega
  have hn' : (t.val + 1) / 8 = jj.val + 1 := by omega
  have ht : t.val = 8 * jj.val + 7 := by omega
  have hYL : zl (acc m c (XL m c) t.val) = YL m c jj := by rw [hzl, ht]; rfl
  have hYR := (hzr (acc m c (XR m c) t.val)).trans (show _ = YR m c jj by rw [ht]; rfl)
  unfold Dn Acd FS at *
  iintro ⟨⟨#HK, #HP, HO, HR, ⟨HOw, HC, HRm, HS, Hlo⟩, HL, HY, HX, HA1, HA2⟩, HW⟩
  iapply (own_blk m c jj hn hn' he ho _ hYL) $$ [HO HOw Hlo HY HA1]
  · isplitr; · iexact HK
    isplitl [HO]; · iexact HO
    isplitl [HOw]; · iexact HOw
    isplitl [Hlo]; · iexact Hlo
    isplitl [HY] <;> iassumption
  iintro ⟨HO, HOw, Hlo, HY, HA1⟩
  iapply (free_blk (F := F) m c i (n := t.val / 8) (by omega) (by omega) (b := bOf jj) (by show jj.val % 2 = i.val % 2; omega) hN) $$ [HO HC]
  · isplitr; · iexact HK
    isplitl [HO] <;> iassumption
  iintro ⟨HO, HC, HB⟩
  icases (Entails.of_eq (Slots_late (F := F) c (n := t.val / 8) (n' := (t.val + 1) / 8) (by omega) (by omega))) $$ HS with HS
  iapply (far_blk m c jj hn hn' he ho _ hYR hd) $$ [HO HC HRm HB HA2]
  · isplitr; · iexact HK
    isplitr; · iexact HP
    isplitl [HO]; · iexact HO
    isplitl [HC]; · iexact HC
    isplitl [HRm]; · iexact HRm
    isplitl [HB] <;> iassumption
  iintro ⟨HO, HC, HRm, HA2⟩
  iapply hp
  isplitr [HW]
  · isplitr; · iexact HK
    isplitr; · iexact HP
    isplitl [HO]; · iexact HO
    isplitl [HR]; · iexact HR
    isplitl [HOw HC HRm HS Hlo]
    · isplitl [HOw]; · iexact HOw
      isplitl [HC]; · iexact HC
      isplitl [HRm]; · iexact HRm
      isplitl [HS] <;> iassumption
    isplitl [HL]; · iexact HL
    isplitl [HY]; · iexact HY
    isplitl [HX]; · iexact HX
    isplitl [HA1] <;> iassumption
  · iexact HW

/-! ## The last point -/

/-- After the last point. -/
def Sfin : sProp 𝕄 :=
  iprop(Kn m c ∗ ow (F := F) c 0 ∗ RS m c 4 ∗ Own m c 4 ∗ semVal ((c : Thread nD τ), .dma loS) 0
    ∗ any (F := F) c ystM ∗ any (F := F) c xlM ∗ any (F := F) c accLM ∗ any (F := F) c accRM ∗ any (F := F) c (sendSl 0) ∗ any (F := F) c (sendSl 1)
    ∗ (fam fun jj => dmaPay m c 0 jj) ∗ (fam fun jj => dmaPay m c 3 jj)
    ∗ (fam fun jj => pos1 (F := F) c 0 jj) ∗ (fam fun jj => pos1 (F := F) c 2 jj) ∗ (fam fun jj => pos1 (F := F) c 3 jj)
    ∗ atPos (ER (F := F)) (barCell c) 1 ∅ 0)

/-- With nothing owed, any wait is allowed. -/
theorem mayWait_end (s : DmaSem sig) : (levAts L lv : sProp 𝕄) ⊢ MayWait (c : Thread nD τ) (.dma s) () (oweC c 4) :=
  mayWait_of c _ _ fun g u hg => absurd hg (by rw [oweC_done]; exact Nat.lt_irrefl 0)

/-- Four waits on one family of counters. -/
theorem wait_four (k : Fin 4) {sp₀ sp₁ sp₂ sp₃ sq₀ sq₁ sq₂ sq₃ : Space} {s₀ s₁ s₂ s₃ r₀ r₁ r₂ r₃ : Shape} {e₀ e₁ e₂ e₃ f₀ f₁ f₂ f₃ : EltTy}
    {v₀ : Memref sig .tc sp₀ s₀ e₀} {v₁ : Memref sig .tc sp₁ s₁ e₁} {v₂ : Memref sig .tc sp₂ s₂ e₂} {v₃ : Memref sig .tc sp₃ s₃ e₃}
    {w₀ : Memref sig .tc sq₀ r₀ f₀} {w₁ : Memref sig .tc sq₁ r₁ f₁} {w₂ : Memref sig .tc sq₂ r₂ f₂} {w₃ : Memref sig .tc sq₃ r₃ f₃}
    (h₀ : w₀.view.dmaCredit = N) (h₁ : w₁.view.dmaCredit = N) (h₂ : w₂.view.dmaCredit = N) (h₃ : w₃.view.dmaCredit = N) {a₀ a₁ a₂ a₃ b₀ b₁ b₂ b₃}
    {Q : α → sProp 𝕄} :
    iprop(Kn m c ∗ ow (F := F) c (oweC c 4) ∗ (fam fun jj => crd (F := F) c k jj) ∗ (fam fun jj => pos0 (F := F) c k jj))
      ⊢ iprop((iprop(ow (F := F) c (oweC c 4) ∗ (fam fun jj => dmaPay m c k jj) ∗ (fam fun jj => pos1 (F := F) c k jj)) -∗ Wp c (p ⟨⟩) Q)
        -∗ Wp c (.op (.waitDma2 (dsem k 0) v₀ w₀ a₀ b₀) fun _ => .op (.waitDma2 (dsem k 1) v₁ w₁ a₁ b₁) fun _ =>
          .op (.waitDma2 (dsem k 2) v₂ w₂ a₂ b₂) fun _ => .op (.waitDma2 (dsem k 3) v₃ w₃ a₃ b₃) p) Q) := by
  rw [fam_four fun jj => crd (F := F) c k jj, fam_four fun jj => pos0 (F := F) c k jj, fam_four fun jj => dmaPay m c k jj, fam_four fun jj => pos1 (F := F) c k jj]
  iintro ⟨#HK, HO, ⟨Hc0, Hc1, Hc2, Hc3⟩, Hp0, Hp1, Hp2, Hp3⟩ Hk
  iapply (wait_step m c k 0 h₀ _ (mayWait_end c _)) $$ [HO Hc0 Hp0]
  · isplitr; · iexact HK
    isplitl [HO]; · iexact HO
    isplitl [Hc0] <;> iassumption
  iintro ⟨HO, Hc0, Hp0⟩
  iapply (wait_step m c k 1 h₁ _ (mayWait_end c _)) $$ [HO Hc1 Hp1]
  · isplitr; · iexact HK
    isplitl [HO]; · iexact HO
    isplitl [Hc1] <;> iassumption
  iintro ⟨HO, Hc1, Hp1⟩
  iapply (wait_step m c k 2 h₂ _ (mayWait_end c _)) $$ [HO Hc2 Hp2]
  · isplitr; · iexact HK
    isplitl [HO]; · iexact HO
    isplitl [Hc2] <;> iassumption
  iintro ⟨HO, Hc2, Hp2⟩
  iapply (wait_step m c k 3 h₃ _ (mayWait_end c _)) $$ [HO Hc3 Hp3]
  · isplitr; · iexact HK
    isplitl [HO]; · iexact HO
    isplitl [Hc3] <;> iassumption
  iintro ⟨HO, Hc3, Hp3⟩
  iapply Hk
  isplitl [HO]; · iexact HO
  isplitl [Hc0 Hc1 Hc2 Hc3]
  · isplitl [Hc0]; · iexact Hc0
    isplitl [Hc1]; · iexact Hc1
    isplitl [Hc2] <;> iassumption
  · isplitl [Hp0]; · iexact Hp0
    isplitl [Hp1]; · iexact Hp1
    isplitl [Hp2] <;> iassumption

/-- The combine copies once all are issued: the last two are still to be waited for. -/
theorem Cmb_end : Cmb (F := F) c 4 2
    = iprop(pos1 (F := F) c 2 0 ∗ pos1 (F := F) c 2 1 ∗ iprop(crd (F := F) c 2 2 ∗ pos0 (F := F) c 2 2) ∗ iprop(crd (F := F) c 2 3 ∗ pos0 (F := F) c 2 3)) := by
  rw [Cmb, fam_four]
  have e0 : Cmb1 (F := F) c 4 2 0 = pos1 (F := F) c 2 0 := (if_neg (by decide)).trans (if_pos (by decide))
  have e1 : Cmb1 (F := F) c 4 2 1 = pos1 (F := F) c 2 1 := (if_neg (by decide)).trans (if_pos (by decide))
  have e2 : Cmb1 (F := F) c 4 2 2 = iprop(crd (F := F) c 2 2 ∗ pos0 (F := F) c 2 2) := (if_neg (by decide)).trans (if_neg (by decide))
  have e3 : Cmb1 (F := F) c 4 2 3 = iprop(crd (F := F) c 2 3 ∗ pos0 (F := F) c 2 3) := (if_neg (by decide)).trans (if_neg (by decide))
  rw [e0, e1, e2, e3]

/-- The waits of the last point. -/
theorem end_blk (t : Fin cfg1.N) (ht : t.val = 31)
    {sp₀ sp₁ sp₂ sp₃ sp₄ sp₅ sp₆ sp₇ sp₈ sp₉ sq₀ sq₁ sq₂ sq₃ sq₄ sq₅ sq₆ sq₇ sq₈ sq₉ : Space} {s₀ s₁ s₂ s₃ s₄ s₅ s₆ s₇ s₈ s₉ r₀ r₁ r₂ r₃ r₄ r₅ r₆ r₇ r₈ r₉ : Shape}
    {e₀ e₁ e₂ e₃ e₄ e₅ e₆ e₇ e₈ e₉ f₀ f₁ f₂ f₃ f₄ f₅ f₆ f₇ f₈ f₉ : EltTy}
    {v₀ : Memref sig .tc sp₀ s₀ e₀} {v₁ : Memref sig .tc sp₁ s₁ e₁} {v₂ : Memref sig .tc sp₂ s₂ e₂} {v₃ : Memref sig .tc sp₃ s₃ e₃}
    {v₄ : Memref sig .tc sp₄ s₄ e₄} {v₅ : Memref sig .tc sp₅ s₅ e₅} {v₆ : Memref sig .tc sp₆ s₆ e₆} {v₇ : Memref sig .tc sp₇ s₇ e₇}
    {v₈ : Memref sig .tc sp₈ s₈ e₈} {v₉ : Memref sig .tc sp₉ s₉ e₉}
    {w₀ : Memref sig .tc sq₀ r₀ f₀} {w₁ : Memref sig .tc sq₁ r₁ f₁} {w₂ : Memref sig .tc sq₂ r₂ f₂} {w₃ : Memref sig .tc sq₃ r₃ f₃}
    {w₄ : Memref sig .tc sq₄ r₄ f₄} {w₅ : Memref sig .tc sq₅ r₅ f₅} {w₆ : Memref sig .tc sq₆ r₆ f₆} {w₇ : Memref sig .tc sq₇ r₇ f₇}
    {w₈ : Memref sig .tc sq₈ r₈ f₈} {w₉ : Memref sig .tc sq₉ r₉ f₉}
    (h₀ : w₀.view.dmaCredit = N) (h₁ : w₁.view.dmaCredit = N) (h₂ : w₂.view.dmaCredit = N) (h₃ : w₃.view.dmaCredit = N) (h₄ : w₄.view.dmaCredit = N)
    (h₅ : w₅.view.dmaCredit = N) (h₆ : w₆.view.dmaCredit = N) (h₇ : w₇.view.dmaCredit = N) (h₈ : w₈.view.dmaCredit = N) (h₉ : w₉.view.dmaCredit = N)
    {a₀ a₁ a₂ a₃ a₄ a₅ a₆ a₇ a₈ a₉ b₀ b₁ b₂ b₃ b₄ b₅ b₆ b₇ b₈ b₉} {Q : α → sProp 𝕄} (hp : iprop(Sfin m c ∗ Wts m c t) ⊢ Wp c (p ⟨⟩) Q) :
    iprop(Dn m c t.val ((t.val + 1) / 8) ∗ Wts m c t)
      ⊢ Wp c (.op (.waitDma2 (dsem 0 0) v₀ w₀ a₀ b₀) fun _ => .op (.waitDma2 (dsem 0 1) v₁ w₁ a₁ b₁) fun _ =>
          .op (.waitDma2 (dsem 0 2) v₂ w₂ a₂ b₂) fun _ => .op (.waitDma2 (dsem 0 3) v₃ w₃ a₃ b₃) fun _ =>
          .op (.waitDma2 (dsem 2 2) v₄ w₄ a₄ b₄) fun _ => .op (.waitDma2 (dsem 2 3) v₅ w₅ a₅ b₅) fun _ =>
          .op (.waitDma2 (dsem 3 0) v₆ w₆ a₆ b₆) fun _ => .op (.waitDma2 (dsem 3 1) v₇ w₇ a₇ b₇) fun _ =>
          .op (.waitDma2 (dsem 3 2) v₈ w₈ a₈ b₈) fun _ => .op (.waitDma2 (dsem 3 3) v₉ w₉ a₉ b₉) p) Q := by
  unfold Dn FS Late Acd Sfin at *
  rw [ht, show (31 + 1) / 8 = 4 from rfl, show 31 / 8 + 1 = 4 from rfl, Cmb_end]
  rw [fam_four fun jj => pos1 (F := F) c 2 jj, ← oweC_done c] at hp
  iintro ⟨⟨#HK, -, HO, HR, ⟨HOw, ⟨Hq0, Hq1, ⟨Hc2, Hp2⟩, Hc3, Hp3⟩, -, -, Hlo⟩, ⟨Hcs, Hps, Hcr, Hpr, Hb⟩, HY, HX, HA1, HA2⟩, HW⟩
  iapply (wait_four m c 0 h₀ h₁ h₂ h₃) $$ [HO Hcs Hps]
  · isplitr; · iexact HK
    isplitl [HO]; · iexact HO
    isplitl [Hcs] <;> iassumption
  iintro ⟨HO, HDs, Hps⟩
  iapply (wait_step m c 2 2 h₄ _ (mayWait_end c _)) $$ [HO Hc2 Hp2]
  · isplitr; · iexact HK
    isplitl [HO]; · iexact HO
    isplitl [Hc2] <;> iassumption
  iintro ⟨HO, HS0, Hp2⟩
  iapply (wait_step m c 2 3 h₅ _ (mayWait_end c _)) $$ [HO Hc3 Hp3]
  · isplitr; · iexact HK
    isplitl [HO]; · iexact HO
    isplitl [Hc3] <;> iassumption
  iintro ⟨HO, HS1, Hp3⟩
  iapply (wait_four m c 3 h₆ h₇ h₈ h₉) $$ [HO Hcr Hpr]
  · isplitr; · iexact HK
    isplitl [HO]; · iexact HO
    isplitl [Hcr] <;> iassumption
  iintro ⟨HO, HDr, Hpr⟩
  iapply hp
  isplitr [HW]
  · isplitr; · iexact HK
    isplitl [HO]; · iexact HO
    isplitl [HR]; · iexact HR
    isplitl [HOw]; · iexact HOw
    isplitl [Hlo]; · iexact Hlo
    isplitl [HY]; · iexact HY
    isplitl [HX]; · iexists _; iexact HX
    isplitl [HA1]; · iexists _; iexact HA1
    isplitl [HA2]; · iexists _; iexact HA2
    isplitl [HS0]; · iapply (Entails.of_eq (show dmaPay m c 2 2 = any (F := F) c (sendSl 0) from rfl)) $$ HS0
    isplitl [HS1]; · iapply (Entails.of_eq (show dmaPay m c 2 3 = any (F := F) c (sendSl 1) from rfl)) $$ HS1
    isplitl [HDs]; · iexact HDs
    isplitl [HDr]; · iexact HDr
    isplitl [Hps]; · iexact Hps
    isplitl [Hq0 Hq1 Hp2 Hp3]
    · isplitl [Hq0]; · iexact Hq0
      isplitl [Hq1]; · iexact Hq1
      isplitl [Hp2] <;> iassumption
    isplitl [Hpr] <;> iassumption
  · iexact HW

end Parts

/-! ## The whole body -/

/-- What a device holds before point `t`, and after the last. -/
def Phi (t : ℕ) : sProp 𝕄 := if t = 0 then S0 m c else if t = 32 then Sfin m c else Mid m c t

/-- What the first half leaves, in the second. -/
theorem Out_elim (t : Fin cfg1.N) {r} {R : sProp 𝕄}
    (h : ∀ w₁ w₂ w₃ : BitVec 32, r = ⟨BitVec.ofNat 32 (grid1.coords t 0).val, BitVec.ofNat 32 (grid1.coords t 1).val, c, xW c, w₁, w₂, w₃,
      k1_pay15 (wA m c t), k1_pay16 (wB m c t), XR m c (jOf t.val), k1_pay18 (wA m c t) (XL m c (jOf t.val)), constant S576x2048 .f32 0x00000000#32⟩
      → iprop(Got m c t.val ∗ Wts m c t) ⊢ R) :
    Out m c t r ⊢ R := by
  unfold Out
  iintro ⟨%w₁, %w₂, %w₃, %hr, H⟩
  iapply (h w₁ w₂ w₃ hr) $$ H

/-- The first half, at any point. -/
theorem body_in (t : Fin cfg1.N) : iprop(Phi m c t.val ∗ Wts m c t) ⊢ Wp c (part9 (F := F) t) (Out m c t) := by
  have hlt : t.val < 32 := lt_of_lt_of_eq t.isLt N_1
  unfold Phi
  by_cases h0 : t.val = 0
  · rw [if_pos h0]; exact in_start m c t h0
  · rw [if_neg h0, if_neg (by omega)]
    by_cases h : t.val % 8 = 0
    · exact in_first m c t h h0
    · exact in_mid m c t h

/-- The end of a point. -/
theorem end_mid (t : Fin cfg1.N) (ht : t.val ≠ 31) : iprop(Dn m c t.val ((t.val + 1) / 8) ∗ Wts m c t)
    ⊢ Wp c (.ret PUnit.unit) fun _ => iprop(Phi m c (t.val + 1) ∗ Wts m c t) := by
  have hlt : t.val < 32 := lt_of_lt_of_eq t.isLt N_1
  refine BIBase.Entails.trans ?_ (done c PUnit.unit (Q := fun _ => iprop(Phi m c (t.val + 1) ∗ Wts m c t)))
  unfold Phi
  rw [if_neg (by omega), if_neg (by omega)]
  iintro ⟨H, HW⟩
  isplitl [H]
  · iapply (Dn_mid m c t.val) $$ H
  · iexact HW

end Cert.Moe

end
-- ==== Proof.Body.lean ====
/-
  The body at every point of the grid.
-/
module

public import proofs.«01_k».proof.Proof.BodyOut

@[expose] public section

set_option maxRecDepth 20000

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

/-- The two accumulators are computed by the same steps. -/
theorem left_first (t : Fin cfg1.N) (h : t.val % 8 = 0) :
    k1_pay3 (k1_pay16 (wB m c t)) (k1_pay18 (wA m c t) (XL m c (jOf t.val))) (constant S576x2048 .f32 0x00000000#32) = acc m c (XL m c) t.val := by
  rw [acc_first m c _ _ h, pt_val]; rfl
theorem right_first (t : Fin cfg1.N) (h : t.val % 8 = 0) :
    k1_pay4 (k1_pay15 (wA m c t)) (k1_pay16 (wB m c t)) (XR m c (jOf t.val)) = acc m c (XR m c) t.val := by
  rw [acc_first m c _ _ h, pt_val]; rfl
theorem left_later (t : Fin cfg1.N) (h : t.val % 8 ≠ 0) :
    k1_pay5 (k1_pay16 (wB m c t)) (k1_pay18 (wA m c t) (XL m c (jOf t.val))) (constant S576x2048 .f32 0x00000000#32) (acc m c (XL m c) (t.val - 1))
      = acc m c (XL m c) t.val := by
  rw [acc_later m c _ _ h, pt_val]; rfl
theorem right_later (t : Fin cfg1.N) (h : t.val % 8 ≠ 0) :
    k1_pay6 (k1_pay15 (wA m c t)) (k1_pay16 (wB m c t)) (XR m c (jOf t.val)) (acc m c (XR m c) (t.val - 1)) = acc m c (XR m c) t.val := by
  rw [acc_later m c _ _ h, pt_val]; rfl

/-- The two results are rounded by the same steps, the partner's through the shape of a slot. -/
theorem far_round (A : Vec F S576x2048 .f32) :
    (fun x => k1_pay8 A (Shape.reshapeEquiv (Shape.Squeezes.numel_eq squeezes_S1x576x2048_S576x2048) x)) = k1_pay7 A := by
  funext x
  unfold k1_pay8 k1_pay7 shapeCast
  rw [Shape.reshapeEquiv_reshapeEquiv, Shape.reshapeEquiv_self]

theorem jOf_early (t : ℕ) (h : t < 16) : jOf t = 0 ∨ jOf t = 1 := by
  obtain h' | h' : t / 8 % 4 = 0 ∨ t / 8 % 4 = 1 := by omega
  · exact .inl (Fin.ext h')
  · exact .inr (Fin.ext h')

/-- At an expert's first point; -/
theorem body_first (t : Fin cfg1.N) (h0 : t.val % 8 = 0) : iprop(Phi m c t.val ∗ Wts m c t) ⊢ Wp c (bodyAt1 (F := F) t) fun _ => iprop(Phi m c (t.val + 1) ∗ Wts m c t) := by
  simp only [bodyAt1, cc1__moe_body_eq_skeleton]; unfold cc1__moe_body_skel
  refine seq c (Out m c t) (body_in m c t) fun r => Out_elim m c t fun w₁ w₂ w₃ hr => ?_
  subst hr
  have hlt : t.val < 32 := lt_of_lt_of_eq t.isLt N_1
  have e1 := (tst_first t).2 h0
  have e2 := fun e => (tst_later t).1 e h0
  have e3 : ¬ k1_cond19 (grid1.coords t) = 1#1 := fun e => by have := (tst_flush t).1 e; omega
  have e4 := fun e => (show t.val ≠ 31 by omega) ((tst_end t).1 e)
  simp only [tst] at e1 e2
  simp only [↓dif_pos e1, ↓dif_neg e2, ↓dif_neg e3, ↓dif_neg e4, Prog.lift, Prog.bind_op, Prog.bind_ret, Prog.pure_eq_ret]
  refine first_blk m c t h0 zero2 (left_first m c t h0) (right_first m c t h0) ?_
  rw [show t.val / 8 = (t.val + 1) / 8 by omega]
  exact end_mid m c t (by omega)

/-- at a point in the middle; -/
theorem body_mid (t : Fin cfg1.N) (h0 : t.val % 8 ≠ 0) (h7 : t.val % 8 ≠ 7) : iprop(Phi m c t.val ∗ Wts m c t) ⊢ Wp c (bodyAt1 (F := F) t) fun _ => iprop(Phi m c (t.val + 1) ∗ Wts m c t) := by
  simp only [bodyAt1, cc1__moe_body_eq_skeleton]; unfold cc1__moe_body_skel
  refine seq c (Out m c t) (body_in m c t) fun r => Out_elim m c t fun w₁ w₂ w₃ hr => ?_
  subst hr
  have hlt : t.val < 32 := lt_of_lt_of_eq t.isLt N_1
  have e1 := fun e => h0 ((tst_first t).1 e)
  have e2 := (tst_later t).2 h0
  have e3 : ¬ k1_cond19 (grid1.coords t) = 1#1 := fun e => h7 ((tst_flush t).1 e)
  have e4 := fun e => (show t.val ≠ 31 by omega) ((tst_end t).1 e)
  simp only [tst] at e1 e2
  simp only [↓dif_neg e1, ↓dif_pos e2, ↓dif_neg e3, ↓dif_neg e4, Prog.lift, Prog.bind_op, Prog.bind_ret, Prog.pure_eq_ret]
  refine later_blk m c t h0 zero2 ?_ ?_ ?_
  rotate_left 2
  · rw [show t.val / 8 = (t.val + 1) / 8 by omega]
    exact end_mid m c t (by omega)
  · exact left_later m c t h0
  · exact right_later m c t h0

set_option maxHeartbeats 1000000 in
/-- at the last point of one of the first two experts; -/
theorem body_flush_early (t : Fin cfg1.N) (h7 : t.val % 8 = 7) (h16 : t.val < 16) : iprop(Phi m c t.val ∗ Wts m c t) ⊢ Wp c (bodyAt1 (F := F) t) fun _ => iprop(Phi m c (t.val + 1) ∗ Wts m c t) := by
  simp only [bodyAt1, cc1__moe_body_eq_skeleton]; unfold cc1__moe_body_skel
  refine seq c (Out m c t) (body_in m c t) fun r => Out_elim m c t fun w₁ w₂ w₃ hr => ?_
  subst hr
  have hlt : t.val < 32 := lt_of_lt_of_eq t.isLt N_1
  have h0 : t.val % 8 ≠ 0 := by omega
  have h31 : t.val ≠ 31 := by omega
  have e1 := fun e => h0 ((tst_first t).1 e)
  have e2 := (tst_later t).2 h0
  have e3 := (tst_flush t).2 h7
  have c0 := propext (cond_j t).1
  have c1 := propext (cond_j t).2.1
  have c2 := propext (cond_j t).2.2.1
  have c3 := propext (cond_j t).2.2.2
  have p0 := propext (cond_x0 c).2.1
  have p1 := propext (cond_x0 c).2.2.1
  have p2 := propext (cond_x0 c).2.2.2.1
  have p3 := propext (cond_x0 c).2.2.2.2
  have q0 := propext (cond_x1 c).2.1
  have q1 := propext (cond_x1 c).2.2.1
  have q2 := propext (cond_x1 c).2.2.2.1
  have q3 := propext (cond_x1 c).2.2.2.2
  have gx0 := propext (tst_x0 c)
  have gx1 := propext (tst_x1 c)
  simp only [tst, xW] at e1 e2 gx0 gx1
  have e4 := fun e => h31 ((tst_end t).1 e)
  obtain hx | hx : xOf c = 0 ∨ xOf c = 1 := by generalize xOf c = x; revert x; decide
  all_goals obtain hj | hj := jOf_early t.val h16
  all_goals
    simp only [↓dif_neg e1, ↓dif_pos e2, ↓dif_pos e3, ↓dif_neg e4, c0, c1, c2, c3, p0, p1, p2, p3, q0, q1, q2, q3, gx0, gx1, hx, hj, Fin.reduceEq, ↓reduceDIte,
      Prog.lift, Prog.bind_op, Prog.bind_ret, Prog.pure_eq_ret]
    refine later_blk m c t h0 zero2 ?_ ?_ ?_
    rotate_left 2
    · refine hand_early m c t h7 hj (by decide) (lo_of c hx _) zero2 ?_ ?_ ?_ ?_
      · exact fun _ => rfl
      · exact far_round
      · exact Fin.ext (dev1 c)
      · exact end_mid m c t h31
    · rw [← hj]; exact left_later m c t h0
    · rw [← hj]; exact right_later m c t h0

set_option maxHeartbeats 1000000 in
/-- at the last point of the third; -/
theorem body_flush_third (t : Fin cfg1.N) (h23 : t.val = 23) : iprop(Phi m c t.val ∗ Wts m c t) ⊢ Wp c (bodyAt1 (F := F) t) fun _ => iprop(Phi m c (t.val + 1) ∗ Wts m c t) := by
  simp only [bodyAt1, cc1__moe_body_eq_skeleton]; unfold cc1__moe_body_skel
  refine seq c (Out m c t) (body_in m c t) fun r => Out_elim m c t fun w₁ w₂ w₃ hr => ?_
  subst hr
  have hlt : t.val < 32 := lt_of_lt_of_eq t.isLt N_1
  have h7 : t.val % 8 = 7 := by omega
  have h0 : t.val % 8 ≠ 0 := by omega
  have h31 : t.val ≠ 31 := by omega
  have hj : jOf t.val = 2 := by rw [h23]; rfl
  have e1 := fun e => h0 ((tst_first t).1 e)
  have e2 := (tst_later t).2 h0
  have e3 := (tst_flush t).2 h7
  have c0 := propext (cond_j t).1
  have c1 := propext (cond_j t).2.1
  have c2 := propext (cond_j t).2.2.1
  have c3 := propext (cond_j t).2.2.2
  have p0 := propext (cond_x0 c).2.1
  have p1 := propext (cond_x0 c).2.2.1
  have p2 := propext (cond_x0 c).2.2.2.1
  have p3 := propext (cond_x0 c).2.2.2.2
  have q0 := propext (cond_x1 c).2.1
  have q1 := propext (cond_x1 c).2.2.1
  have q2 := propext (cond_x1 c).2.2.2.1
  have q3 := propext (cond_x1 c).2.2.2.2
  have gx0 := propext (tst_x0 c)
  have gx1 := propext (tst_x1 c)
  simp only [tst, xW] at e1 e2 gx0 gx1
  have e4 := fun e => h31 ((tst_end t).1 e)
  obtain hx | hx : xOf c = 0 ∨ xOf c = 1 := by generalize xOf c = x; revert x; decide
  all_goals
    simp only [↓dif_neg e1, ↓dif_pos e2, ↓dif_pos e3, ↓dif_neg e4, c0, c1, c2, c3, p0, p1, p2, p3, q0, q1, q2, q3, gx0, gx1, hx, hj, Fin.reduceEq, ↓reduceDIte,
      Prog.lift, Prog.bind_op, Prog.bind_ret, Prog.pure_eq_ret]
    refine later_blk m c t h0 zero2 ?_ ?_ ?_
    rotate_left 2
    · refine hand_late m c t h7 hj 0 rfl (lo_of c hx _) zero2 ?_ ?_ ?_ ?_ ?_
      · exact fun _ => rfl
      · exact far_round
      · exact Fin.ext (dev1 c)
      · rfl
      · exact end_mid m c t h31
    · rw [← hj]; exact left_later m c t h0
    · rw [← hj]; exact right_later m c t h0

set_option maxHeartbeats 1000000 in
/-- at the last point. -/
theorem body_end (t : Fin cfg1.N) (h31 : t.val = 31) : iprop(Phi m c t.val ∗ Wts m c t) ⊢ Wp c (bodyAt1 (F := F) t) fun _ => iprop(Phi m c (t.val + 1) ∗ Wts m c t) := by
  simp only [bodyAt1, cc1__moe_body_eq_skeleton]; unfold cc1__moe_body_skel
  refine seq c (Out m c t) (body_in m c t) fun r => Out_elim m c t fun w₁ w₂ w₃ hr => ?_
  subst hr
  have h7 : t.val % 8 = 7 := by rw [h31]
  have h0 : t.val % 8 ≠ 0 := by omega
  have e1 := fun e => h0 ((tst_first t).1 e)
  have e2 := (tst_later t).2 h0
  have e3 := (tst_flush t).2 h7
  have c0 := propext (cond_j t).1
  have c1 := propext (cond_j t).2.1
  have c2 := propext (cond_j t).2.2.1
  have c3 := propext (cond_j t).2.2.2
  have p0 := propext (cond_x0 c).2.1
  have p1 := propext (cond_x0 c).2.2.1
  have p2 := propext (cond_x0 c).2.2.2.1
  have p3 := propext (cond_x0 c).2.2.2.2
  have q0 := propext (cond_x1 c).2.1
  have q1 := propext (cond_x1 c).2.2.1
  have q2 := propext (cond_x1 c).2.2.2.1
  have q3 := propext (cond_x1 c).2.2.2.2
  have gx0 := propext (tst_x0 c)
  have gx1 := propext (tst_x1 c)
  simp only [tst, xW] at e1 e2 gx0 gx1
  have e4 := (tst_end t).2 h31
  have hj : jOf t.val = 3 := by rw [h31]; rfl
  obtain hx | hx : xOf c = 0 ∨ xOf c = 1 := by generalize xOf c = x; revert x; decide
  all_goals
    simp only [↓dif_neg e1, ↓dif_pos e2, ↓dif_pos e3, ↓dif_pos e4, c0, c1, c2, c3, p0, p1, p2, p3, q0, q1, q2, q3, gx0, gx1, hx, hj, Fin.reduceEq, ↓reduceDIte,
      k1_part3_eq_skeleton, k1_part4_eq_skeleton, k1_part5_eq_skeleton, k1_part6_eq_skeleton, k1_part7_eq_skeleton, k1_part8_eq_skeleton,
      k1_part3_skel, k1_part4_skel, k1_part5_skel, k1_part6_skel, k1_part7_skel, k1_part8_skel, Prog.lift, Prog.bind_op, Prog.bind_ret, Prog.pure_eq_ret]
    refine later_blk m c t h0 zero2 ?_ ?_ ?_
    rotate_left 2
    · refine hand_late m c t h7 hj 1 rfl (lo_of c hx _) zero2 ?_ ?_ ?_ ?_ ?_
      · exact fun _ => rfl
      · exact far_round
      · exact Fin.ext (dev1 c)
      · rfl
      refine end_blk m c t h31 ?_ ?_ ?_ ?_ ?_ ?_ ?_ ?_ ?_ ?_ ?_
      iterate 10 rfl
      refine BIBase.Entails.trans ?_ (done c PUnit.unit (Q := fun _ => iprop(Phi m c (t.val + 1) ∗ Wts m c t)))
      unfold Phi
      rw [h31, if_neg (by decide), if_pos rfl]
    · rw [← hj]; exact left_later m c t h0
    · rw [← hj]; exact right_later m c t h0

/-- The body at every point. -/
theorem body_all (t : Fin cfg1.N) : iprop(Phi m c t.val ∗ Wts m c t) ⊢ Wp c (bodyAt1 (F := F) t) fun _ => iprop(Phi m c (t.val + 1) ∗ Wts m c t) := by
  by_cases h0 : t.val % 8 = 0
  · exact body_first m c t h0
  by_cases h7 : t.val % 8 = 7
  · by_cases h31 : t.val = 31
    · exact body_end m c t h31
    by_cases h23 : t.val = 23
    · exact body_flush_third m c t h23
    have hlt : t.val < 32 := lt_of_lt_of_eq t.isLt N_1
    exact body_flush_early m c t h7 (by omega)
  · exact body_mid m c t h0 h7

end Cert.Moe

end
-- ==== Proof.Blocks.lean ====
/-
  Buffers made of row blocks.  A buffer of `n` blocks of 576 x 2048 rows, held whole, is its `n` blocks held one by one, and back.
  The eight blocks of a packed array are the four of the device's own experts and the four of its partner's.
-/
module

public import proofs.«01_k».proof.Proof.State

@[expose] public section

set_option maxRecDepth 20000

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- Each member of a family exchanged for another. -/
theorem big_mono {I : Type} {s : Finset I} {f g : I → sProp 𝕄} (h : ∀ i, f i ⊢ g i) : bigSep s f ⊢ bigSep s g := bigSep_mono fun i _ => h i
theorem any_intro (c : Dev nD) {sp : Space} {s : Shape} {e : EltTy} (M : Memref sig .tc sp s e) (X : s.Idx → Elt F e) :
    (at' c M X : sProp 𝕄) ⊢ any (F := F) c M := by iintro H; iexists _; iexact H

/-! ## The rectangles of blocks -/

theorem inbN (n : ℕ) (e : Fin n) : ∀ a, (![e.val, 0, 0] : Fin 3 → Nat) a + S1x576x2048.size a ≤ (⟨3, ![n, 576, 2048]⟩ : Shape).size a := by
  intro a
  match a with
  | ⟨0, _⟩ => exact e.isLt
  | ⟨1, _⟩ => exact le_refl _
  | ⟨2, _⟩ => exact le_refl _

/-- Block `e` of `n`. -/
abbrev rN (n : ℕ) (e : Fin n) : Rect (⟨3, ![n, 576, 2048]⟩ : Shape) :=
  Rect.unit (s := ⟨3, ![n, 576, 2048]⟩) ![e.val, 0, 0] S1x576x2048.size (inbN n e)

theorem rN_disjoint (n : ℕ) (e e' : Fin n) (h : e ≠ e') : Disjoint (rN n e).set (rN n e').set := by
  refine Rect.unit_disjoint 0 ?_
  have hv : e.val ≠ e'.val := fun h' => h (Fin.ext h')
  show e.val + 1 ≤ e'.val ∨ e'.val + 1 ≤ e.val
  omega

theorem rN_cover (n : ℕ) : (Finset.univ : Finset (Fin n)).biUnion (fun e => (rN n e).set) = Finset.univ := by
  refine Finset.eq_univ_of_forall fun x => Finset.mem_biUnion.mpr ⟨x 0, Finset.mem_univ _, Rect.mem_set_unit.mpr fun a => ?_⟩
  match a with
  | ⟨0, _⟩ => exact ⟨le_refl _, Nat.lt_succ_self _⟩
  | ⟨1, _⟩ => exact ⟨Nat.zero_le _, lt_of_lt_of_eq (x 1).isLt (Nat.zero_add _).symm⟩
  | ⟨2, _⟩ => exact ⟨Nat.zero_le _, lt_of_lt_of_eq (x 2).isLt (Nat.zero_add _).symm⟩

/-- The one row number of a block, put back. -/
abbrev up : S576x2048.Idx ≃ S1x576x2048.Idx := Shape.reshapeEquiv squeezes_S1x576x2048_S576x2048.numel_eq
/-- Where element `x` of block `e` lies. -/
abbrev inN (n : ℕ) (e : Fin n) (x : S576x2048.Idx) : (⟨3, ![n, 576, 2048]⟩ : Shape).Idx := (rN n e).emb (up x)

/-- The contents with the blocks `Z`. -/
def ofN {β : Type} (n : ℕ) (Z : Fin n → S576x2048.Idx → β) : (⟨3, ![n, 576, 2048]⟩ : Shape).Idx → β :=
  Rect.glue (rN n) (rN_cover n) fun e y => Z e (up.symm y)
theorem ofN_in {β : Type} (n : ℕ) (Z : Fin n → S576x2048.Idx → β) (e : Fin n) (x : S576x2048.Idx) : ofN n Z (inN n e x) = Z e x := by
  unfold ofN inN
  rw [Rect.glue_emb (rN n) (rN_cover n) (rN_disjoint n) _ e, Equiv.symm_apply_apply]

/-! ## Holding a buffer of blocks -/

section Hold

variable (c : Dev nD) (n : ℕ) {sp : Space} {e : EltTy} (M : Memref sig .tc sp ⟨3, ![n, 576, 2048]⟩ e)

/-- Block `i` of a buffer, as a 576 x 2048 array. -/
abbrev sl (i : Fin n) : Memref sig .tc sp S576x2048 e :=
  (M.slice (rN n i) (fun _ => rfl)).squeeze S576x2048 squeezes_S1x576x2048_S576x2048

theorem sl_eq (i : Fin n) (X : S1x576x2048.Idx → Elt F e) :
    (at' c (sl n M i) (fun x => X (up x)) : sProp 𝕄) = owns (c : Thread nD τ) (M.slice (rN n i) (fun _ => rfl)) fullShare X := by
  have h (g) : (View.read (Elt F) (sl n M i).view g = fun x => X (up x)) = (View.read (Elt F) (M.slice (rN n i) (fun _ => rfl)).view g = X) := by
    refine propext ⟨fun h => funext fun y => ?_, fun h => by subst h; rfl⟩
    have := congrFun h (up.symm y)
    rw [Equiv.apply_symm_apply] at this
    rw [← this]
    show _ = (M.slice (rN n i) (fun _ => rfl)).view.read (Elt F) g (up (up.symm y))
    rw [Equiv.apply_symm_apply]
  unfold at' owns
  rw [Memref.set_view_squeeze]
  simp only [h]

/-- A buffer held is its blocks held. -/
theorem split_at (X : (⟨3, ![n, 576, 2048]⟩ : Shape).Idx → Elt F e) :
    (at' c M X : sProp 𝕄) ⊢ bigSep Finset.univ fun i : Fin n => at' c (sl n M i) (fun x => X (inN n i x)) := by
  refine (owns_rects (c : Thread nD τ) M fullShare (rN n) (fun _ _ => rfl) (rN_disjoint n) (rN_cover n) X).trans ?_
  exact big_mono fun i => Entails.of_eq (sl_eq c n M i (fun y => X ((rN n i).emb y))).symm

theorem split_any : (any (F := F) c M : sProp 𝕄) ⊢ bigSep Finset.univ fun i : Fin n => any (F := F) c (sl n M i) := by
  iintro ⟨%X, H⟩
  icases (split_at c n M X) $$ H with H
  iapply (big_mono fun i => any_intro c (sl n M i) (fun x => X (inN n i x))) $$ H

variable [∀ e, Nonempty (Elt F e)]

/-- Blocks held are the buffer held. -/
theorem join_at (Z : Fin n → S576x2048.Idx → Elt F e) :
    (bigSep Finset.univ fun i : Fin n => at' c (sl n M i) (Z i) : sProp 𝕄) ⊢ at' c M (ofN n Z) := by
  refine BIBase.Entails.trans ?_ (owns_of_rects (c : Thread nD τ) M fullShare (rN n) (fun _ _ => rfl) (rN_disjoint n) (rN_cover n) (ofN n Z))
  refine big_mono fun i => Entails.of_eq ?_
  exact (congrArg (fun X => (at' c (sl n M i) X : sProp 𝕄)) (funext fun x => (ofN_in n Z i x).symm)).trans
    (sl_eq c n M i (fun y => ofN n Z ((rN n i).emb y)))

theorem join_any : (bigSep Finset.univ fun i : Fin n => any (F := F) c (sl n M i) : sProp 𝕄) ⊢ any (F := F) c M := by
  iintro H
  icases (bigSep_exists_pi Finset.univ (fun (i : Fin n) (X : S576x2048.Idx → Elt F e) => (at' c (sl n M i) X : sProp 𝕄))) $$ H with ⟨%Z, H⟩
  iexists _
  iapply (join_at c n M Z) $$ H

end Hold

/-! ## Eight blocks: the device's own and its partner's -/

/-- The group and number of an expert. -/
def grp : Fin 2 × Fin 4 ≃ Fin 8 where
  toFun p := slotOf p.1 p.2
  invFun e := (⟨e.val / 4, by omega⟩, ⟨e.val % 4, Nat.mod_lt _ (by decide)⟩)
  left_inv := by decide
  right_inv := by decide

theorem comm_eq (A B : sProp 𝕄) : iprop(A ∗ B) = iprop(B ∗ A) :=
  BI.equiv_iff.mp ⟨(sep_symm : iprop(A ∗ B) ⊢ iprop(B ∗ A)), (sep_symm : iprop(B ∗ A) ⊢ iprop(A ∗ B))⟩
theorem halves (c : Dev nD) (f : Fin 8 → sProp 𝕄) :
    bigSep Finset.univ f = iprop((fam fun jj => f (lo c jj)) ∗ (fam fun jj => f (ro c jj))) := by
  rw [bigSep_univ_equiv grp f, bigSep_univ_prod, BI.bigSep_fin_two]
  unfold lo ro
  rcases (show xOf c = 0 ∨ xOf c = 1 from by revert c; decide) with h | h
  · rw [h]; rfl
  · rw [h]; exact comm_eq _ _

/-- The blocks with `A` at the device's own experts and `B` at its partner's. -/
def both {β : Type} (c : Dev nD) (A B : Fin 4 → β) (e : Fin 8) : β := if (grp.symm e).1 = xOf c then A (grp.symm e).2 else B (grp.symm e).2
theorem both_lo {β : Type} (c : Dev nD) (A B : Fin 4 → β) (jj : Fin 4) : both c A B (lo c jj) = A jj := by
  unfold both lo
  rw [show slotOf (xOf c) jj = grp (xOf c, jj) from rfl, Equiv.symm_apply_apply, if_pos rfl]
theorem both_ro {β : Type} (c : Dev nD) (A B : Fin 4 → β) (jj : Fin 4) : both c A B (ro c jj) = B jj := by
  unfold both ro
  rw [show slotOf (1 - xOf c) jj = grp (1 - xOf c, jj) from rfl, Equiv.symm_apply_apply, if_neg (by show ¬ (1 - xOf c) = xOf c; revert c; decide)]

end Cert.Moe

end
-- ==== Proof.Region.lean ====
/-
  The call as one region of the program.  The counters of the exchange are opened when it is entered and closed at its last point;
  the buffers it addresses itself are cut into blocks at its entry and put together again at its end.
-/
module

public import proofs.«01_k».proof.Proof.Body
public import proofs.«01_k».proof.Proof.Blocks
public import Idealize.ShloMosaic.Lib.Pipeline.RegionTalk
public import Idealize.ShloMosaic.Lib.Pipeline.FrameBody

@[expose] public section

set_option maxRecDepth 20000

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (c : Dev nD)

/-! ## The counters opened and closed -/

theorem open_one (g : GSem nD τ sig) : iprop(inv1 m g ∗ openTok (ER (F := F)) g ∗ semVal g 0)
    ⊢ (|={Set.univ}=> iprop(atPos (ER (F := F)) g 0 ∅ 0 ∗ reached (ER (F := F)) g 0) : sProp 𝕄) := by
  unfold inv1
  iintro ⟨⟨%κ, H⟩, HT⟩
  iapply (Rounds.cell_open (ER (F := F)) (Rd (F := F) m) (Set.mem_univ κ)) $$ [H HT]
  isplitl [H] <;> iassumption

theorem close_one (g : GSem nD τ sig) : iprop(inv1 m g ∗ atPos (ER (F := F)) g 1 ∅ 0) ⊢ (|={Set.univ}=> semVal g 0 : sProp 𝕄) := by
  unfold inv1
  iintro ⟨⟨%κ, H⟩, HT⟩
  iapply (Rounds.cell_close (ER (F := F)) (Rd (F := F) m) (Set.mem_univ κ) id (duties_later m g)) $$ [H HT]
  isplitl [H] <;> iassumption

/-- The sixteen counters, one by one. -/
abbrev fam2 (f : Fin 4 → Fin 4 → sProp 𝕄) : sProp 𝕄 := fam fun k => fam fun jj => f k jj
theorem fam2_mono {f g : Fin 4 → Fin 4 → sProp 𝕄} (h : ∀ k jj, f k jj ⊢ g k jj) : fam2 f ⊢ fam2 g :=
  big_mono fun k => big_mono fun jj => h k jj
theorem fam2_sep (f g : Fin 4 → Fin 4 → sProp 𝕄) : iprop(fam2 f ∗ fam2 g) = fam2 fun k jj => iprop(f k jj ∗ g k jj) := by
  unfold fam2
  rw [fam_sep]
  exact fam_congr fun k => fam_sep _ _
theorem fam2_fupd (f : Fin 4 → Fin 4 → sProp 𝕄) : fam2 (fun k jj => iprop(|={Set.univ}=> f k jj)) ⊢ (|={Set.univ}=> fam2 f : sProp 𝕄) :=
  (big_mono fun k => bigSep_fupd Finset.univ (f k)).trans (bigSep_fupd Finset.univ fun k => fam (f k))

theorem open_all : iprop(fam2 (fun k jj => inv1 m (dcell c k jj)) ∗ fam2 (fun k jj => openTok (ER (F := F)) (dcell c k jj))
      ∗ fam2 (fun k jj => semVal (dcell c k jj) 0))
    ⊢ (|={Set.univ}=> iprop(fam2 (fun k jj => pos0 (F := F) c k jj) ∗ fam2 (fun k jj => reached (ER (F := F)) (dcell c k jj) 0)) : sProp 𝕄) := by
  rw [fam2_sep, fam2_sep, fam2_sep]
  exact (fam2_mono fun k jj => open_one m (dcell c k jj)).trans (fam2_fupd _)

theorem close_all : iprop(fam2 (fun k jj => inv1 m (dcell c k jj)) ∗ fam2 (fun k jj => pos1 (F := F) c k jj))
    ⊢ (|={Set.univ}=> fam2 (fun k jj => semVal (dcell c k jj) 0) : sProp 𝕄) := by
  rw [fam2_sep]
  exact (fam2_mono fun k jj => close_one m (dcell c k jj)).trans (fam2_fupd _)

/-- The call's own counters. -/
def osem : (Fin 4 × Fin 4) ⊕ Fin 2 → SemLoc sig
  | .inl p => .dma (dsem p.1 p.2)
  | .inr 0 => .dma lxS
  | .inr 1 => .dma loS

theorem ownSems_eq : (Pipeline.ownSems0 osem c : sProp 𝕄)
    = iprop(fam2 (fun k jj => semVal (dcell c k jj) 0) ∗ semVal ((c : Thread nD τ), .dma lxS) 0 ∗ semVal ((c : Thread nD τ), .dma loS) 0) := by
  unfold Pipeline.ownSems0
  rw [bigSep_univ_sum, bigSep_univ_prod, BI.bigSep_fin_two]
  rfl

/-! ## The buffers cut into blocks, and back -/

theorem Xs_eq (e : Fin 8) : Xs m c e = fun x => m ((c : Thread nD τ).loc main_v19) (inN 8 e x) := rfl

/-- The result of device `c`: at its own experts what it computed over its own rows, at its partner's what the partner computed over
    the rows it was sent. -/
def outV : (⟨3, ![8, 576, 2048]⟩ : Shape).Idx → Elt F .bf16 := ofN 8 (both c (YL m c) (YR m (peer c)))

theorem cut_in : ((c : Thread nD τ).loc main_v19 ↦{fullShare} m ((c : Thread nD τ).loc main_v19) : sProp 𝕄)
    ⊢ iprop((fam fun jj => at' c (xpSl (lo c jj)) (XL m c jj)) ∗ (fam fun jj => at' c (xpSl (ro c jj)) (Xs m c (ro c jj)))) := by
  rw [← owns_whole (c : Thread nD τ) main_v19 fullShare]
  refine (split_at c 8 xpM (m ((c : Thread nD τ).loc main_v19))).trans ?_
  rw [halves c]
  exact .rfl

variable [∀ e, Nonempty (Elt F e)]

theorem ofN_of {β : Type} (n : ℕ) (X : (⟨3, ![n, 576, 2048]⟩ : Shape).Idx → β) : ofN n (fun e x => X (inN n e x)) = X := by
  funext y
  obtain ⟨e, -, hy⟩ := Finset.mem_biUnion.mp ((rN_cover n).symm ▸ Finset.mem_univ y)
  rw [← Rect.map_emb_univ, Finset.mem_map] at hy
  obtain ⟨z, -, rfl⟩ := hy
  have := ofN_in n (fun e x => X (inN n e x)) e (up.symm z)
  rw [show inN n e (up.symm z) = (rN n e).emb z from by unfold inN; rw [Equiv.apply_symm_apply]] at this
  exact this

theorem join_in : iprop((fam fun jj => at' c (xpSl (lo c jj)) (XL m c jj)) ∗ (fam fun jj => at' c (xpSl (ro c jj)) (Xs m c (ro c jj))))
    ⊢ ((c : Thread nD τ).loc main_v19 ↦{fullShare} m ((c : Thread nD τ).loc main_v19) : sProp 𝕄) := by
  rw [← owns_whole (c : Thread nD τ) main_v19 fullShare]
  refine BIBase.Entails.trans ?_ ((join_at c 8 xpM (Xs m c)).trans (Entails.of_eq (congrArg (at' c xpM) (ofN_of 8 _))))
  rw [halves c]
  exact .rfl

theorem join_out : iprop((fam fun jj => at' c (outSl (lo c jj)) (YL m c jj)) ∗ (fam fun jj => at' c (outSl (ro c jj)) (YR m (peer c) jj)))
    ⊢ ((c : Thread nD τ).loc main_v20 ↦{fullShare} outV m c : sProp 𝕄) := by
  rw [← owns_whole (c : Thread nD τ) main_v20 fullShare]
  refine BIBase.Entails.trans ?_ (join_at c 8 outM (both c (YL m c) (YR m (peer c))))
  rw [halves c, fam_congr fun jj => congrArg (at' c (outSl (lo c jj))) (both_lo c (YL m c) (YR m (peer c)) jj),
    fam_congr fun jj => congrArg (at' c (outSl (ro c jj))) (both_ro c (YL m c) (YR m (peer c)) jj)]

/-! ## The state at the end, closed -/

/-- What the call leaves, its counters at zero and its scratch at anything. -/
def Done : sProp 𝕄 :=
  iprop(((c : Thread nD τ).loc main_v19 ↦{fullShare} m ((c : Thread nD τ).loc main_v19)) ∗ ((c : Thread nD τ).loc main_v20 ↦{fullShare} outV m c)
    ∗ fam2 (fun k jj => semVal (dcell c k jj) 0) ∗ semVal ((c : Thread nD τ), .dma lxS) 0 ∗ semVal ((c : Thread nD τ), .dma loS) 0
    ∗ semVal (barCell c) 0
    ∗ any (F := F) c recvM ∗ any (F := F) c xlM ∗ any (F := F) c ystM ∗ any (F := F) c sendM ∗ any (F := F) c accLM ∗ any (F := F) c accRM)

theorem Rcv_all : Rcv m c 4 ⊢ iprop((fam fun jj => any (F := F) c (recvSl jj)) ∗ (fam fun jj => pos1 (F := F) c 1 jj)) := by
  rw [fam_sep]
  refine big_mono fun jj => ?_
  unfold Rcv1
  rw [if_pos jj.isLt]
  iintro ⟨H, HP⟩
  isplitl [H]; · iexists _; iexact H
  iexact HP

theorem Own_all : Own m c 4 ⊢ fam fun jj => at' c (outSl (lo c jj)) (YL m c jj) :=
  big_mono fun jj => Entails.of_eq (if_pos jj.isLt)

theorem join_send : iprop(any (F := F) c (sendSl 0) ∗ any (F := F) c (sendSl 1)) ⊢ any (F := F) c sendM :=
  (Entails.of_eq (BI.bigSep_fin_two fun i : Fin 2 => any (F := F) c (sendSl i)).symm).trans (join_any c 2 sendM)

theorem finish : Sfin m c ⊢ (|={Set.univ}=> iprop(ow (F := F) c 0 ∗ Done m c) : sProp 𝕄) := by
  unfold Sfin Done RS Kn
  iintro ⟨⟨-, #Hb, -, -, #Hi, -, -⟩, HO, ⟨HA, HR, Hx⟩, HL, Ho, Hy, Hxl, HaL, HaR, Hs0, Hs1, H0, H3, Hp0, Hp2, Hp3, Hpb⟩
  icases (Rcv_all m c) $$ HR with ⟨HR, Hp1⟩
  imod (close_one m (barCell c)) $$ [Hpb] with Hsb
  · isplitr; · iexact Hb
    iexact Hpb
  imod (close_all m c) $$ [Hp0 Hp1 Hp2 Hp3] with Hs
  · isplitr; · iexact Hi
    iapply (Entails.of_eq (fam_four (fun k => fam fun jj => pos1 (F := F) c k jj)).symm)
    isplitl [Hp0]; · iexact Hp0
    isplitl [Hp1]; · iexact Hp1
    isplitl [Hp2]; · iexact Hp2
    iexact Hp3
  imodintro
  isplitl [HO]; · iexact HO
  isplitl [HA H0]
  · iapply (join_in m c)
    isplitl [HA]; · iexact HA
    iexact H0
  isplitl [HL H3]
  · iapply (join_out m c)
    isplitl [HL]
    · iapply (Own_all m c) $$ HL
    · iexact H3
  isplitl [Hs]; · iexact Hs
  isplitl [Hx]; · iexact Hx
  isplitl [Ho]; · iexact Ho
  isplitl [Hsb]; · iexact Hsb
  isplitl [HR]; · iapply (join_any c 4 recvM) $$ HR
  isplitl [Hxl]; · iexact Hxl
  isplitl [Hy]; · iexact Hy
  isplitl [Hs0 Hs1]
  · iapply (join_send c)
    isplitl [Hs0] <;> iassumption
  isplitl [HaL] <;> iassumption

/-! ## The data of the pipeline -/

/-- What is owed before point `t`. -/
def owedAt (t : ℕ) : CellTallies nD τ sig Unit := if t = 0 then O₀ c else oweC c (t / 8)
theorem owedAt_zero : owedAt c 0 = O₀ c := if_pos rfl
theorem owedAt_last : owedAt c 32 = 0 := (if_neg (by decide)).trans (oweC_done c)

/-- What is held before point `t`, beside what is owed. -/
def Inv (t : ℕ) : sProp 𝕄 := if t = 32 then Done m c else iprop(ow (F := F) c (owedAt c t) -∗ Phi m c t)

theorem Inv_Phi (t : ℕ) (ht : t < 32) : iprop(Inv m c t ∗ ow (F := F) c (owedAt c t)) ⊢ Phi m c t := by
  unfold Inv
  rw [if_neg (by omega)]
  iintro ⟨H, HO⟩
  iapply H $$ HO

theorem Phi_Inv (t : ℕ) (h0 : t ≠ 0) : Phi m c t ⊢ (|={Set.univ}=> iprop(Inv m c t ∗ ow (F := F) c (owedAt c t)) : sProp 𝕄) := by
  unfold Inv Phi
  rw [if_neg h0]
  by_cases h : t = 32
  · subst h
    rw [if_pos rfl, if_pos rfl, owedAt_last]
    iintro H
    imod (finish m c) $$ H with ⟨HO, H⟩
    imodintro
    isplitl [H] <;> iassumption
  · rw [if_neg h, if_neg h]
    unfold Mid
    rw [show owedAt c t = oweC c (t / 8) from if_neg h0]
    iintro ⟨HK, HP, HO, H⟩
    imodintro
    isplitr [HO]
    · iintro HO
      isplitl [HK]; · iexact HK
      isplitl [HP]; · iexact HP
      isplitl [HO] <;> iassumption
    · iexact HO

/-- The buffers of the other two calls, which this one leaves alone. -/
def Spare : sProp 𝕄 :=
  iprop(any (F := F) c (Memref.whole cc0_stg0_0) ∗ any (F := F) c (Memref.whole cc0_stg1_0) ∗ any (F := F) c (Memref.whole cc0_stg2_0)
    ∗ any (F := F) c (Memref.whole cc0_stg2_1) ∗ any (F := F) c (Memref.whole cc2_stg0_0) ∗ any (F := F) c (Memref.whole cc2_stg1_0)
    ∗ any (F := F) c (Memref.whole cc2_stg2_0) ∗ any (F := F) c (Memref.whole cc2_stg2_1))

def dat1 : Dat τ (Elt F) Unit ℕ UU ℕ cfg1 c where
  A w := m ((c : Thread nD τ).loc (Pipeline.arrRef spec1 w))
  after := fun
    | 0 => wA m c
    | 1 => wB m c
    | ⟨_ + 2, h⟩ => absurd h (Nat.not_lt.2 (Nat.le_add_left _ _))
  Φ t := iprop(((∃ r, prngReg c r) ∗ Spare (F := F) c) ∗ Inv m c t.val)
  q _ := fullShare
  owed t := owedAt c t.val

theorem before_wA (t : Fin cfg1.N) (d) : (dat1 m c).before 0 t d = wA m c t :=
  ((dat1 m c).before_in_eq_fetched 0 rfl (fun _ => rfl) (fun _ _ _ => rfl) (fun t => rfl) t d).trans rfl
theorem before_wB (t : Fin cfg1.N) (d) : (dat1 m c).before 1 t d = wB m c t :=
  ((dat1 m c).before_in_eq_fetched 1 rfl (fun _ => rfl) (fun _ _ _ => rfl) (fun t => rfl) t d).trans rfl

theorem owesAt_intro (t : Fin (cfg1.N + 1)) : ow (F := F) c (owedAt c t.val) ⊢ ((dat1 m c).owesAt () t : sProp 𝕄) := by
  unfold ow Dat.owesAt Pipeline.owesWithin Dat.bound
  iintro ⟨%W, HO⟩; iexists W; isplitr; · ipureintro; exact fun _ _ => Or.inl trivial
  iexact HO
theorem owesAt_elim (t : Fin (cfg1.N + 1)) : ((dat1 m c).owesAt () t : sProp 𝕄) ⊢ ow (F := F) c (owedAt c t.val) := by
  unfold ow Dat.owesAt Pipeline.owesWithin
  iintro ⟨%W, -, HO⟩; iexists W; iexact HO

theorem Φ_before (t : Fin cfg1.N) : (dat1 m c).Φ t.castSucc = iprop(((∃ r, prngReg c r) ∗ Spare (F := F) c) ∗ Inv m c t.val) := rfl
theorem Φ_after (t : Fin cfg1.N) : (dat1 m c).Φ t.succ = iprop(((∃ r, prngReg c r) ∗ Spare (F := F) c) ∗ Inv m c (t.val + 1)) := rfl

theorem body1 : BodyObligation (dat1 (F := F) m c) defs₀ 𝒱₀ () Set.univ := fun t => by
  have hlt : t.val < 32 := lt_of_lt_of_eq t.isLt N_1
  rw [bigSep_W1, bigSep_W1, Φ_before, Φ_after]
  show _ ⊢ Wp c (bodyAt1 (F := F) t) _
  refine BIBase.Entails.trans ?_ (wp_fupd (Fr := frame) (wpE := wpE (defs₀ (F := F)) 𝒱₀ (c : Thread nD τ) none) (E := Set.univ) _ _)
  refine BIBase.Entails.trans (Q := iprop(((∃ r, prngReg c r) ∗ Spare (F := F) c) ∗ (Phi m c t.val ∗ Wts m c t))) ?_ ?_
  · iintro ⟨⟨Hp, HI⟩, HO, ⟨%d0, H0⟩, ⟨%d1, H1⟩⟩
    isplitl [Hp]; · iexact Hp
    isplitl [HI HO]
    · iapply (Inv_Phi m c t.val hlt)
      isplitl [HI]; · iexact HI
      iapply (owesAt_elim m c t.castSucc) $$ HO
    unfold Wts
    isplitl [H0]
    · iapply (Entails.of_eq (congrArg (at' c (stage1_0 (cfg1.slots t 0))) (before_wA m c t d0))) $$ H0
    · iapply (Entails.of_eq (congrArg (at' c (stage1_1 (cfg1.slots t 1))) (before_wB m c t d1))) $$ H1
  iintro ⟨Hp, H⟩
  icases (body_all m c t) $$ H with H
  iapply (wp_wand (Fr := frame) (wpE := wpE (defs₀ (F := F)) 𝒱₀ (c : Thread nD τ) none) (E := Set.univ)) $$ H
  iintro %a ⟨H, HW⟩
  imod (Phi_Inv m c (t.val + 1) (by omega)) $$ H with ⟨H, HO⟩
  imodintro
  isplitl [Hp H]
  · isplitl [Hp]; · iexact Hp
    iexact H
  isplitl [HO]; · iapply (owesAt_intro m c t.succ); iexact HO
  unfold Wts
  icases HW with ⟨H0, H1⟩
  isplitl [H0]; · iexact H0
  iexact H1

end Cert.Moe

end
-- ==== Proof.Talk.lean ====
/-
  What the exchange needs at the ends of its call: the counters set up before the program starts and each device's share of them,
  and the buffers cut up when the call is entered and put together when it is left.
-/
module

public import proofs.«01_k».proof.Proof.Region

@[expose] public section

set_option maxRecDepth 20000

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (c : Dev nD)

/-! ## What a device holds when the region is entered -/

/-- The schedule of its own counters and of its partner's. -/
def Know : sProp 𝕄 :=
  iprop(inv1 m (barCell c) ∗ inv1 m (barCell (peer c)) ∗ reached (ER (F := F)) (barCell (peer c)) 0 ∗ reached (ER (F := F)) (barCell c) 0
    ∗ fam2 (fun k jj => inv1 m (dcell c k jj)) ∗ fam2 (fun k jj => inv1 m (dcell (peer c) k jj)))
instance Know_persistent : BI.Persistent (Know m c) := by unfold Know; infer_instance

/-- Its place at the barrier and the payments it will make. -/
def Lin : sProp 𝕄 :=
  iprop(atPos (ER (F := F)) (barCell c) 0 ∅ 0 ∗ dutyTok (ER (F := F)) (barCell (peer c)) 0 ()
    ∗ (fam fun jj => tok (F := F) c 0 jj) ∗ (fam fun jj => tok (F := F) (peer c) 1 jj)
    ∗ (fam fun jj => tok (F := F) c 2 jj) ∗ (fam fun jj => tok (F := F) (peer c) 3 jj))
/-- What it may wait for. -/
def Crd : sProp 𝕄 :=
  iprop(cred (tallyAt (barCell c) () 1) ∗ (fam fun jj => crd (F := F) c 1 jj) ∗ (fam fun jj => crd (F := F) c 3 jj))

def Tk : sProp 𝕄 := iprop(Know m c ∗ fam2 (fun k jj => openTok (ER (F := F)) (dcell c k jj)) ∗ Lin (F := F) c ∗ Crd (F := F) c)
/-- The same once the counters are open. -/
def Xk : sProp 𝕄 :=
  iprop(levAts L lv ∗ Know m c ∗ fam2 (fun k jj => reached (ER (F := F)) (dcell c k jj) 0) ∗ fam2 (fun k jj => pos0 (F := F) c k jj)
    ∗ Lin (F := F) c ∗ Crd (F := F) c ∗ semVal ((c : Thread nD τ), .dma lxS) 0 ∗ semVal ((c : Thread nD τ), .dma loS) 0)
def Yk : sProp 𝕄 := semVal (barCell c) 0

theorem Know_fam : Know m c ⊢ fam2 fun k jj => inv1 m (dcell c k jj) := by unfold Know; iintro ⟨-, -, -, -, H, -⟩; iexact H

theorem hopen : iprop(Tk m c ∗ Pipeline.ownSems0 osem c ∗ levAts L lv) ⊢ (|={Set.univ}=> Xk m c : sProp 𝕄) := by
  rw [ownSems_eq]
  unfold Tk Xk
  iintro ⟨⟨#HK, HT, HL, HC⟩, ⟨Hs, Hx, Ho⟩, Hlev⟩
  imod (open_all m c) $$ [HT Hs] with ⟨HP, HR⟩
  · isplitr; · iapply (Know_fam m c); iexact HK
    isplitl [HT] <;> iassumption
  imodintro
  isplitl [Hlev]; · iexact Hlev
  isplitr; · iexact HK
  isplitl [HR]; · iexact HR
  isplitl [HP]; · iexact HP
  isplitl [HL]; · iexact HL
  isplitl [HC]; · iexact HC
  isplitl [Hx] <;> iassumption

/-! ## The buffers -/

theorem any_whole (b : Ref sig .tc) {f : Buf (Elt F) ((c : Thread nD τ).loc b)} :
    ((c : Thread nD τ).loc b ↦{fullShare} f : sProp 𝕄) ⊢ any (F := F) c (Memref.whole b) := by
  rw [← owns_whole (c : Thread nD τ) b fullShare]
  exact any_intro c (Memref.whole b) f
theorem any_points (b : Ref sig .tc) :
    (any (F := F) c (Memref.whole b) : sProp 𝕄) ⊢ iprop(∃ f : Buf (Elt F) ((c : Thread nD τ).loc b), (c : Thread nD τ).loc b ↦{fullShare} f) := by
  iintro ⟨%X, H⟩
  iexists X
  iapply (Entails.of_eq (owns_whole (c : Thread nD τ) b fullShare X)) $$ H

theorem split_out {f : Buf (Elt F) ((c : Thread nD τ).loc main_v20)} : ((c : Thread nD τ).loc main_v20 ↦{fullShare} f : sProp 𝕄)
    ⊢ iprop((fam fun jj => any (F := F) c (outSl (lo c jj))) ∗ (fam fun jj => any (F := F) c (outSl (ro c jj)))) :=
  (any_whole c main_v20).trans ((split_any c 8 outM).trans (Entails.of_eq (halves c _)))

theorem split_send : any (F := F) c sendM ⊢ iprop(any (F := F) c (sendSl 0) ∗ any (F := F) c (sendSl 1)) :=
  (split_any c 2 sendM).trans (Entails.of_eq (BI.bigSep_fin_two fun i : Fin 2 => any (F := F) c (sendSl i)))

/-- The two buffers the call addresses itself. -/
abbrev Hs : Finset (DevRef τ sig) := {Proc.devRef .tc main_v19, Proc.devRef .tc main_v20}
theorem held_Hs (W : Valuation τ sig (Elt F)) : (StableHlo.held (c : Thread nD τ) Hs W : sProp 𝕄)
    = iprop(((c : Thread nD τ).loc main_v19 ↦{fullShare} W (Proc.devRef .tc main_v19)) ∗ ((c : Thread nD τ).loc main_v20 ↦{fullShare} W (Proc.devRef .tc main_v20))) := by
  unfold StableHlo.held
  rw [bigSep_eq_bigSepL_of_eq [Proc.devRef .tc main_v19, Proc.devRef .tc main_v20] (by decide) (by decide)]
  rfl

abbrev V₀ : Valuation τ sig (Elt F) := fun b => m ((c : Dev nD), b)

variable [∀ e, Nonempty (Elt F e)]

/-- The device's buffers when the exchange is done. -/
def V₁ : Valuation τ sig (Elt F) := Function.update (V₀ m c) (Proc.devRef .tc main_v20) (outV m c)
theorem V₁_out : V₁ m c (Proc.devRef .tc main_v20) = outV m c := Function.update_self ..
theorem V₁_ne (b : Ref sig .tc) (h : Proc.devRef .tc b ≠ (Proc.devRef .tc main_v20 : DevRef τ sig)) :
    V₁ m c (Proc.devRef .tc b) = m ((c : Thread nD τ).loc b) := Function.update_of_ne h ..

theorem V₁_off (b : DevRef τ sig) (h : b ∉ Hs) : V₁ m c b = m ((c : Dev nD), b) :=
  Function.update_of_ne (fun e => h (by rw [e]; exact Finset.mem_insert_of_mem (Finset.mem_singleton_self _))) ..

theorem Φ_first : (dat1 m c).Φ 0 = iprop(((∃ r, prngReg c r) ∗ Spare (F := F) c) ∗ (ow (F := F) c (O₀ c) -∗ S0 m c)) := by
  show iprop(((∃ r, prngReg c r) ∗ Spare (F := F) c) ∗ Inv m c 0) = _
  unfold Inv Phi
  rw [if_neg (by decide), if_pos rfl, owedAt_zero]
theorem Φ_last : (dat1 m c).Φ (Fin.last cfg1.N) = iprop(((∃ r, prngReg c r) ∗ Spare (F := F) c) ∗ Done m c) := by
  show iprop(((∃ r, prngReg c r) ∗ Spare (F := F) c) ∗ Inv m c cfg1.N) = _
  rw [show cfg1.N = 32 from N_1]
  unfold Inv
  rw [if_pos rfl]

theorem hin : iprop(Pipeline.scopedRest spec1 c ∗ (∃ r, prngReg c r)
      ∗ StableHlo.held (c.tc : Thread nD τ) Hs (V₀ m c) ∗ Xk m c) ⊢ (dat1 m c).Φ 0 := by
  rw [Φ_first, held_Hs, show (Pipeline.scopedRest spec1 c : sProp 𝕄) = _ from scopedRest1_eq c]
  unfold Xk Know Lin Crd S0 Kn
  iintro ⟨⟨⟨%a0, A0⟩, ⟨%a1, A1⟩, ⟨%a2, A2⟩, ⟨%a3, A3⟩, ⟨%f0, H0⟩, ⟨%f1, H1⟩, ⟨%f2, H2⟩, ⟨%f3, H3⟩, ⟨%f4, H4⟩, ⟨%f5, H5⟩,
    ⟨%b0, B0⟩, ⟨%b1, B1⟩, ⟨%b2, B2⟩, ⟨%b3, B3⟩⟩, Hp, ⟨Hi, Ho⟩, Hlev, ⟨K1, K2, K3, #K4, K5, K6⟩, HR, HP, ⟨L1, L2, L3, L4, L5, L6⟩, ⟨C1, C2, C3⟩, Sx, So⟩
  icases (cut_in m c) $$ Hi with ⟨Hil, Hir⟩
  icases (split_out c) $$ Ho with ⟨Hol, Hor⟩
  icases (any_whole c cc1_scratch0) $$ H0 with H0
  icases (split_any c 4 recvM) $$ H0 with H0
  icases (any_whole c cc1_scratch3) $$ H3 with H3
  icases (split_send c) $$ H3 with ⟨H3, H3'⟩
  isplitl [Hp A0 A1 A2 A3 B0 B1 B2 B3]
  · isplitl [Hp]; · iexact Hp
    unfold Spare
    isplitl [A0]; · iapply (any_whole c cc0_stg0_0) $$ A0
    isplitl [A1]; · iapply (any_whole c cc0_stg1_0) $$ A1
    isplitl [A2]; · iapply (any_whole c cc0_stg2_0) $$ A2
    isplitl [A3]; · iapply (any_whole c cc0_stg2_1) $$ A3
    isplitl [B0]; · iapply (any_whole c cc2_stg0_0) $$ B0
    isplitl [B1]; · iapply (any_whole c cc2_stg1_0) $$ B1
    isplitl [B2]; · iapply (any_whole c cc2_stg2_0) $$ B2
    iapply (any_whole c cc2_stg2_1) $$ B3
  iintro HO
  isplitl [Hlev K1 K2 K3 K5 K6 HR]
  · isplitl [Hlev]; · iexact Hlev
    isplitl [K1]; · iexact K1
    isplitl [K2]; · iexact K2
    isplitl [K3]; · iexact K3
    isplitl [K5]; · iexact K5
    isplitl [K6]; · iexact K6
    iexact HR
  isplitl [HO]; · iexact HO
  isplitl [Hil]; · iexact Hil
  isplitl [Hir]; · iexact Hir
  isplitl [Hol]; · iexact Hol
  isplitl [Hor]; · iexact Hor
  isplitl [H0]; · iexact H0
  isplitl [H1]; · iapply (any_whole c cc1_scratch1) $$ H1
  isplitl [H2]; · iapply (any_whole c cc1_scratch2) $$ H2
  isplitl [H3 H3']
  · unfold Slots
    rw [if_pos (Nat.le_refl 0), if_pos (Nat.zero_le 1)]
    isplitl [H3] <;> iassumption
  isplitl [H4]; · iapply (any_whole c cc1_scratch4) $$ H4
  isplitl [H5]; · iapply (any_whole c cc1_scratch5) $$ H5
  isplitl [HP]; · iexact HP
  isplitl [L1]; · iexact L1
  isplitr; · iexact K4
  isplitl [L2]; · iexact L2
  isplitl [C1]; · iexact C1
  isplitl [L3]; · iexact L3
  isplitl [L4]; · iexact L4
  isplitl [L5]; · iexact L5
  isplitl [L6]; · iexact L6
  isplitl [C2]; · iexact C2
  isplitl [C3]; · iexact C3
  isplitl [Sx] <;> iassumption

theorem hout : (dat1 m c).Φ (Fin.last cfg1.N)
    ⊢ iprop(Pipeline.scopedRest spec1 c ∗ (∃ r, prngReg c r)
      ∗ StableHlo.held (c.tc : Thread nD τ) Hs (V₁ m c) ∗ Pipeline.ownSems0 osem c ∗ Yk (F := F) c) := by
  rw [Φ_last, held_Hs, ownSems_eq, V₁_out, V₁_ne m c main_v19 (by decide),
    show (Pipeline.scopedRest spec1 c : sProp 𝕄) = _ from scopedRest1_eq c]
  unfold Done Yk Spare
  iintro ⟨⟨Hp, A0, A1, A2, A3, B0, B1, B2, B3⟩, Hi, Ho, Hs, Sx, So, Hb, H0, H1, H2, H3, H4, H5⟩
  isplitl [A0 A1 A2 A3 H0 H1 H2 H3 H4 H5 B0 B1 B2 B3]
  · isplitl [A0]; · iapply (any_points c cc0_stg0_0) $$ A0
    isplitl [A1]; · iapply (any_points c cc0_stg1_0) $$ A1
    isplitl [A2]; · iapply (any_points c cc0_stg2_0) $$ A2
    isplitl [A3]; · iapply (any_points c cc0_stg2_1) $$ A3
    isplitl [H0]; · iapply (any_points c cc1_scratch0) $$ H0
    isplitl [H1]; · iapply (any_points c cc1_scratch1) $$ H1
    isplitl [H2]; · iapply (any_points c cc1_scratch2) $$ H2
    isplitl [H3]; · iapply (any_points c cc1_scratch3) $$ H3
    isplitl [H4]; · iapply (any_points c cc1_scratch4) $$ H4
    isplitl [H5]; · iapply (any_points c cc1_scratch5) $$ H5
    isplitl [B0]; · iapply (any_points c cc2_stg0_0) $$ B0
    isplitl [B1]; · iapply (any_points c cc2_stg1_0) $$ B1
    isplitl [B2]; · iapply (any_points c cc2_stg2_0) $$ B2
    iapply (any_points c cc2_stg2_1) $$ B3
  isplitl [Hp]; · iexact Hp
  isplitl [Hi Ho]; · isplitl [Hi] <;> iassumption
  isplitr [Hb]
  · isplitl [Hs]; · iexact Hs
    isplitl [Sx] <;> iassumption
  iexact Hb

/-! ## The counters set up before the run -/

section Setup

omit [∀ e, Nonempty (Elt F e)]

/-- The two kinds of counters of the exchange on one device. -/
abbrev xsem : Unit ⊕ (Fin 4 × Fin 4) → SemLoc sig
  | .inl _ => .reg barS
  | .inr p => .dma (dsem p.1 p.2)
theorem xsem_inj : Function.Injective xsem := by decide

def barEmb : Dev nD ↪ GSem nD τ sig := ⟨fun c => barCell c, fun _ _ h => congrArg (fun g : GSem nD τ sig => g.1.1) h⟩
def scEmb : Dev nD × (Fin 4 × Fin 4) ↪ GSem nD τ sig :=
  ⟨fun p => dcell p.1 p.2.1 p.2.2, fun _ _ h =>
    Prod.ext (congrArg (fun g : GSem nD τ sig => g.1.1) h) (Sum.inr_injective (xsem_inj (congrArg Prod.snd h)))⟩
abbrev barCells : Finset (GSem nD τ sig) := Finset.univ.map barEmb
abbrev scCells : Finset (GSem nD τ sig) := Finset.univ.map scEmb
theorem disjoint_cells : Disjoint barCells scCells := by
  rw [Finset.disjoint_left]
  rintro g h₁ h₂
  obtain ⟨c, -, rfl⟩ := Finset.mem_map.mp h₁
  obtain ⟨p, -, h⟩ := Finset.mem_map.mp h₂
  exact absurd (congrArg Prod.snd h) (fun h => nomatch h)
theorem bar_mem (c : Dev nD) : barCell c ∈ barCells ∪ scCells :=
  Finset.mem_union_left _ (Finset.mem_map_of_mem barEmb (Finset.mem_univ c))
theorem dma_mem (c : Dev nD) (k jj : Fin 4) : dcell c k jj ∈ barCells ∪ scCells :=
  Finset.mem_union_right _ (Finset.mem_map_of_mem scEmb (Finset.mem_univ (c, (k, jj))))

/-- One payment at every counter. -/
def toks : Finset (GSem nD τ sig × ℕ × Unit) :=
  Finset.univ.map ⟨fun p : Dev nD × (Unit ⊕ (Fin 4 × Fin 4)) => (((p.1 : Thread nD τ), xsem p.2), 0, ()), fun _ _ h =>
    Prod.ext (congrArg (fun t : GSem nD τ sig × ℕ × Unit => t.1.1.1) h) (xsem_inj (congrArg (fun t : GSem nD τ sig × ℕ × Unit => t.1.2) h))⟩

def u₀ : UU :=
  (initOf (Pipeline.cells (Pipeline.pin (pcfgs (F := F)) adm) cellOf_inj) (Pipeline.launchToks (Pipeline.pin (pcfgs (F := F)) adm) cellOf_inj),
    (launchOf barCells scCells toks, 1))

/-- All of `X` on device 0. -/
def G0 (X : sProp 𝕄) (c : Dev nD) : sProp 𝕄 := if c = 0 then X else iprop(emp)
theorem G0_all (X : sProp 𝕄) : bigSep Finset.univ (G0 X) = X := by
  rw [bigSep_univ_at _ (0 : Dev nD), bigSep_congr (s := Finset.univ.erase (0 : Dev nD)) (Ψ := fun _ => (BI.emp : sProp 𝕄))
      fun c hc => by unfold G0; rw [if_neg (Finset.ne_of_mem_erase hc)]; rfl, BI.bigSep_emp_const]
  unfold G0
  rw [if_pos rfl]
  exact BI.equiv_iff.mp sep_emp
def G : Dev nD → sProp 𝕄 := G0 (BI.own (ER (launchOf barCells scCells toks)))

/-! ### What each device gets -/

def records (κ : GSem nD τ sig → ℕ) : sProp 𝕄 :=
  iprop((bigSep (barCells ∪ scCells) fun g => cellInv ER (Rd m) (κ g) g) ∗ bigSep barCells fun g => reached (ER (F := F)) g 0)
instance records_persistent (κ : GSem nD τ sig → ℕ) : BI.Persistent (records m κ) := by unfold records; infer_instance
theorem records_inv (κ : GSem nD τ sig → ℕ) {g : GSem nD τ sig} (hg : g ∈ barCells ∪ scCells) : records m κ ⊢ inv1 m g := by
  unfold records inv1
  iintro ⟨H, -⟩
  iexists (κ g)
  iapply (show (bigSep (barCells ∪ scCells) fun g => (cellInv ER (Rd m) (κ g) g : sProp 𝕄)) ⊢ cellInv ER (Rd m) (κ g) g from bigSep_elim hg) $$ H
theorem records_reached (κ : GSem nD τ sig → ℕ) : records m κ ⊢ reached (ER (F := F)) (barCell c) 0 := by
  unfold records
  iintro ⟨-, H⟩
  iapply (show (bigSep barCells fun g => (reached (ER (F := F)) g 0 : sProp 𝕄)) ⊢ reached (ER (F := F)) (barCell c) 0 from
    bigSep_elim (Finset.mem_map_of_mem barEmb (Finset.mem_univ c))) $$ H
theorem records_fam (κ : GSem nD τ sig → ℕ) : records m κ ⊢ fam2 fun k jj => inv1 m (dcell c k jj) :=
  (bigSep_of_persistent Finset.univ (records m κ)).trans (big_mono fun k =>
    (bigSep_of_persistent Finset.univ (records m κ)).trans (big_mono fun jj => records_inv m κ (dma_mem c k jj)))
theorem records_Know (κ : GSem nD τ sig → ℕ) : records m κ ⊢ Know m c := by
  unfold Know
  iintro #H
  isplitr; · iapply (records_inv m κ (bar_mem c)); iexact H
  isplitr; · iapply (records_inv m κ (bar_mem (peer c))); iexact H
  isplitr; · iapply (records_reached m (peer c) κ); iexact H
  isplitr; · iapply (records_reached m c κ); iexact H
  isplitr; · iapply (records_fam m c κ); iexact H
  iapply (records_fam m (peer c) κ); iexact H

/-! ### The payments, each with the device that makes it -/

theorem toks_eq : bigSep toks (fun x => (dutyTok (ER (F := F)) x.1 x.2.1 x.2.2 : sProp 𝕄))
    = bigSep Finset.univ fun c : Dev nD => iprop(dutyTok (ER (F := F)) (barCell c) 0 () ∗ (fam fun jj => tok (F := F) c 0 jj)
        ∗ (fam fun jj => tok (F := F) c 1 jj) ∗ (fam fun jj => tok (F := F) c 2 jj) ∗ (fam fun jj => tok (F := F) c 3 jj)) := by
  unfold toks
  rw [bigSep_map, bigSep_univ_prod]
  refine bigSep_congr fun c _ => ?_
  rw [bigSep_univ_sum, bigSep_univ_prod, show (Finset.univ : Finset Unit) = {()} from rfl, bigSep_singleton]
  exact congrArg (fun X => iprop(dutyTok (ER (F := F)) (barCell c) 0 () ∗ X)) (fam_four fun k => fam fun jj => tok (F := F) c k jj)

theorem Lin_eq : iprop((bigSep Finset.univ fun c : Dev nD => atPos (ER (F := F)) (barCell c) 0 ∅ 0)
      ∗ bigSep toks (fun x => (dutyTok (ER (F := F)) x.1 x.2.1 x.2.2 : sProp 𝕄)))
    = bigSep Finset.univ fun c : Dev nD => Lin (F := F) c := by
  rw [toks_eq]
  unfold Lin
  rw [bigSep_sep', bigSep_sep', bigSep_sep', bigSep_sep', bigSep_sep', bigSep_sep', bigSep_sep', bigSep_sep', bigSep_sep',
    bigSep_univ_equiv swap (fun c : Dev nD => (dutyTok (ER (F := F)) (barCell c) 0 () : sProp 𝕄)),
    bigSep_univ_equiv swap (fun c : Dev nD => (fam fun jj => tok (F := F) c 1 jj : sProp 𝕄)),
    bigSep_univ_equiv swap (fun c : Dev nD => (fam fun jj => tok (F := F) c 3 jj : sProp 𝕄))]
  rfl

/-! ### What each device may wait for -/

theorem peer_eq {d c : Dev nD} (h : peer d = c) : d = peer c := by rw [← h, peer_peer]

theorem owe1_at (d : Dev nD) (k' jj' k jj : Fin 4) : owe1 d k' jj' (dcell c k jj) () = if jj' = jj then (if k' = k ∧ d = peer c then N else 0) else 0 := by
  rw [owe1, tallyAt_apply]
  by_cases h : jj' = jj ∧ k' = k ∧ d = peer c
  · obtain ⟨rfl, rfl, rfl⟩ := h
    rw [peer_peer, if_pos ⟨rfl, rfl⟩, if_pos rfl, if_pos ⟨rfl, rfl⟩]
  · rw [if_neg fun hg => h ?_]
    · split
      · next hj => rw [if_neg fun hk => h ⟨hj, hk⟩]
      · rfl
    · have e : (k, jj) = (k', jj') := Sum.inr_injective (xsem_inj (congrArg Prod.snd hg.1))
      exact ⟨(congrArg Prod.snd e).symm, (congrArg Prod.fst e).symm, peer_eq (congrArg (fun g : GSem nD τ sig => g.1.1) hg.1).symm⟩

theorem sum_at (d : Dev nD) (k' k jj : Fin 4) : (∑ i ∈ Finset.univ.filter (fun i : Fin 4 => 0 ≤ i.val), owe1 d k' i) (dcell c k jj) ()
    = if k' = k ∧ d = peer c then N else 0 := by
  rw [sum_apply, Finset.sum_congr rfl fun i _ => owe1_at c d k' i k jj, Finset.sum_ite_eq',
    if_pos (Finset.mem_filter.mpr (⟨Finset.mem_univ jj, Nat.zero_le jj.val⟩ : jj ∈ Finset.univ ∧ 0 ≤ jj.val))]

theorem owed_dma (d : Dev nD) (k jj : Fin 4) (hk : k = 1 ∨ k = 3) : O₀ d (dcell c k jj) () = if d = peer c then N else 0 := by
  unfold O₀ oweD oweC
  rw [Pi.add_apply, Finsupp.add_apply, Pi.add_apply, Finsupp.add_apply, sum_at, sum_at,
    tallyAt_ne_cell (show dcell c k jj ≠ barCell (peer d) from fun h => absurd (congrArg Prod.snd h) (fun h => nomatch h)), Finsupp.zero_apply, Nat.add_zero]
  rcases hk with rfl | rfl
  · rw [if_neg (fun h => absurd h.1 (by decide)), Nat.zero_add]
    simp only [true_and]
  · rw [if_neg (c := (1 : Fin 4) = 3 ∧ _) (fun h => absurd h.1 (by decide)), Nat.add_zero]
    simp only [true_and]

theorem owed_bar (d : Dev nD) : O₀ d (barCell c) () = if d = peer c then 1 else 0 := by
  have h0 : oweD d 0 (barCell c) () = 0 := Nat.eq_zero_of_not_pos fun h => by
    obtain ⟨k, jj, -, e⟩ := oweD_pos h
    exact nomatch (congrArg Prod.snd e)
  unfold O₀
  rw [Pi.add_apply, Finsupp.add_apply, h0, Nat.zero_add, tallyAt_apply]
  by_cases h : d = peer c
  · subst h; rw [peer_peer, if_pos ⟨rfl, rfl⟩, if_pos rfl]
  · rw [if_neg fun hg => h (peer_eq (congrArg (fun g : GSem nD τ sig => g.1.1) hg.1).symm), if_neg h]

/-- A counter that device `peer c` alone owes. -/
theorem launch_at (g : GSem nD τ sig) (n : ℕ) (h : ∀ d, O₀ d g () = if d = peer c then n else 0) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, Finset.sum_congr rfl fun d _ => h d, Finset.sum_ite_eq' Finset.univ (peer c) fun _ => n,
    if_pos (Finset.mem_univ _)]

/-- The counters waited on, one by one. -/
theorem creds : (Pipeline.launchCred O₀ c : sProp 𝕄) ⊢ Crd (F := F) c := by
  unfold Pipeline.launchCred Crd
  refine (BI.bigSep_subset (Finset.subset_univ (Finset.univ.map ⟨xsem, xsem_inj⟩))).trans ?_
  rw [bigSep_map, bigSep_univ_sum, bigSep_univ_prod, show (Finset.univ : Finset Unit) = {()} from rfl, bigSep_singleton]
  show iprop(cred (tallyOn (barCell c) (launchCredit (Pipeline.owing O₀) 0 (barCell c)))
    ∗ (fam fun k => fam fun jj => cred (tallyOn (dcell c k jj) (launchCredit (Pipeline.owing O₀) 0 (dcell c k jj))))) ⊢ _
  rw [launch_at c (barCell c) 1 (owed_bar c), fam_four]
  iintro ⟨H, -, H1, -, H3⟩
  isplitl [H]; · iexact H
  isplitl [H1]
  · iapply (Entails.of_eq (fam_congr fun jj => congrArg cred (launch_at c (dcell c 1 jj) N fun d => owed_dma c d 1 jj (.inl rfl)))) $$ H1
  · iapply (Entails.of_eq (fam_congr fun jj => congrArg cred (launch_at c (dcell c 3 jj) N fun d => owed_dma c d 3 jj (.inr rfl)))) $$ H3

/-! ### The barrier counter, the only one that is not a call's own -/

theorem sems_eq : (unscopedSems0 c : sProp 𝕄) = semVal (barCell c) 0 := by
  unfold unscopedSems0
  rw [show (Finset.univ.filter fun sm : SemLoc sig => ¬ sm.isScoped .tc) = {SemLoc.reg barS} from by decide, BI.bigSep_singleton]
theorem sems_bar : ∀ sm : SemLoc sig, sm.isScoped .tc = false → sm = .reg barS := by decide

/-! ### The set-up -/

-- The memory at the launch; `m` is what the exchange will find.
variable (w : (ℓ : Loc nD τ sig) → Buf (Elt F) ℓ)

/-- What a device starts with. -/
def T₀ : sProp 𝕄 := iprop(StableHlo.held (c : Thread nD τ) (Pipeline.ucRefs τ sig) (V₀ w c) ∗ (∃ r, prngReg c r) ∗ Tk m c ∗ ∃ W, owes (c : Thread nD τ) (O₀ c) W)
/-- Of it, what needs no setting up. -/
def Rest : sProp 𝕄 := iprop(StableHlo.held (c : Thread nD τ) (Pipeline.ucRefs τ sig) (V₀ w c) ∗ (∃ r, prngReg c r) ∗ Crd (F := F) c ∗ ∃ W, owes (c : Thread nD τ) (O₀ c) W)
theorem T₀_intro (κ : GSem nD τ sig → ℕ) :
    iprop(records m κ ∗ (fam2 (fun k jj => openTok (ER (F := F)) (dcell c k jj)) ∗ Lin (F := F) c) ∗ Rest c w) ⊢ T₀ m c w := by
  unfold Rest T₀ Tk
  iintro ⟨#HR, ⟨HT, HL⟩, Hh, Hp, HC, HO⟩
  isplitl [Hh]; · iexact Hh
  isplitl [Hp]; · iexact Hp
  isplitr [HO]
  · isplitr; · iapply (records_Know m c κ); iexact HR
    isplitl [HT]; · iexact HT
    isplitl [HL] <;> iassumption
  iexact HO

theorem init :
    iprop((bigSep Finset.univ fun c : Dev nD => iprop(unscopedBufs c (fun b => w ((c : Thread nD τ).loc b)) ∗ unscopedSems0 c
          ∗ owes (c : Thread nD τ) (O₀ c) ∅ ∗ Pipeline.launchCred O₀ c ∗ prngReg c (ρ c) ∗ G (F := F) c)) ∗ levAts L lv)
      ⊢ (|={Set.univ}=> bigSep Finset.univ (fun c => T₀ m c w) : sProp 𝕄) := by
  have hcore (c : Dev nD) : iprop(unscopedBufs c (fun b => w ((c : Thread nD τ).loc b)) ∗ unscopedSems0 c
        ∗ owes (c : Thread nD τ) (O₀ c) ∅ ∗ Pipeline.launchCred O₀ c ∗ prngReg c (ρ c) ∗ G (F := F) c)
      ⊢ (iprop(Rest c w ∗ (semVal (barCell c) 0 ∗ G c)) : sProp 𝕄) := by
    rw [show unscopedBufs c (fun b => w ((c : Thread nD τ).loc b)) = StableHlo.held (c : Thread nD τ) (Pipeline.ucRefs τ sig) (V₀ w c) from Pipeline.unscopedBufs_held c (V₀ w c), sems_eq]
    unfold Rest
    iintro ⟨Hh, Hs, HO, HC, Hp, HG⟩
    isplitr [Hs HG]
    · isplitl [Hh]; · iexact Hh
      isplitl [Hp]; · iexists (ρ c); iexact Hp
      isplitl [HC]; · iapply (creds c) $$ HC
      iexists ∅; iexact HO
    isplitl [Hs] <;> iassumption
  have hbar : bigSep Finset.univ (fun c : Dev nD => (semVal (barCell c) 0 : sProp 𝕄)) = bigSep barCells (fun g => (semVal g 0 : sProp 𝕄)) :=
    (bigSep_map (s := Finset.univ) barEmb (Φ := fun g : GSem nD τ sig => (semVal g 0 : sProp 𝕄))).symm
  have hat : bigSep barCells (fun g => (atPos (ER (F := F)) g 0 ∅ 0 : sProp 𝕄)) = bigSep Finset.univ (fun c : Dev nD => (atPos (ER (F := F)) (barCell c) 0 ∅ 0 : sProp 𝕄)) :=
    bigSep_map (s := Finset.univ) barEmb (Φ := fun g : GSem nD τ sig => (atPos (ER (F := F)) g 0 ∅ 0 : sProp 𝕄))
  have hopen : bigSep scCells (fun g => (openTok (ER (F := F)) g : sProp 𝕄))
      = bigSep Finset.univ (fun c : Dev nD => fam2 fun k jj => openTok (ER (F := F)) (dcell c k jj)) := by
    rw [bigSep_map, bigSep_univ_prod]
    exact bigSep_congr fun c _ => by rw [bigSep_univ_prod]; rfl
  iintro ⟨H, -⟩
  icases (big_mono hcore) $$ H with H
  icases (Entails.of_eq (bigSep_sep' _ _ _)) $$ H with ⟨HB, H⟩
  icases (Entails.of_eq (bigSep_sep' _ _ _)) $$ H with ⟨Hv, HG⟩
  icases (Entails.of_eq (show bigSep Finset.univ (G (F := F)) = _ from G0_all _)) $$ HG with HG
  icases (Entails.of_eq hbar) $$ Hv with Hv
  imod (Rounds.fund_launch (ER (F := F)) (Rd m) disjoint_cells (fun g _ h => h) toks) $$ [Hv HG] with ⟨%κ, -, #Hinv, #Hr, Hat, Hopen, Htok⟩
  · isplitl [Hv] <;> iassumption
  imodintro
  iapply (bigSep_with_persistent (R := records m κ)
    (Φ := fun c => iprop((fam2 (fun k jj => openTok (ER (F := F)) (dcell c k jj)) ∗ Lin (F := F) c) ∗ Rest c w)) fun c _ => T₀_intro m c w κ)
  isplitr
  · unfold records
    isplitr; · iexact Hinv
    iexact Hr
  iapply (Entails.of_eq (bigSep_sep' _ _ _).symm)
  isplitr [HB]
  · iapply (Entails.of_eq (bigSep_sep' _ _ _).symm)
    isplitl [Hopen]; · iapply (Entails.of_eq hopen) $$ Hopen
    iapply (Entails.of_eq (Lin_eq (F := F)))
    isplitl [Hat]
    · iapply (Entails.of_eq hat) $$ Hat
    · iexact Htok
  · iexact HB

theorem u₀_own : (ownU (u₀ (F := F)) : sProp 𝕄)
    ⊢ iprop(BI.own (EP (F := F) (initOf (Pipeline.cells (Pipeline.pin (pcfgs (F := F)) adm) cellOf_inj) (Pipeline.launchToks (Pipeline.pin (pcfgs (F := F)) adm) cellOf_inj)))
      ∗ bigSep Finset.univ (G (F := F))) := by
  rw [show bigSep Finset.univ (G (F := F)) = _ from G0_all _]
  unfold u₀
  iintro H
  icases (ownU_pair _ _) $$ H with ⟨HP, H⟩
  isplitl [HP]; · iexact HP
  icases (own_pair_emb _ _ _) $$ H with ⟨H, -⟩
  iexact H

end Setup

end Cert.Moe

end
-- ==== Proof.Pack.lean ====
/-
  The first call, `_pack`: at point `e` the rows of expert `e` are gathered from the device's tokens, each row by its slot number.
  The body reads two constant windows and writes the block of its result whole, so one point is three loads and a store.
-/
module

public import proofs.«01_k».proof.Proof.Steps

@[expose] public section

set_option maxRecDepth 20000

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (O : CellTallies nD τ sig Unit) (c : Dev nD)

/-- Window `w`'s block of the first call at point `t`. -/
def pblk (w : Fin cfg0.W) (t : Fin cfg0.N) : ((cfg0.win w).xblock (cfg0.grid.coords t)).Idx → Elt F (cfg0.win w).elt :=
  ((cfg0.win w).blk t).view.read (Elt F) (m ((c : Thread nD τ).loc (Pipeline.arrRef spec0 w)))
/-- The slot numbers and the tokens, as staged. -/
def pSlots (t : Fin cfg0.N) : Vec F S8x512 .i32 := pblk m c 0 t
def pRows (t : Fin cfg0.N) : Vec F S4096x2048 .bf16 := pblk m c 1 t
/-- What point `t` leaves. -/
def pOut (t : Fin cfg0.N) : Vec F S1x576x2048 .bf16 := k0_pay1 (grid0.coords t) (pSlots m c t) (pRows m c t)

/-- The data of the first call: an amount owed throughout rides along. -/
def dat0 : Dat τ (Elt F) Unit ℕ UU ℕ cfg0 c where
  A w := m ((c : Thread nD τ).loc (Pipeline.arrRef spec0 w))
  after := fun
    | 0 => pSlots m c
    | 1 => pRows m c
    | 2 => pOut m c
    | ⟨_ + 3, h⟩ => absurd h (Nat.not_lt.2 (Nat.le_add_left _ _))
  Φ _ := Pipeline.scopedRest spec0 c
  q _ := fullShare
  owed _ := O

theorem before_slots (t : Fin cfg0.N) (d) : (dat0 m O c).before 0 t d = pSlots m c t :=
  ((dat0 m O c).before_in_eq_fetched 0 rfl (fun _ => rfl) (fun _ _ _ => rfl) (fun t => rfl) t d).trans rfl
theorem before_rows (t : Fin cfg0.N) (d) : (dat0 m O c).before 1 t d = pRows m c t :=
  ((dat0 m O c).before_in_eq_fetched 1 rfl (fun _ => rfl) (fun _ _ _ => rfl) (fun t => rfl) t d).trans rfl

theorem zero2 : (![0, 0] : Fin 2 → ℕ) = fun _ => 0 := by decide
theorem zero3 : (![0, 0, 0] : Fin 3 → ℕ) = fun _ => 0 := by decide

theorem pack_step (i : grid0.Coords) (M1 : Memref sig .tc .vmem S8x512 .i32) (h1 : M1.IsWhole) (M2 : Memref sig .tc .vmem S4096x2048 .bf16) (h2 : M2.IsWhole)
    (M3 : Memref sig .tc .vmem S1x576x2048 .bf16) (h3 : M3.IsWhole) (A : Vec F S8x512 .i32) (B : Vec F S4096x2048 .bf16) (C : Vec F S1x576x2048 .bf16)
    (Q : PUnit → sProp 𝕄) :
    iprop(at' c M1 A ∗ at' c M2 B ∗ at' c M3 C)
      ⊢ iprop((at' c M1 A -∗ at' c M2 B -∗ at' c M3 (k0_pay1 i A B) -∗ Q ⟨⟩) -∗ Wp c (cc0__pack_body (F := F) i M1 h1 M2 h2 M3 h3) Q) := by
  rw [cc0__pack_body_eq_skeleton]
  unfold cc0__pack_body_skel
  simp only [Prog.lift, Prog.bind_op, Prog.bind_ret, Prog.pure_eq_ret]
  iintro ⟨H1, H2, H3⟩ Hk
  iapply (ld_full c (s := S8x512) zero2 A) $$ H1
  iintro H1
  iapply (ld_full c (s := S4096x2048) zero2 B) $$ H2
  iintro H2
  iapply (ld_full c (s := S1x576x2048) zero3 C) $$ H3
  iintro H3
  iapply (st_full c (s := S1x576x2048) zero3 C) $$ H3
  iintro H3
  rw [show Wp c (.ret ⟨⟩) Q = iprop(|={Set.univ}=> Q ⟨⟩) from wp_ret _ _ _ _ _]
  imodintro
  iapply Hk $$ H1 H2 H3

theorem body0 : BodyObligation (dat0 (F := F) m O c) defs₀ 𝒱₀ () Set.univ := fun t => by
  rw [bigSep_W0, bigSep_W0, show (dat0 (F := F) m O c).Φ t.castSucc = (dat0 (F := F) m O c).Φ t.succ from rfl,
    show ((dat0 (F := F) m O c).owesAt () t.castSucc : sProp 𝕄) = (dat0 (F := F) m O c).owesAt () t.succ from rfl]
  show _ ⊢ Wp c (bodyAt0 (F := F) t) _
  iintro ⟨HΦ, HO, ⟨%d0, H0⟩, ⟨%d1, H1⟩, ⟨%d2, H2⟩⟩
  icases (Entails.of_eq (congrArg (at' c (stage0_0 (cfg0.slots t 0))) (before_slots m O c t d0))) $$ H0 with H0
  icases (Entails.of_eq (congrArg (at' c (stage0_1 (cfg0.slots t 1))) (before_rows m O c t d1))) $$ H1 with H1
  iapply (pack_step c (grid0.coords t) _ _ _ _ _ _ (pSlots m c t) (pRows m c t) _ _) $$ [H0 H1 H2]
  · isplitl [H0]; · iexact H0
    isplitl [H1]; · iexact H1
    iexact H2
  iintro H0 H1 H2
  isplitl [HΦ]; · iexact HΦ
  isplitl [HO]; · iexact HO
  isplitl [H0]; · iexact H0
  isplitl [H1]; · iexact H1
  iexact H2

end Cert.Moe

end
-- ==== Proof.Unpack.lean ====
/-
  The last call, `_unpack`: at point `t` the results of 512 tokens are gathered from the packed results, each by its slot number.
-/
module

public import proofs.«01_k».proof.Proof.Pack

@[expose] public section

set_option maxRecDepth 20000

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (c : Dev nD)

/-- Window `w`'s block of the last call at point `t`. -/
def ublk (w : Fin cfg2.W) (t : Fin cfg2.N) : ((cfg2.win w).xblock (cfg2.grid.coords t)).Idx → Elt F (cfg2.win w).elt :=
  ((cfg2.win w).blk t).view.read (Elt F) (m ((c : Thread nD τ).loc (Pipeline.arrRef spec2 w)))
/-- The slot numbers and the packed results, as staged. -/
def uSlots (t : Fin cfg2.N) : Vec F S8x512 .i32 := ublk m c 0 t
def uRows (t : Fin cfg2.N) : Vec F S8x576x2048 .bf16 := ublk m c 1 t
/-- The slot numbers of point `i`'s tokens. -/
def uRow (i : grid2.Coords) (A : Vec F S8x512 .i32) : Vec F S1x512 .i32 :=
  fun x => A ((Rect.unit (s := S8x512) (k2_off1 i) S1x512.size (k2_off1_inb i)).toLoadRect.idx x)
/-- What point `t` leaves. -/
def uOut (t : Fin cfg2.N) : Vec F S512x2048 .f32 := k2_pay1 (uRow (grid2.coords t) (uSlots m c t)) (uRows m c t)

/-- The data of the last call: nothing is owed. -/
def dat2 : Dat τ (Elt F) Unit ℕ UU ℕ cfg2 c where
  A w := m ((c : Thread nD τ).loc (Pipeline.arrRef spec2 w))
  after := fun
    | 0 => uSlots m c
    | 1 => uRows m c
    | 2 => uOut m c
    | ⟨_ + 3, h⟩ => absurd h (Nat.not_lt.2 (Nat.le_add_left _ _))
  Φ _ := Pipeline.scopedRest spec2 c
  q _ := fullShare
  owed _ := 0

theorem before_uSlots (t : Fin cfg2.N) (d) : (dat2 m c).before 0 t d = uSlots m c t :=
  ((dat2 m c).before_in_eq_fetched 0 rfl (fun _ => rfl) (fun _ _ _ => rfl) (fun t => rfl) t d).trans rfl
theorem before_uRows (t : Fin cfg2.N) (d) : (dat2 m c).before 1 t d = uRows m c t :=
  ((dat2 m c).before_in_eq_fetched 1 rfl (fun _ => rfl) (fun _ _ _ => rfl) (fun t => rfl) t d).trans rfl

/-- A load of any part of what a memref covers. -/
theorem ld_part {cs : CoreSpace} {s : Shape} {e : EltTy} {M : Memref sig .tc cs s e} {r : LoadRect s} {hl : M.view.LoadsAt r} {α : Type}
    {k : (r.shape.Idx → Elt F e) → Prog (TpuEff nD τ sig (Elt F) Λ₀ .tc) α} (X : s.Idx → Elt F e) {Q : α → sProp 𝕄} :
    at' c M X ⊢ iprop((at' c M X -∗ Wp c (k fun x => X (r.idx x)) Q) -∗ Wp c (.op (.load M r hl) k) Q) := by
  unfold at' owns
  iintro ⟨%f, %hf, H⟩ Hk
  iapply (wp_load 𝒱₀ (c : Thread nD τ) none Set.univ (View.setOn_subset_set _ _)) $$ H
  iintro H
  have hv : M.view.readAt (Elt F) r f = fun x => X (r.idx x) := by
    rw [← hf]; funext x; rw [View.readAt_apply]
  rw [hv]
  iapply Hk
  iexists f; isplitr; · ipureintro; exact hf
  iexact H

theorem unpack_step (i : grid2.Coords) (M1 : Memref sig .tc .vmem S8x512 .i32) (h1 : M1.IsWhole) (M2 : Memref sig .tc .vmem S8x576x2048 .bf16) (h2 : M2.IsWhole)
    (M3 : Memref sig .tc .vmem S512x2048 .f32) (h3 : M3.IsWhole) (A : Vec F S8x512 .i32) (B : Vec F S8x576x2048 .bf16) (C : Vec F S512x2048 .f32)
    (Q : PUnit → sProp 𝕄) :
    iprop(at' c M1 A ∗ at' c M2 B ∗ at' c M3 C)
      ⊢ iprop((at' c M1 A -∗ at' c M2 B -∗ at' c M3 (k2_pay1 (uRow i A) B) -∗ Q ⟨⟩) -∗ Wp c (cc2__unpack_body (F := F) i M1 h1 M2 h2 M3 h3) Q) := by
  rw [cc2__unpack_body_eq_skeleton]
  unfold cc2__unpack_body_skel
  simp only [Prog.lift, Prog.bind_op, Prog.bind_ret, Prog.pure_eq_ret]
  iintro ⟨H1, H2, H3⟩ Hk
  iapply (ld_part c A) $$ H1
  iintro H1
  iapply (ld_full c (s := S8x576x2048) zero3 B) $$ H2
  iintro H2
  iapply (ld_full c (s := S512x2048) zero2 C) $$ H3
  iintro H3
  iapply (st_full c (s := S512x2048) zero2 C) $$ H3
  iintro H3
  rw [show Wp c (.ret ⟨⟩) Q = iprop(|={Set.univ}=> Q ⟨⟩) from wp_ret _ _ _ _ _]
  imodintro
  iapply Hk $$ H1 H2 [H3]
  iexact H3

theorem body2 : BodyObligation (dat2 (F := F) m c) defs₀ 𝒱₀ () Set.univ := fun t => by
  rw [bigSep_W2, bigSep_W2, show (dat2 (F := F) m c).Φ t.castSucc = (dat2 (F := F) m c).Φ t.succ from rfl,
    show ((dat2 (F := F) m c).owesAt () t.castSucc : sProp 𝕄) = (dat2 (F := F) m c).owesAt () t.succ from rfl]
  show _ ⊢ Wp c (bodyAt2 (F := F) t) _
  iintro ⟨HΦ, HO, ⟨%d0, H0⟩, ⟨%d1, H1⟩, ⟨%d2, H2⟩⟩
  icases (Entails.of_eq (congrArg (at' c (stage2_0 (cfg2.slots t 0))) (before_uSlots m c t d0))) $$ H0 with H0
  icases (Entails.of_eq (congrArg (at' c (stage2_1 (cfg2.slots t 1))) (before_uRows m c t d1))) $$ H1 with H1
  iapply (unpack_step c (grid2.coords t) _ _ _ _ _ _ (uSlots m c t) (uRows m c t) _ _) $$ [H0 H1 H2]
  · isplitl [H0]; · iexact H0
    isplitl [H1]; · iexact H1
    iexact H2
  iintro H0 H1 H2
  isplitl [HΦ]; · iexact HΦ
  isplitl [HO]; · iexact HO
  isplitl [H0]; · iexact H0
  isplitl [H1]; · iexact H1
  iexact H2

end Cert.Moe

end
-- ==== Proof.Launch.lean ====
/-
  The run of the whole program: the slot numbers are computed, the tokens packed, the exchange is entered and left, and the results
  are unpacked.  Between any two of these a device holds all its buffers at contents that are a function of the launch memory.
-/
module

public import proofs.«01_k».proof.Proof.Talk
public import proofs.«01_k».proof.Proof.Unpack
public import Idealize.ShloMosaic.Lib.Pipeline.RegionArraysS

@[expose] public section

set_option maxRecDepth 20000

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (c : Dev nD)

variable [∀ e, Nonempty (Elt F e)]

/-! ## The contents between the calls -/

/-- What every device holds, as a memory. -/
abbrev mem (A : Dev nD → Valuation τ sig (Elt F)) : (ℓ : Loc nD τ sig) → Buf (Elt F) ℓ := fun ℓ => A ℓ.1 ℓ.2

/-- After the tokens are packed, -/
def A4 (c : Dev nD) : Valuation τ sig (Elt F) := Pipeline.afterRegion (dat0 (mem (V3 m)) (O₀ c) c) (V3 m c)
/-- after the exchange, -/
def A5 (c : Dev nD) : Valuation τ sig (Elt F) := V₁ (mem (A4 m)) c
/-- before the results are unpacked, -/
def A6 (c : Dev nD) : Valuation τ sig (Elt F) := StableHlo.after hostOps2 (A5 m c)
/-- and at the end. -/
def A7 (c : Dev nD) : Valuation τ sig (Elt F) := Pipeline.afterRegion (dat2 (mem (A6 m)) c) (A6 m c)

/-- A buffer the first call does not write. -/
theorem A4_of (r : Ref sig .tc) (h : r ≠ main_v19) : A4 m c r = V3 m c r :=
  Pipeline.afterRegion_keeps (dat0 (mem (V3 m)) (O₀ c) c) (V3 m c) launch0.win.arr_inj (fun _ => rfl) r fun w e => by
    subst e; revert h; fin_cases w
    · exact fun _ => rfl
    · exact fun _ => rfl
    · exact fun h => absurd rfl h
theorem A5_of (r : Ref sig .tc) (h : r ≠ main_v20) : A5 m c r = A4 m c r := V₁_ne (mem (A4 m)) c r (StableHlo.devRef_ne_of_ne h)
theorem A6_of (r : Ref sig .tc) (h : r ∉ hostOps2_W) : A6 m c r = A5 m c r := StableHlo.after_of_writes_sub hostOps2 _ hostOps2_writes h
theorem A7_of (r : Ref sig .tc) (h : r ≠ main_v22) : A7 m c r = A6 m c r :=
  Pipeline.afterRegion_keeps (dat2 (mem (A6 m)) c) (A6 m c) launch2.win.arr_inj (fun _ => rfl) r fun w e => by
    subst e; revert h; fin_cases w
    · exact fun _ => rfl
    · exact fun _ => rfl
    · exact fun h => absurd rfl h
/-- What nothing writes is as it was at the launch. -/
theorem A7_kept (r : Ref sig .tc) (h7 : r ≠ main_v22) (h6 : r ∉ hostOps2_W) (h5 : r ≠ main_v20) (h4 : r ≠ main_v19) (h3 : r ∉ hostOps0_2_W)
    (h2 : r ∉ hostOps0_1_W) (h1 : r ∉ hostOps0_W) : A7 m c r = m ((c : Thread nD τ).loc r) :=
  (A7_of m c r h7).trans <| (A6_of m c r h6).trans <| (A5_of m c r h5).trans <| (A4_of m c r h4).trans <| (V3_of m c r h3).trans <|
    (V2_of m c r h2).trans <| (V1_of m c r h1).trans rfl

/-! ## The three calls -/

/-- The data of the three calls. -/
def pdats : (p : Fin 3) → (c : Dev nD) → Dat τ (Elt F) Unit ℕ UU ℕ (Pipeline.pin (pcfgs (F := F)) adm p) c
  | 0 => fun c => dat0 (mem (V3 m)) (O₀ c) c
  | 1 => fun c => dat1 (mem (A4 m)) c
  | 2 => fun c => dat2 (mem (A6 m)) c
  | ⟨_ + 3, h⟩ => absurd h (Nat.not_lt.2 (Nat.le_add_left _ _))

/-- What is kept beside the buffers up to the exchange, -/
def E₀ : sProp 𝕄 := iprop((∃ W, owes (c : Thread nD τ) (O₀ c) W) ∗ emp ∗ ((∃ r, prngReg c r) ∗ Tk (mem (A4 m)) c))
/-- and after it. -/
def E₂ : sProp 𝕄 := iprop((∃ W, owes (c : Thread nD τ) (0 : CellTallies nD τ sig Unit) W) ∗ emp ∗ semVal (barCell c) 0)

theorem O₀_cut {g : GSem nD τ sig} {i : Unit} (h : 0 < O₀ c g i) : i ∈ L g ∧ (0 : ℕ) < lv g i := by
  rcases O₀_pos h with ⟨k, jj, hk, rfl⟩ | rfl
  · rw [L_tc, lv_dma]
    exact ⟨Finset.mem_singleton_self _, by rcases hk with rfl | rfl <;> decide⟩
  · rw [L_tc, lv_bar]
    exact ⟨Finset.mem_singleton_self _, Nat.one_pos⟩
theorem owed_cut (t : ℕ) {g : GSem nD τ sig} {i : Unit} (h : 0 < owedAt c t g i) : i ∈ L g ∧ (0 : ℕ) < lv g i := by
  unfold owedAt at h
  split at h
  · exact O₀_cut c h
  · obtain ⟨jj, rfl⟩ := oweC_pos h
    rw [L_tc, lv_dma]
    exact ⟨Finset.mem_singleton_self _, by decide⟩

theorem owed_last : (dat1 (F := F) m c).owed (Fin.last cfg1.N) = 0 := by
  show owedAt c cfg1.N = 0
  rw [show cfg1.N = 32 from N_1, owedAt_last]

theorem drop_emp (P : sProp 𝕄) : iprop(P ∗ emp) ⊢ P := by iintro ⟨H, -⟩; iexact H
theorem add_emp (P : sProp 𝕄) : P ⊢ iprop(P ∗ emp) := by
  iintro H
  isplitl [H]; · iexact H
  iempintro

abbrev UC : Finset (DevRef τ sig) := Pipeline.ucRefs τ sig
/-- The buffers no window of the exchange stages. -/
abbrev Sr : Finset (DevRef τ sig) := UC \ Pipeline.arrRefs (τ := τ) spec1

theorem sub0 : Pipeline.arrRefs (τ := τ) spec0 ⊆ UC := Pipeline.arrRefs_sub_ucRefs spec0 (by decide)
theorem sub1 : Pipeline.arrRefs (τ := τ) spec1 ⊆ UC := Pipeline.arrRefs_sub_ucRefs spec1 (by decide)
theorem sub2 : Pipeline.arrRefs (τ := τ) spec2 ⊆ UC := Pipeline.arrRefs_sub_ucRefs spec2 (by decide)
theorem Hs_sub : Hs ⊆ Sr := by decide

theorem enter0 (O : CellTallies nD τ sig Unit) : iprop(Pipeline.scopedRest spec0 c ∗ emp) ⊢ (dat0 m O c).Φ 0 := drop_emp _
theorem leave0 (O : CellTallies nD τ sig Unit) : (dat0 m O c).Φ (Fin.last cfg0.N) ⊢ iprop(Pipeline.scopedRest spec0 c ∗ emp) := add_emp _
theorem enter2 : iprop(Pipeline.scopedRest spec2 c ∗ emp) ⊢ (dat2 m c).Φ 0 := drop_emp _
theorem leave2 : (dat2 m c).Φ (Fin.last cfg2.N) ⊢ iprop(Pipeline.scopedRest spec2 c ∗ emp) := add_emp _
theorem in0 : iprop(Pipeline.scopedRest (Pipeline.pin (pcfgs (F := F)) adm 0).spec c ∗ emp) ⊢ (pdats m 0 c).Φ 0 :=
  enter0 (mem (V3 m)) c (O₀ c)
theorem out0 : (pdats m 0 c).Φ (Fin.last (Pipeline.pin (pcfgs (F := F)) adm 0).N)
    ⊢ iprop(Pipeline.scopedRest (Pipeline.pin (pcfgs (F := F)) adm 0).spec c ∗ emp) :=
  leave0 (mem (V3 m)) c (O₀ c)
theorem in2 : iprop(Pipeline.scopedRest (Pipeline.pin (pcfgs (F := F)) adm 2).spec c ∗ emp) ⊢ (pdats m 2 c).Φ 0 :=
  enter2 (mem (A6 m)) c
theorem out2 : (pdats m 2 c).Φ (Fin.last (Pipeline.pin (pcfgs (F := F)) adm 2).N)
    ⊢ iprop(Pipeline.scopedRest (Pipeline.pin (pcfgs (F := F)) adm 2).spec c ∗ emp) :=
  leave2 (mem (A6 m)) c
theorem stage_lv0 : ∀ (w : Fin 3) (s : Fin (spec0 w).nbuf), lv ((c : Thread nD τ), .dma ((spec0 w).sem s)) () ≤ 0 := by
  unfold lv; dsimp only; decide
theorem stage_lv2 : ∀ (w : Fin 3) (s : Fin (spec2 w).nbuf), lv ((c : Thread nD τ), .dma ((spec2 w).sem s)) () ≤ 0 := by
  unfold lv; dsimp only; decide
theorem cut0 : Pipeline.LevelCut (pcfgs (F := F)) adm () L lv 0 O₀ fun _ => 0 :=
  ⟨fun c w s => by rw [L_tc]; exact Finset.mem_singleton_self _, fun c w s => stage_lv0 c w s, fun c g i h => O₀_cut c h⟩
theorem cut2 : Pipeline.LevelCut (pcfgs (F := F)) adm () L lv 2 (fun _ => 0) fun _ => 0 :=
  ⟨fun c w s => by rw [L_tc]; exact Finset.mem_singleton_self _, fun c w s => stage_lv2 c w s, fun c g i h => absurd h (lt_irrefl 0)⟩
theorem arr0 (w : Fin (Pipeline.pin (pcfgs (F := F)) adm 0).W) :
    (pdats m 0 c).arrAt w 0 = V3 m c (Proc.devRef .tc (Pipeline.arrRef (Pipeline.pin (pcfgs (F := F)) adm 0).spec w)) := rfl
theorem arr2 (w : Fin (Pipeline.pin (pcfgs (F := F)) adm 2).W) :
    (pdats m 2 c).arrAt w 0 = A6 m c (Proc.devRef .tc (Pipeline.arrRef (Pipeline.pin (pcfgs (F := F)) adm 2).spec w)) := rfl
theorem share0 (w) : (pdats (F := F) m 0 c).share w = fullShare := (dat0 (mem (V3 m)) (O₀ c) c).share_full (fun _ => rfl) w
theorem share2 (w) : (pdats (F := F) m 2 c).share w = fullShare := (dat2 (mem (A6 m)) c).share_full (fun _ => rfl) w
theorem loose0 : Pipeline.BodyObligationLoose (pdats (F := F) m 0 c) defs₀ 𝒱₀ () Set.univ := (body0 (mem (V3 m)) (O₀ c) c).loose
theorem loose2 : Pipeline.BodyObligationLoose (pdats (F := F) m 2 c) defs₀ 𝒱₀ () Set.univ := (body2 (mem (A6 m)) c).loose

def reg0 : Pipeline.RegionSeg (pcfgs (F := F)) adm (pdats m) () defs₀ 𝒱₀ L lv 0 :=
  Pipeline.RegionSeg.ofHeldIn (pcfgs (F := F)) adm (pdats m) () defs₀ 𝒱₀ L lv 0 O₀ UC (fun _ => iprop(emp)) (fun _ => iprop(emp)) launch0.toP rfl
    (fun c => loose0 m c) (fun _ _ => rfl) (fun _ => rfl) (fun c => share0 m c) (fun c => in0 m c) (fun c => out0 m c) (fun _ => 0) cut0
    (fun c => iprop((∃ r, prngReg c r) ∗ Tk (mem (A4 m)) c)) (V3 m) (fun c => arr0 m c)

def reg2 : Pipeline.RegionSeg (pcfgs (F := F)) adm (pdats m) () defs₀ 𝒱₀ L lv 2 :=
  Pipeline.RegionSeg.ofHeldIn (pcfgs (F := F)) adm (pdats m) () defs₀ 𝒱₀ L lv 2 (fun _ => 0) UC (fun _ => iprop(emp)) (fun _ => iprop(emp)) launch2.toP rfl
    (fun c => loose2 m c) (fun _ _ => rfl) (fun _ => rfl) (fun c => share2 m c) (fun c => in2 m c) (fun c => out2 m c) (fun _ => 0) cut2
    (fun c => semVal (barCell c) 0) (A6 m) (fun c => arr2 m c)

set_option backward.isDefEq.respectTransparency.types false in
def reg1 : Pipeline.RegionSeg (pcfgs (F := F)) adm (pdats m) () defs₀ 𝒱₀ L lv 1 :=
  Pipeline.RegionSeg.ofTalk (pcfgs (F := F)) adm (pdats m) () defs₀ 𝒱₀ L lv 1 osem (by decide : Pipeline.OwnSemFacts spec1 osem)
    Hs Sr Hs_sub launch1.toP rfl (fun c => (body1 (mem (A4 m)) c).loose)
    (fun _ => 0) O₀ (fun c => (owedAt_zero c).trans (zero_add _).symm) (fun c => owed_last (mem (A4 m)) c) (fun _ => rfl)
    (fun c w => (pdats m 1 c).share_full (fun _ => rfl) w)
    (A4 m) (A5 m) (fun c b hb => V₁_off (mem (A4 m)) c b (Finset.mem_sdiff.mp hb).2)
    (Tk (mem (A4 m))) Yk (Xk (mem (A4 m))) Yk (fun c => hopen (mem (A4 m)) c) (fun c => hin (mem (A4 m)) c) (fun c => hout (mem (A4 m)) c)
    (fun c => by iintro H; imodintro; iexact H)
    (fun _ => 0)
    ⟨fun c w s => by rw [L_tc]; exact Finset.mem_singleton_self _, fun c w s => by revert w s; unfold lv; dsimp only; decide, fun c t g i h => owed_cut c t.val h⟩
    (fun _ => iprop(emp))
    (fun c w => by fin_cases w <;> rfl) (fun c w => ((pdats m 1 c).arrAt_in w (by fin_cases w <;> rfl) _).trans (by
      fin_cases w
      · exact (V₁_ne (mem (A4 m)) c main_arg2 (by decide)).symm
      · exact (V₁_ne (mem (A4 m)) c main_arg3 (by decide)).symm))

/-! ## One after another -/

/-- A call's arrays and the other buffers apart, and back. -/
theorem held_in (S : Finset (DevRef τ sig)) (hS : S ⊆ UC) (V : Valuation τ sig (Elt F)) (X R : sProp 𝕄) :
    iprop(StableHlo.held (c : Thread nD τ) UC V ∗ X ∗ emp ∗ R)
      ⊢ iprop(StableHlo.held (c : Thread nD τ) S V ∗ emp ∗ (StableHlo.held (c : Thread nD τ) (UC \ S) V ∗ R) ∗ X) := by
  rw [StableHlo.held_sub_split (c : Thread nD τ) hS V]
  iintro ⟨⟨Ha, Hh⟩, HX, -, HR⟩
  isplitl [Ha]; · iexact Ha
  isplitr; · iempintro
  isplitl [Hh HR]
  · isplitl [Hh] <;> iassumption
  iexact HX
theorem held_out (S : Finset (DevRef τ sig)) (hS : S ⊆ UC) (V V' : Valuation τ sig (Elt F)) (h : ∀ b ∈ UC \ S, V' b = V b) (X R : sProp 𝕄) :
    iprop(StableHlo.held (c : Thread nD τ) S V' ∗ emp ∗ (StableHlo.held (c : Thread nD τ) (UC \ S) V ∗ R) ∗ X)
      ⊢ iprop(StableHlo.held (c : Thread nD τ) UC V' ∗ X ∗ emp ∗ R) := by
  rw [StableHlo.held_sub_split (c : Thread nD τ) hS V', StableHlo.held_congr (c : Thread nD τ) h]
  iintro ⟨Ha, -, ⟨Hh, HR⟩, HX⟩
  isplitl [Ha Hh]
  · isplitl [Ha] <;> iassumption
  isplitl [HX]; · iexact HX
  isplitr; · iempintro
  iexact HR

theorem reg0_pre : iprop(StableHlo.held (c : Thread nD τ) UC (V3 m c) ∗ E₀ m c) ⊢ (reg0 m).pre c :=
  held_in c (Pipeline.arrRefs (τ := τ) spec0) sub0 (V3 m c) iprop(∃ W, owes (c : Thread nD τ) (O₀ c) W) iprop((∃ r, prngReg c r) ∗ Tk (mem (A4 m)) c)
theorem reg0_post : (reg0 m).post c ⊢ iprop(StableHlo.held (c : Thread nD τ) UC (A4 m c) ∗ E₀ m c) :=
  held_out c (Pipeline.arrRefs (τ := τ) spec0) sub0 (V3 m c) (A4 m c) (Pipeline.afterRegion_off (dat0 (mem (V3 m)) (O₀ c) c) (V3 m c) UC) iprop(∃ W, owes (c : Thread nD τ) (O₀ c) W) iprop((∃ r, prngReg c r) ∗ Tk (mem (A4 m)) c)
theorem reg2_pre : iprop(StableHlo.held (c : Thread nD τ) UC (A6 m c) ∗ E₂ (F := F) c) ⊢ (reg2 m).pre c :=
  held_in c (Pipeline.arrRefs (τ := τ) spec2) sub2 (A6 m c) iprop(∃ W, owes (c : Thread nD τ) (0 : CellTallies nD τ sig Unit) W) (semVal (barCell c) 0)
theorem reg2_post : (reg2 m).post c ⊢ iprop(StableHlo.held (c : Thread nD τ) UC (A7 m c) ∗ E₂ (F := F) c) :=
  held_out c (Pipeline.arrRefs (τ := τ) spec2) sub2 (A6 m c) (A7 m c) (Pipeline.afterRegion_off (dat2 (mem (A6 m)) c) (A6 m c) UC) iprop(∃ W, owes (c : Thread nD τ) (0 : CellTallies nD τ sig Unit) W) (semVal (barCell c) 0)

theorem reg1_pre : iprop(StableHlo.held (c : Thread nD τ) UC (A4 m c) ∗ E₀ m c) ⊢ (reg1 m).pre c := by
  show _ ⊢ iprop(StableHlo.held (c.tc : Thread nD τ) (Pipeline.arrRefs (τ := τ) spec1) (A4 m c) ∗ (∃ r, prngReg c r)
    ∗ (StableHlo.held (c.tc : Thread nD τ) Sr (A4 m c) ∗ emp) ∗ Tk (mem (A4 m)) c ∗ ∃ Wd, owes (c : Thread nD τ) (0 + O₀ c) Wd)
  unfold E₀
  rw [zero_add, StableHlo.held_sub_split (c : Thread nD τ) sub1]
  iintro ⟨⟨Ha, Hh⟩, HO, -, Hp, HT⟩
  isplitl [Ha]; · iexact Ha
  isplitl [Hp]; · iexact Hp
  isplitl [Hh]
  · isplitl [Hh]; · iexact Hh
    iempintro
  isplitl [HT] <;> iassumption
theorem reg1_post : (reg1 m).post c ⊢ iprop(StableHlo.held (c : Thread nD τ) UC (A5 m c) ∗ E₂ (F := F) c) := by
  show iprop(StableHlo.held (c.tc : Thread nD τ) (Pipeline.arrRefs (τ := τ) spec1) (A5 m c) ∗ (∃ r, prngReg c r)
    ∗ (StableHlo.held (c.tc : Thread nD τ) Sr (A5 m c) ∗ emp) ∗ Yk c ∗ ∃ Wd, owes (c : Thread nD τ) (0 : CellTallies nD τ sig Unit) Wd) ⊢ _
  unfold E₂ Yk
  rw [StableHlo.held_sub_split (c : Thread nD τ) sub1 (A5 m c)]
  iintro ⟨Ha, -, ⟨Hh, -⟩, Hb, HO⟩
  isplitl [Ha Hh]
  · isplitl [Ha] <;> iassumption
  isplitl [HO]; · iexact HO
  isplitr; · iempintro
  iexact Hb

/-- The host operations between the exchange and the last call. -/
def segU : Pipeline.HostSeg (Ix := Unit) (Name := ℕ) (U := UU) (Lvl := ℕ) (pcfgs (F := F)) defs₀ 𝒱₀ L lv :=
  Pipeline.HostSeg.ofOps _ _ _ _ _ UC hostOps2
    (fun op h => Pipeline.sub_ucRefs op ((List.forall_iff_forall_mem.mp hostOps2_sub) op h))
    (fun op h => (List.forall_iff_forall_mem.mp hostOps2_fresh) op h) (A5 m) (E₂ (F := F))

def items : List (Pipeline.Seg (pcfgs (F := F)) adm (pdats m) () defs₀ 𝒱₀ L lv) :=
  [.host (seg0 m 𝒱₀ L lv fun _ => E₀ m), .host (seg1 m 𝒱₀ L lv fun _ => E₀ m), .host (seg2 m 𝒱₀ L lv fun _ => E₀ m), .region (reg0 m), .region (reg1 m),
    .host (segU m), .region (reg2 m)]

theorem start : T₀ (mem (A4 m)) c m ⊢ iprop(StableHlo.held (c : Thread nD τ) UC (V0 m c) ∗ E₀ m c) := by
  unfold T₀ E₀
  iintro ⟨Hh, Hp, HT, HO⟩
  isplitl [Hh]; · iexact Hh
  isplitl [HO]; · iexact HO
  isplitr; · iempintro
  isplitl [Hp] <;> iassumption

/-- What a device ends with. -/
def Tₙ : sProp 𝕄 := iprop(StableHlo.held (c : Thread nD τ) UC (A7 m c) ∗ semVal (barCell c) 0)
theorem stop : iprop(StableHlo.held (c : Thread nD τ) UC (A7 m c) ∗ E₂ (F := F) c)
    ⊢ iprop(Tₙ m c ∗ ∃ W, owes (c : Thread nD τ) (0 : CellTallies nD τ sig Unit) W) := by
  unfold Tₙ E₂
  iintro ⟨Hh, HO, -, Hb⟩
  isplitr [HO]
  · isplitl [Hh] <;> iassumption
  iexact HO

theorem mem_uc (r : Ref sig .tc) (h : ¬ (Proc.devRef .tc r : DevRef τ sig).isScoped) : (Proc.devRef .tc r : DevRef τ sig) ∈ UC :=
  Finset.mem_filter.mpr ⟨StableHlo.devRef_mem_tcRefs r, h⟩

set_option backward.isDefEq.respectTransparency.types false in
/-- From any memory with zero counters the program ends on every device, whatever the order in which the devices proceed, with its
    arguments as they were, the result `A7`, and every counter at zero. -/
theorem run_main : θ_run (defs (F := F)) (onTc (τ := τ) (main (F := F))) ⟨m, fun _ => 0, ρ⟩
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_v22) = A7 m c main_v22) ∧ r.2.sem = fun _ => 0) :=
  Pipeline.θ_run_regions_kit_sems (pcfgs (F := F)) adm (pdats m) () cellOf_inj EP defs₀ 𝒱₀ L lv m ρ main (items m)
    (fun c Q => by
      rewrite [main_chain c, Pipeline.Seg.run_eq_chain,
        show (items m).map Pipeline.Seg.prog = [StableHlo.seq hostOps0, StableHlo.seq hostOps0_1, StableHlo.seq hostOps0_2,
          Prog.lift (.customCall (Pipeline.entry 0) ()), Prog.lift (.customCall (Pipeline.entry 1) ()), StableHlo.seq hostOps2,
          Prog.lift (.customCall (Pipeline.entry 2) ())] from rfl]
      dsimp (config := { failIfUnchanged := false }) only
      exact .rfl)
    (by simp only [items, Pipeline.Seg.pipes_host, Pipeline.Seg.pipes_region, Pipeline.Seg.pipes_nil]; decide)
    (O₀ := O₀) (hL := L_of_ne) (G := G) (u₀ := u₀)
    (hu₀ := by
      iintro H
      imodintro
      iapply u₀_own $$ H)
    (T₀ := fun c => T₀ (mem (A4 m)) c m) (Tₙ := Tₙ m)
    (hch := ⟨fun c => start m c, fun _ => .rfl, fun _ => .rfl, fun c => reg0_pre m c, fun c => (reg0_post m c).trans (reg1_pre m c), fun c => reg1_post m c,
      fun c => reg2_pre m c, fun c => (reg2_post m c).trans (stop m c)⟩)
    (hinit := init (mem (A4 m)) ρ m)
    (QY := fun c s => (s.mem ((c : Thread nD τ).loc main_arg0) = m ((c : Thread nD τ).loc main_arg0)
      ∧ s.mem ((c : Thread nD τ).loc main_arg1) = m ((c : Thread nD τ).loc main_arg1)
      ∧ s.mem ((c : Thread nD τ).loc main_arg2) = m ((c : Thread nD τ).loc main_arg2)
      ∧ s.mem ((c : Thread nD τ).loc main_arg3) = m ((c : Thread nD τ).loc main_arg3)
      ∧ s.mem ((c : Thread nD τ).loc main_v22) = A7 m c main_v22) ∧ s.sem (barCell c) = 0)
    (hfin := fun c s' => by
      unfold Tₙ StableHlo.held
      iintro ⟨⟨Hh, Hb⟩, HSI⟩
      icombine HSI Hb gives %hb
      ihave Hr := (pointsTo_read_all UC (fun b => ((c : Thread nD τ).1, b)) (A7 m c) s') $$ [Hh HSI]
      · isplitl [Hh] <;> iassumption
      icases Hr with ⟨%h, HSI⟩
      imodintro
      isplitr
      · ipureintro
        exact ⟨⟨(h _ (mem_uc main_arg0 (by decide))).trans (A7_kept m c main_arg0 (by decide) (by decide) (by decide) (by decide) (by decide) (by decide) (by decide)),
          (h _ (mem_uc main_arg1 (by decide))).trans (A7_kept m c main_arg1 (by decide) (by decide) (by decide) (by decide) (by decide) (by decide) (by decide)),
          (h _ (mem_uc main_arg2 (by decide))).trans (A7_kept m c main_arg2 (by decide) (by decide) (by decide) (by decide) (by decide) (by decide) (by decide)),
          (h _ (mem_uc main_arg3 (by decide))).trans (A7_kept m c main_arg3 (by decide) (by decide) (by decide) (by decide) (by decide) (by decide) (by decide)),
          h _ (mem_uc main_v22 (by decide))⟩, by simpa using hb⟩
      iexact HSI)
    (hQ := fun s h hs => ⟨fun c => (h c).1,
      sem_eq_zero hs fun c sm hsm => by
        obtain rfl := sems_bar sm hsm
        exact (h c).2⟩)

end Cert.Moe

end
-- ==== Proof.Value.lean ====
/-
  What the call computes, over the reals.  An expert's rows times its two weight matrices, the hidden features taken in eight blocks.
-/
module

public import proofs.«01_k».proof.Proof.Region
public import Idealize.ShloMosaic.Lib.Pointwise
public import Idealize.ShloMosaic.Lib.ValueLayout

@[expose] public section

set_option maxRecDepth 20000

noncomputable section

namespace Cert.Moe

open Cert.KernelIdeal Cert.KernelIdeal.Gen
open Idealize.ShloMosaic Idealize.ShloMosaic.TcCoe

/-- Column `o` of `relu (x A) B`, for a row `x`, over the hidden features `q`. -/
def ff {n : ℕ} (x : Fin 2048 → EReal) (A : Fin 2048 → Fin n → EReal) (B : Fin n → EReal) : EReal :=
  ∑ q : Fin n, max (∑ d : Fin 2048, x d * A d q) 0 * B q

theorem acc0_apply (wa : Vec Ideal S1x2048x512 .bf16) (wb : Vec Ideal S1x512x2048 .bf16) (x : Blk Ideal) (r : Fin 576) (o : Fin 2048) :
    acc0 wa wb x (ix2 r o) = ff (fun d => x (ix2 r d)) (fun d q => wa (ix3 0 d q)) (fun q : Fin 512 => wb (ix3 0 q o)) := by
  unfold acc0 ff
  pointwise! [k1_pay4, k1_pay2, k1_pay15, k1_pay16]

theorem accS_apply (wa : Vec Ideal S1x2048x512 .bf16) (wb : Vec Ideal S1x512x2048 .bf16) (x : Blk Ideal) (a : Vec Ideal S576x2048 .f32)
    (r : Fin 576) (o : Fin 2048) :
    accS wa wb x a (ix2 r o) = a (ix2 r o) + ff (fun d => x (ix2 r d)) (fun d q => wa (ix3 0 d q)) (fun q : Fin 512 => wb (ix3 0 q o)) := by
  unfold accS ff
  pointwise! [k1_pay6, k1_pay2, k1_pay15, k1_pay16]

theorem pay7_apply (v : Vec Ideal S576x2048 .f32) (r : Fin 576) (o : Fin 2048) : k1_pay7 v (ix2 r o) = v (ix2 r o) := by
  pointwise! [k1_pay7]

/-! ## The weights staged at a point -/

variable (m : (ℓ : Loc nD τ sig) → Buf (Elt Ideal) ℓ) (c : Dev nD)

/-- Hidden feature `q` of block `s`. -/
abbrev hid (s : Fin 8) (q : Fin 512) : Fin 4096 := ⟨512 * s.val + q.val, by omega⟩

theorem index_A (jj : Fin 4) (s : Fin 8) :
    win1_0.index (pt (8 * jj.val + s.val)) 0 = jj.val ∧ win1_0.index (pt (8 * jj.val + s.val)) 1 = 0 ∧ win1_0.index (pt (8 * jj.val + s.val)) 2 = s.val := by
  revert jj s; decide
theorem index_B (jj : Fin 4) (s : Fin 8) :
    win1_1.index (pt (8 * jj.val + s.val)) 0 = jj.val ∧ win1_1.index (pt (8 * jj.val + s.val)) 1 = s.val ∧ win1_1.index (pt (8 * jj.val + s.val)) 2 = 0 := by
  revert jj s; decide

theorem wA_apply (jj : Fin 4) (s : Fin 8) (d : Fin 2048) (q : Fin 512) :
    wA m c (pt (8 * jj.val + s.val)) (ix3 0 d q) = m ((c : Thread nD τ).loc main_arg2) (ix3 jj d (hid s q)) := by
  unfold wA iblk
  rw [View.read_apply]
  show m ((c : Thread nD τ).loc main_arg2) _ = _
  congr 1
  funext a
  apply Fin.ext
  obtain ⟨h0, h1, h2⟩ := index_A jj s
  match a with
  | ⟨0, _⟩ => show win1_0.index (pt (8 * jj.val + s.val)) 0 * 1 + 1 * 0 = jj.val; rw [h0]; omega
  | ⟨1, _⟩ => show win1_0.index (pt (8 * jj.val + s.val)) 1 * 2048 + 1 * d.val = d.val; rw [h1]; omega
  | ⟨2, _⟩ => show win1_0.index (pt (8 * jj.val + s.val)) 2 * 512 + 1 * q.val = 512 * s.val + q.val; rw [h2]; omega

theorem wB_apply (jj : Fin 4) (s : Fin 8) (q : Fin 512) (o : Fin 2048) :
    wB m c (pt (8 * jj.val + s.val)) (ix3 0 q o) = m ((c : Thread nD τ).loc main_arg3) (ix3 jj (hid s q) o) := by
  unfold wB iblk
  rw [View.read_apply]
  show m ((c : Thread nD τ).loc main_arg3) _ = _
  congr 1
  funext a
  apply Fin.ext
  obtain ⟨h0, h1, h2⟩ := index_B jj s
  match a with
  | ⟨0, _⟩ => show win1_1.index (pt (8 * jj.val + s.val)) 0 * 1 + 1 * 0 = jj.val; rw [h0]; omega
  | ⟨1, _⟩ => show win1_1.index (pt (8 * jj.val + s.val)) 1 * 512 + 1 * q.val = 512 * s.val + q.val; rw [h1]; omega
  | ⟨2, _⟩ => show win1_1.index (pt (8 * jj.val + s.val)) 2 * 2048 + 1 * o.val = o.val; rw [h2]; omega

/-! ## The accumulated sum -/

/-- The part of block `s` of the hidden features. -/
abbrev part (x : Fin 4 → Blk Ideal) (jj : Fin 4) (s : Fin 8) (r : Fin 576) (o : Fin 2048) : EReal :=
  ff (fun d => x jj (ix2 r d)) (fun d q => m ((c : Thread nD τ).loc main_arg2) (ix3 jj d (hid s q)))
    (fun q : Fin 512 => m ((c : Thread nD τ).loc main_arg3) (ix3 jj (hid s q) o))

theorem jOf_at (jj : Fin 4) (s : Fin 8) : jOf (8 * jj.val + s.val) = jj := by revert jj s; decide

theorem acc_apply (x : Fin 4 → Blk Ideal) (jj : Fin 4) (r : Fin 576) (o : Fin 2048) (k : ℕ) (hk : k < 8) :
    acc m c x (8 * jj.val + k) (ix2 r o) = ∑ s : Fin (k + 1), part m c x jj (s.castLE hk) r o := by
  induction k with
  | zero =>
    rw [acc_first m c x _ (by omega), acc0_apply, Fin.sum_univ_one]
    simp only [show 8 * jj.val + 0 = 8 * jj.val + (0 : Fin 8).val from rfl, wA_apply, wB_apply, jOf_at]
    rfl
  | succ k ih =>
    rw [acc_later m c x _ (by omega), accS_apply, Fin.sum_univ_castSucc]
    rw [show 8 * jj.val + (k + 1) - 1 = 8 * jj.val + k by omega, ih (by omega)]
    simp only [show 8 * jj.val + (k + 1) = 8 * jj.val + (⟨k + 1, hk⟩ : Fin 8).val from rfl, wA_apply, wB_apply, jOf_at]
    rfl

/-- Eight blocks of hidden features are all of them. -/
theorem ff_blocks (x : Fin 2048 → EReal) (A : Fin 2048 → Fin 4096 → EReal) (B : Fin 4096 → EReal) :
    ∑ s : Fin 8, ff x (fun d q => A d (hid s q)) (fun q : Fin 512 => B (hid s q)) = ff x A B := by
  unfold ff
  rw [← Fintype.sum_prod_type' (fun (s : Fin 8) (q : Fin 512) => max (∑ d, x d * A d (hid s q)) 0 * B (hid s q))]
  refine Fintype.sum_equiv (finProdFinEquiv (m := 8) (n := 512)) _ _ fun p => ?_
  rw [show (finProdFinEquiv p : Fin 4096) = hid p.1 p.2 from Fin.ext (Nat.add_comm _ _)]

theorem Y_apply (x : Fin 4 → Blk Ideal) (jj : Fin 4) (r : Fin 576) (o : Fin 2048) :
    Y m c x jj (ix2 r o) = ff (fun d => x jj (ix2 r d)) (fun d f => m ((c : Thread nD τ).loc main_arg2) (ix3 jj d f))
      (fun f : Fin 4096 => m ((c : Thread nD τ).loc main_arg3) (ix3 jj f o)) := by
  unfold Y
  rw [pay7_apply, acc_apply m c x jj r o 7 (by decide)]
  exact ff_blocks (fun d => x jj (ix2 r d)) (fun d f => m ((c : Thread nD τ).loc main_arg2) (ix3 jj d f))
    (fun f => m ((c : Thread nD τ).loc main_arg3) (ix3 jj f o))

/-! ## The result, element by element -/

theorem up_ix (r : Fin 576) (o : Fin 2048) : up (ix2 r o) = ix3 0 r o := by
  exact ValueIdx.reshapeEquiv_ix2_1ab _ r o

theorem inN_ix (n : ℕ) (e : Fin n) (r : Fin 576) (o : Fin 2048) : inN n e (ix2 r o) = ix3 e r o := by
  unfold inN
  rw [up_ix]
  funext a
  apply Fin.ext
  match a with
  | ⟨0, _⟩ => show e.val + 1 * 0 = e.val; omega
  | ⟨1, _⟩ => show 0 + 1 * r.val = r.val; omega
  | ⟨2, _⟩ => show 0 + 1 * o.val = o.val; omega

theorem Xs_apply (e : Fin 8) (r : Fin 576) (d : Fin 2048) : Xs m c e (ix2 r d) = m ((c : Thread nD τ).loc main_v19) (ix3 e r d) := by
  rw [Xs_eq]
  exact congrArg (m ((c : Thread nD τ).loc main_v19)) (inN_ix 8 e r d)

/-- At the device's own experts, its own rows with its own weights. -/
theorem outV_lo (jj : Fin 4) (r : Fin 576) (o : Fin 2048) :
    outV m c (ix3 (lo c jj) r o) = ff (fun d => m ((c : Thread nD τ).loc main_v19) (ix3 (lo c jj) r d))
      (fun d f => m ((c : Thread nD τ).loc main_arg2) (ix3 jj d f)) (fun f : Fin 4096 => m ((c : Thread nD τ).loc main_arg3) (ix3 jj f o)) := by
  rw [← inN_ix 8, outV, ofN_in, both_lo]
  unfold YL
  rw [Y_apply]
  simp only [XL, Xs_apply]

/-- At its partner's, its own rows with the partner's weights. -/
theorem outV_ro (jj : Fin 4) (r : Fin 576) (o : Fin 2048) :
    outV m c (ix3 (ro c jj) r o) = ff (fun d => m ((c : Thread nD τ).loc main_v19) (ix3 (ro c jj) r d))
      (fun d f => m ((peer c : Thread nD τ).loc main_arg2) (ix3 jj d f)) (fun f : Fin 4096 => m ((peer c : Thread nD τ).loc main_arg3) (ix3 jj f o)) := by
  rw [← inN_ix 8, outV, ofN_in, both_ro]
  unfold YR
  rw [Y_apply]
  simp only [XR, peer_peer, lo_peer, Xs_apply]

end Cert.Moe

end
-- ==== Proof.Reference.lean ====
/-
  The reference, element by element: row `t` takes the weights of the expert that token `t` names.
-/
module

public import proofs.«01_k».proof.Proof.Value
public import proofs.«01_k».proof.Proof.Gen.ReferenceIdeal.Run
public import Idealize.ShloMosaic.Lib.Pointwise

@[expose] public section

set_option maxRecDepth 20000

noncomputable section

namespace Cert.Moe.Ref

open Cert.ReferenceIdeal Cert.ReferenceIdeal.Gen
open Idealize.ShloMosaic Idealize.ShloMosaic.TcCoe

variable (m : (ℓ : Loc nD τ sig) → Buf (Elt Ideal) ℓ)

abbrev X : FVec Ideal S8192x2048 .bf16 := m (((0 : Dev nD).tc : Thread nD τ).loc main_arg0)
abbrev a : IVec S8192 32 := m (((0 : Dev nD).tc : Thread nD τ).loc main_arg1)
abbrev A : FVec Ideal S8x2048x4096 .bf16 := m (((0 : Dev nD).tc : Thread nD τ).loc main_arg2)
abbrev B : FVec Ideal S8x4096x2048 .bf16 := m (((0 : Dev nD).tc : Thread nD τ).loc main_arg3)

/-- The last choice whose number is the expert's is the expert's own. -/
theorem pick (G : Fin 8 → EReal) (z : EReal) (e : Fin 8) :
    Scalar.select (IntOp.cmpi .eq (BitVec.ofNat 32 e.val) 7#32) (G 7) (Scalar.select (IntOp.cmpi .eq (BitVec.ofNat 32 e.val) 6#32) (G 6)
      (Scalar.select (IntOp.cmpi .eq (BitVec.ofNat 32 e.val) 5#32) (G 5) (Scalar.select (IntOp.cmpi .eq (BitVec.ofNat 32 e.val) 4#32) (G 4)
        (Scalar.select (IntOp.cmpi .eq (BitVec.ofNat 32 e.val) 3#32) (G 3) (Scalar.select (IntOp.cmpi .eq (BitVec.ofNat 32 e.val) 2#32) (G 2)
          (Scalar.select (IntOp.cmpi .eq (BitVec.ofNat 32 e.val) 1#32) (G 1) (Scalar.select (IntOp.cmpi .eq (BitVec.ofNat 32 e.val) 0#32) (G 0) z)))))))
      = G e := by
  fin_cases e <;> rfl

theorem out_apply (t : Fin 8192) (o : Fin 2048) (e : Fin 8) (he : a m (ix1 t) = BitVec.ofNat 32 e.val) :
    Value.res_main_v113 (F := Ideal) m 0 (ix2 t o) = ff (fun d => X m (ix2 t d)) (fun d f => A m (ix3 e d f)) (fun f : Fin 4096 => B m (ix3 e f o)) := by
  unfold Value.res_main_v113 ff
  pointwise!
  rw [show m (((0 : Dev nD).tc : Thread nD τ).loc main_arg1) (ix1 t) = BitVec.ofNat 32 e.val from he]
  exact pick (fun e => ∑ f : Fin 4096, max (∑ d : Fin 2048, X m (ix2 t d) * A m (ix3 e d f)) 0 * B m (ix3 e f o)) 0 e

end Cert.Moe.Ref

end
-- ==== Proof.Calls.lean ====
/-
  What the two gathering calls leave, over the reals.  Each multiplies by a matrix whose entries are 1 where a slot number is the
  row's or the column's own and 0 elsewhere.
-/
module

public import proofs.«01_k».proof.Proof.Launch
public import proofs.«01_k».proof.Proof.Value
public import Idealize.ShloMosaic.Lib.Pipeline.ValueKit

@[expose] public section

set_option maxRecDepth 20000

noncomputable section

namespace Cert.Moe

open Cert.KernelIdeal Cert.KernelIdeal.Gen
open Idealize.ShloMosaic Idealize.ShloMosaic.TcCoe

/-- An equality of words as a number. -/
theorem hot (a b : BitVec 32) :
    (FloatOps.sitofp (F := Ideal) FTy.f32 (BitVec.setWidth 32 (IntOp.cmpi .eq a b)) : EReal) = if a = b then 1 else 0 := by
  by_cases h : a = b
  · subst h
    rw [if_pos rfl]
    show ((((BitVec.setWidth 32 (BitVec.ofBool (a == a))).toInt : ℝ)) : EReal) = 1
    simp
  · rw [if_neg h]
    show ((((BitVec.setWidth 32 (BitVec.ofBool (a == b))).toInt : ℝ)) : EReal) = 0
    rw [beq_eq_false_iff_ne.2 h]
    simp

theorem rowWord (e r : ℕ) : IntOp.addi (BitVec.ofNat 32 r) (Scalar.muli (BitVec.ofNat 32 e) 576#32) = BitVec.ofNat 32 (576 * e + r) := by
  show BitVec.ofNat 32 r + BitVec.ofNat 32 e * BitVec.ofNat 32 576 = _
  rw [← BitVec.ofNat_mul, ← BitVec.ofNat_add, Nat.add_comm, Nat.mul_comm]

theorem pay_pack (i : grid0.Coords) (s : Vec Ideal S4096 .i32) (x : Vec Ideal S4096x2048 .bf16) (r : Fin 576) (d : Fin 2048) :
    k0_pay1 i (shapeCast S8x512 s shapeCasts_S4096_S8x512) x (ix3 0 r d)
      = ∑ t : Fin 4096, (if BitVec.ofNat 32 (576 * (i 0).val + r.val) = s (ix1 t) then 1 else 0) * x (ix2 t d) := by
  pointwise! [k0_pay1]
  exact Finset.sum_congr rfl fun t _ => by rw [hot, rowWord]

theorem pay_unpack (s : Vec Ideal S1x512 .i32) (y : Vec Ideal S8x576x2048 .bf16) (r : Fin 512) (o : Fin 2048) :
    k2_pay1 s y (ix2 r o)
      = ∑ p : Fin 4608, (if BitVec.ofNat 32 p.val = s (ix2 0 r) then 1 else 0) * y (ix3 ⟨p.val / 576, by omega⟩ ⟨p.val % 576, Nat.mod_lt _ (by decide)⟩ o) := by
  pointwise! [k2_pay1]
  exact Finset.sum_congr rfl fun t _ => by rw [hot]

/-! ## The two results as whole arrays -/

variable (m : (ℓ : Loc nD τ sig) → Buf (Elt Ideal) ℓ) (O : CellTallies nD τ sig Unit) (c : Dev nD)

theorem slots_whole (t : Fin cfg0.N) : pSlots m c t = m ((c : Thread nD τ).loc main_v18) := by
  funext y
  unfold pSlots pblk
  rw [View.read_apply]
  show m ((c : Thread nD τ).loc main_v18) _ = _
  congr 1
  funext a
  apply Fin.ext
  match a with
  | ⟨0, _⟩ => show 0 * 8 + 1 * (y 0).val = (y 0).val; omega
  | ⟨1, _⟩ => show 0 * 512 + 1 * (y 1).val = (y 1).val; omega
theorem rows_whole (t : Fin cfg0.N) : pRows m c t = m ((c : Thread nD τ).loc main_arg0) := by
  funext y
  unfold pRows pblk
  rw [View.read_apply]
  show m ((c : Thread nD τ).loc main_arg0) _ = _
  congr 1
  funext a
  apply Fin.ext
  match a with
  | ⟨0, _⟩ => show 0 * 4096 + 1 * (y 0).val = (y 0).val; omega
  | ⟨1, _⟩ => show 0 * 2048 + 1 * (y 1).val = (y 1).val; omega
theorem uSlots_whole (t : Fin cfg2.N) : uSlots m c t = m ((c : Thread nD τ).loc main_v21) := by
  funext y
  unfold uSlots ublk
  rw [View.read_apply]
  show m ((c : Thread nD τ).loc main_v21) _ = _
  congr 1
  funext a
  apply Fin.ext
  match a with
  | ⟨0, _⟩ => show 0 * 8 + 1 * (y 0).val = (y 0).val; omega
  | ⟨1, _⟩ => show 0 * 512 + 1 * (y 1).val = (y 1).val; omega
theorem uRows_whole (t : Fin cfg2.N) : uRows m c t = m ((c : Thread nD τ).loc main_v20) := by
  funext y
  unfold uRows ublk
  rw [View.read_apply]
  show m ((c : Thread nD τ).loc main_v20) _ = _
  congr 1
  funext a
  apply Fin.ext
  match a with
  | ⟨0, _⟩ => show 0 * 8 + 1 * (y 0).val = (y 0).val; omega
  | ⟨1, _⟩ => show 0 * 576 + 1 * (y 1).val = (y 1).val; omega
  | ⟨2, _⟩ => show 0 * 2048 + 1 * (y 2).val = (y 2).val; omega

/-- The packed rows: row `r` of expert `e` is the sum of the tokens whose slot is number `576 e + r`. -/
def packed (s : Vec Ideal S4096 .i32) (x : Vec Ideal S4096x2048 .bf16) : Vec Ideal S8x576x2048 .bf16 :=
  fun i => ∑ t : Fin 4096, (if BitVec.ofNat 32 (576 * (i 0).val + (i 1).val) = s (ix1 t) then 1 else 0) * x (ix2 t (i 2))
/-- The results: token `t` takes the sum of the packed rows whose number is its slot. -/
def unpacked (s : Vec Ideal S4096 .i32) (y : Vec Ideal S8x576x2048 .bf16) : Vec Ideal S4096x2048 .f32 :=
  fun i => ∑ p : Fin 4608, (if BitVec.ofNat 32 p.val = s (ix1 (i 0)) then 1 else 0) * y (ix3 ⟨p.val / 576, by omega⟩ ⟨p.val % 576, Nat.mod_lt _ (by decide)⟩ (i 1))

variable (s : Vec Ideal S4096 .i32)

theorem index_pack : ∀ t : Fin cfg0.N, win0_2.index t 0 = (grid0.coords t 0).val ∧ win0_2.index t 1 = 0 ∧ win0_2.index t 2 = 0 := by decide
theorem index_unpack : ∀ t : Fin cfg2.N, win2_2.index t 0 = (grid2.coords t 0).val ∧ win2_2.index t 1 = 0 := by decide

theorem pack_arr (hs : m ((c : Thread nD τ).loc main_v18) = shapeCast S8x512 s shapeCasts_S4096_S8x512) :
    (dat0 m O c).arrAt 2 cfg0.N = packed s (m ((c : Thread nD τ).loc main_arg0)) := by
  refine (dat0 m O c).arrAt_eq_of_covers 2 _ (by decide +kernel) fun t hf y => ?_
  obtain ⟨e, r, d, rfl⟩ : ∃ (e : Fin 1) (r : Fin 576) (d : Fin 2048), y = ix3 e r d := ⟨y 0, y 1, y 2, eq_ix3 y⟩
  obtain ⟨h0, h1, h2⟩ := index_pack t
  obtain rfl : e = 0 := Subsingleton.elim _ _
  show k0_pay1 (grid0.coords t) (pSlots m c t) (pRows m c t) (ix3 0 r d) = _
  rw [slots_whole, rows_whole, hs, pay_pack]
  have he : ((cfg0.win 2).blk t).view.emb (ix3 0 r d) = (ix3 (grid0.coords t 0 : Fin 8) r d : S8x576x2048.Idx) := by
    funext a
    apply Fin.ext
    match a with
    | ⟨0, _⟩ => show win0_2.index t 0 * 1 + 1 * 0 = _; rw [h0]; show (grid0.coords t 0).val * 1 + 1 * 0 = (grid0.coords t 0).val; omega
    | ⟨1, _⟩ => show win0_2.index t 1 * 576 + 1 * r.val = r.val; rw [h1]; omega
    | ⟨2, _⟩ => show win0_2.index t 2 * 2048 + 1 * d.val = d.val; rw [h2]; omega
  exact (congrArg (packed s (m ((c : Thread nD τ).loc main_arg0))) he).symm

/-- Token `r` of the 512 that point `i` takes. -/
abbrev tkn (i : Fin 8) (r : Fin 512) : Fin 4096 := ⟨512 * i.val + r.val, by omega⟩

theorem row_apply (i : grid2.Coords) (r : Fin 512) :
    uRow i (shapeCast S8x512 s shapeCasts_S4096_S8x512) (ix2 0 r) = s (ix1 (tkn (i 0) r)) := by
  unfold uRow
  have hi : (i 0).val < 8 := (i 0).isLt
  have he : (Rect.unit (s := S8x512) (k2_off1 i) S1x512.size (k2_off1_inb i)).toLoadRect.idx (ix2 0 r) = (ix2 (i 0 : Fin 8) r : S8x512.Idx) := by
    funext a
    apply Fin.ext
    match a with
    | ⟨0, _⟩ =>
      show (BitVec.ofNat 32 (i 0).val).toNat + 1 * 0 = (i 0).val
      rw [BitVec.toNat_ofNat, Nat.mod_eq_of_lt (by omega)]; omega
    | ⟨1, _⟩ => show 0 + 1 * r.val = r.val; omega
  rw [he]
  pointwise!
  exact congrArg (fun q => s (ix1 q)) (Fin.ext (by show (i 0).val * 512 + r.val = 512 * (i 0).val + r.val; omega))

theorem unpack_arr (hs : m ((c : Thread nD τ).loc main_v21) = shapeCast S8x512 s shapeCasts_S4096_S8x512) :
    (dat2 m c).arrAt 2 cfg2.N = unpacked s (m ((c : Thread nD τ).loc main_v20)) := by
  refine (dat2 m c).arrAt_eq_of_covers 2 _ (by decide +kernel) fun t hf y => ?_
  obtain ⟨r, o, rfl⟩ : ∃ (r : Fin 512) (o : Fin 2048), y = ix2 r o := ⟨y 0, y 1, eq_ix2 y⟩
  obtain ⟨h0, h1⟩ := index_unpack t
  show k2_pay1 (uRow (grid2.coords t) (uSlots m c t)) (uRows m c t) (ix2 r o) = _
  rw [uSlots_whole, uRows_whole, hs, pay_unpack, row_apply]
  have he : ((cfg2.win 2).blk t).view.emb (ix2 r o) = (ix2 (tkn (grid2.coords t 0) r) o : S4096x2048.Idx) := by
    funext a
    apply Fin.ext
    match a with
    | ⟨0, _⟩ => show win2_2.index t 0 * 512 + 1 * r.val = _; rw [h0]; show _ = 512 * (grid2.coords t 0).val + r.val; omega
    | ⟨1, _⟩ => show win2_2.index t 1 * 2048 + 1 * o.val = o.val; rw [h1]; omega
  exact (congrArg (unpacked s (m ((c : Thread nD τ).loc main_v20))) he).symm

/-! ## Where every token has a slot of its own -/

theorem number_inj {p q : ℕ} (hp : p < 4608) (hq : q < 4608) (h : BitVec.ofNat 32 p = BitVec.ofNat 32 q) : p = q := by
  have h := congrArg BitVec.toNat h
  rwa [BitVec.toNat_ofNat, BitVec.toNat_ofNat, Nat.mod_eq_of_lt (by omega), Nat.mod_eq_of_lt (by omega)] at h

variable (e : Fin 4096 → Fin 8) (k : Fin 4096 → Fin 576) (hs : ∀ t, s (ix1 t) = BitVec.ofNat 32 (576 * (e t).val + (k t).val))
include hs

/-- The packed row of a token is the token. -/
theorem packed_at (hk : ∀ t u, e t = e u → k t = k u → t = u) (x : Vec Ideal S4096x2048 .bf16) (t : Fin 4096) (d : Fin 2048) :
    packed s x (ix3 (e t) (k t) d) = x (ix2 t d) := by
  show (∑ u : Fin 4096, (if BitVec.ofNat 32 (576 * (e t).val + (k t).val) = s (ix1 u) then (1 : EReal) else 0) * x (ix2 u d)) = _
  rw [Finset.sum_eq_single t]
  · rw [if_pos (hs t).symm, one_mul]
  · intro u _ hu
    rw [if_neg, zero_mul]
    rw [hs]
    intro h
    have h := number_inj (by omega) (by omega) h
    exact hu (hk u t (Fin.ext (by omega)) (Fin.ext (by omega)))
  · exact fun h => absurd (Finset.mem_univ _) h

/-- The result of a token is its row's. -/
theorem unpacked_at (y : Vec Ideal S8x576x2048 .bf16) (t : Fin 4096) (o : Fin 2048) :
    unpacked s y (ix2 t o) = y (ix3 (e t) (k t) o) := by
  show (∑ p : Fin 4608, (if BitVec.ofNat 32 p.val = s (ix1 t) then (1 : EReal) else 0)
    * y (ix3 ⟨p.val / 576, by omega⟩ ⟨p.val % 576, Nat.mod_lt _ (by decide)⟩ o)) = _
  rw [Finset.sum_eq_single (⟨576 * (e t).val + (k t).val, by omega⟩ : Fin 4608)]
  · rw [if_pos (hs t).symm, one_mul]
    exact congrArg y (congrArg₂ (fun a b => ix3 a b o) (Fin.ext (by show (576 * (e t).val + (k t).val) / 576 = _; omega))
      (Fin.ext (by show (576 * (e t).val + (k t).val) % 576 = _; omega)))
  · intro p _ hp
    rw [if_neg, zero_mul]
    rw [hs]
    intro h
    exact hp (Fin.ext (number_inj p.isLt (by omega) h))
  · exact fun h => absurd (Finset.mem_univ _) h

end Cert.Moe

end
-- ==== Proof.Slots.lean ====
/-
  The slot numbers the host computes.  When every token names an expert and no expert is named more than 576 times, token `t` of expert
  `e` has slot `576 e + k`, where `k` earlier tokens name the same expert; so no two tokens have the same slot.
-/
module

public import proofs.«01_k».proof.Proof.Calls
public import proofs.«01_k».proof.Proof.Gen.Pre_fits_KernelIdeal
public import Idealize.ShloMosaic.Lib.StableHlo.ReadAt
public import Idealize.ShloMosaic.Lib.Routing.OpsOne
public import Idealize.ShloMosaic.Lib.ReduceAll
public import Idealize.ShloMosaic.Lib.WordArith
public import Idealize.ShloMosaic.Lib.StableHlo.Predicate

@[expose] public section

set_option maxRecDepth 20000

noncomputable section

namespace Cert.Moe

open Cert.KernelIdeal Cert.KernelIdeal.Gen
open Idealize.ShloMosaic Idealize.ShloMosaic.TcCoe

/-! ## Counting -/

/-- How many tokens up to `t` name expert `e`. -/
def upTo (E : Fin 4096 → Fin 8) (t : Fin 4096) (e : Fin 8) : ℕ := (Finset.univ.filter fun t' => t' ≤ t ∧ E t' = e).card

theorem upTo_pos (E : Fin 4096 → Fin 8) (t : Fin 4096) : 0 < upTo E t (E t) :=
  Finset.card_pos.2 ⟨t, Finset.mem_filter.2 ⟨Finset.mem_univ _, le_refl _, rfl⟩⟩
theorem upTo_le (E : Fin 4096 → Fin 8) (t : Fin 4096) (e : Fin 8) : upTo E t e ≤ (Finset.univ.filter fun t' => E t' = e).card :=
  Finset.card_le_card fun _ h => Finset.mem_filter.2 ⟨Finset.mem_univ _, (Finset.mem_filter.1 h).2.2⟩
theorem upTo_lt (E : Fin 4096 → Fin 8) {t u : Fin 4096} (h : t < u) : upTo E t (E u) < upTo E u (E u) :=
  Finset.card_lt_card ⟨fun _ hx => by
      obtain ⟨-, h1, h2⟩ := Finset.mem_filter.1 hx
      exact Finset.mem_filter.2 ⟨Finset.mem_univ _, h1.trans h.le, h2⟩,
    fun hs => absurd (Finset.mem_filter.1 (hs (Finset.mem_filter.2 ⟨Finset.mem_univ u, le_refl _, rfl⟩))).2.1 (not_le.2 h)⟩

/-- Expert and place among the expert's tokens tell tokens apart. -/
theorem place_inj (E : Fin 4096 → Fin 8) {t u : Fin 4096} (he : E t = E u) (h : upTo E t (E t) = upTo E u (E u)) : t = u := by
  rcases lt_trichotomy t u with l | l | l
  · have := upTo_lt E l; rw [he] at h; omega
  · exact l
  · have := upTo_lt E l; rw [← he] at h; omega

theorem word_inj {a b : Fin 8} (h : BitVec.ofNat 32 a.val = BitVec.ofNat 32 b.val) : a = b := by revert a b; decide

/-- An equality of words as a word. -/
theorem flag (a b : BitVec 32) : BitVec.setWidth 32 (IntOp.cmpi .eq a b) = if a = b then 1 else 0 := by
  by_cases h : a = b
  · subst h
    rw [if_pos rfl]
    show BitVec.setWidth 32 (BitVec.ofBool (a == a)) = 1
    rw [beq_self_eq_true]; rfl
  · rw [if_neg h]
    show BitVec.setWidth 32 (BitVec.ofBool (a == b)) = 0
    rw [beq_eq_false_iff_ne.2 h]; rfl

theorem sum_flags {ι : Type} [Fintype ι] (P : ι → Prop) [DecidablePred P] :
    (∑ i, if P i then (1 : BitVec 32) else 0) = BitVec.ofNat 32 (Finset.univ.filter P).card := by
  rw [Finset.sum_boole]; rfl

/-- The slot number of a token that names expert `e`, `n` of the tokens so far naming it. -/
theorem slot_word (e n : ℕ) (hn : 0 < n) (hn' : n ≤ 576) :
    IntOp.addi (IntOp.muli (BitVec.ofNat 32 e) 576#32) (IntOp.minsi (BitVec.ofNat 32 n - 1#32) 575#32) = BitVec.ofNat 32 (576 * e + (n - 1)) := by
  have h1 : BitVec.ofNat 32 n - 1#32 = BitVec.ofNat 32 (n - 1) := by
    rw [show n = (n - 1) + 1 by omega, BitVec.ofNat_add]
    simp
  have h2 : IntOp.minsi (BitVec.ofNat 32 (n - 1)) 575#32 = BitVec.ofNat 32 (n - 1) := by
    apply BitVec.eq_of_toNat_eq
    have h3 : (BitVec.ofNat 32 (n - 1)).toNat = n - 1 := by rw [BitVec.toNat_ofNat, Nat.mod_eq_of_lt (by omega)]
    rw [WordArith.toNat_minsi_of_lt _ _ (by omega) (by decide), h3]
    show min (n - 1) 575 = n - 1
    omega
  rw [h1, h2]
  show BitVec.ofNat 32 e * BitVec.ofNat 32 576 + _ = _
  rw [← BitVec.ofNat_mul, ← BitVec.ofNat_add, Nat.mul_comm]

/-! ## The host's slot numbers -/

variable (m : (ℓ : Loc nD τ sig) → Buf (Elt Ideal) ℓ) (c : Dev nD)

theorem counts (E : Fin 4096 → Fin 8) (hE : ∀ t, m ((c : Thread nD τ).loc main_arg1) (ix1 t) = BitVec.ofNat 32 (E t).val) (t : Fin 4096) (e : Fin 8) :
    V2 m c main_v8 (ix2 t e) = BitVec.ofNat 32 (upTo E t e) := by
  unfold V2
  after_reads_at
  refine (Routing.cumsum_rows_sum (A := 4096) (Am1 := 4095) (N := 8) rfl _ _ rfl _ _ t e).trans ?_
  rw [upTo, ← sum_flags]
  refine Finset.sum_congr rfl fun t' _ => ?_
  pointwise!
  rw [flag, show V0 m c (Proc.tc.devRef main_arg1) (ix1 t') = BitVec.ofNat 32 (E t').val from hE t']
  show (if t' ≤ t then if BitVec.ofNat 32 (E t').val = BitVec.ofNat 32 e.val then (1 : BitVec 32) else 0 else 0) = if t' ≤ t ∧ E t' = e then 1 else 0
  have he : BitVec.ofNat 32 (E t').val = BitVec.ofNat 32 e.val ↔ E t' = e := ⟨word_inj, fun h => by rw [h]⟩
  simp only [he, ite_and]

theorem slotW (E : Fin 4096 → Fin 8) (hE : ∀ t, m ((c : Thread nD τ).loc main_arg1) (ix1 t) = BitVec.ofNat 32 (E t).val)
    (hc : ∀ e, (Finset.univ.filter fun t => E t = e).card ≤ 576) (t : Fin 4096) :
    V3 m c main_v17 (ix1 t) = BitVec.ofNat 32 (576 * (E t).val + (upTo E t (E t) - 1)) := by
  have hs : ∀ e, V2 m c main_v8 (ix2 t e) = BitVec.ofNat 32 (upTo E t e) := counts m c E hE t
  unfold V2 at hs
  revert hs
  unfold V3
  after_reads_at
  intro hs
  simp only [hs, flag]
  rw [show V0 m c (Proc.tc.devRef main_arg1) (ix1 t) = BitVec.ofNat 32 (E t).val from hE t]
  have hf : (Finset.univ.fold IntOp.addi 0#32 fun x : Fin 8 => IntOp.muli (if BitVec.ofNat 32 (E t).val = BitVec.ofNat 32 x.val then 1 else 0)
      (IntOp.subi (BitVec.ofNat 32 (upTo E t x)) 1#32)) = BitVec.ofNat 32 (upTo E t (E t)) - 1#32 := by
    show (∑ x : Fin 8, (if BitVec.ofNat 32 (E t).val = BitVec.ofNat 32 x.val then (1 : BitVec 32) else 0) * (BitVec.ofNat 32 (upTo E t x) - 1#32)) = _
    rw [Finset.sum_eq_single (E t)]
    · rw [if_pos rfl, one_mul]
    · intro x _ hx
      rw [if_neg fun h => hx (word_inj h).symm, zero_mul]
    · exact fun h => absurd (Finset.mem_univ _) h
  rw [hf, slot_word _ _ (upTo_pos E t) ((upTo_le E t _).trans (hc _))]

/-! ## What the precondition says -/

theorem bit_true {b : Bool} (h : BitVec.ofBool b = 1#1) : b = true := by revert b; decide

theorem expert_of (w : BitVec 32) (h0 : IntOp.cmpi .sge w 0#32 = 1#1) (h8 : IntOp.cmpi .slt w 8#32 = 1#1) : ∃ e : Fin 8, w = BitVec.ofNat 32 e.val := by
  have h0 : BitVec.sle 0#32 w = true := bit_true h0
  have h8 : BitVec.slt w 8#32 = true := bit_true h8
  rw [BitVec.sle_iff_toInt_le] at h0
  rw [BitVec.slt_iff_toInt_lt] at h8
  have e := BitVec.toInt_eq_toNat_cond w
  have := w.isLt
  have z : (0#32).toInt = 0 := by decide
  have k : (8#32).toInt = 8 := by decide
  have hw : w.toNat < 8 := by rw [z] at h0; rw [k] at h8; split at e <;> omega
  exact ⟨⟨w.toNat, hw⟩, by simp⟩

theorem le_of_word (n : ℕ) (hn : n ≤ 4096) (w : BitVec 32) (hw : w.toNat = n) (h : IntOp.cmpi .sle w 576#32 = 1#1) : n ≤ 576 := by
  have h : BitVec.sle w 576#32 = true := bit_true h
  rw [BitVec.sle_iff_toInt_le] at h
  have e := BitVec.toInt_eq_toNat_cond w
  have k : (576#32).toInt = 576 := by decide
  rw [k] at h
  split at e <;> omega

/-- The precondition on one device's blocks: every token names an expert, and no expert is named more than 576 times. -/
theorem fits_says (x : FVec Ideal S4096x2048 .bf16) (a : IVec S4096 32) (A : FVec Ideal S4x2048x4096 .bf16) (B : FVec Ideal S4x4096x2048 .bf16)
    (h : Cert.Pre_fits_KernelIdeal.fn (F := Ideal) x a A B = fun _ => 1#1) :
    ∃ E : Fin 4096 → Fin 8, (∀ t, a (ix1 t) = BitVec.ofNat 32 (E t).val) ∧ ∀ e, (Finset.univ.filter fun t => E t = e).card ≤ 576 := by
  have h0 := congrFun h ix0
  unfold Cert.Pre_fits_KernelIdeal.fn at h0
  obtain ⟨h1, h2⟩ := IntOp.andi_eq_one.1 h0
  have h1 := fun t : Fin 4096 => IntOp.andi_eq_one.1 (Host.reduce_andi_all _ _ _ _ _ h1 (ix1 t))
  have h2 := fun e : Fin 8 => Host.reduce_andi_all _ _ _ _ _ h2 (ix1 e)
  choose E hE using fun t => expert_of (a (ix1 t)) (h1 t).1 (h1 t).2
  refine ⟨E, hE, fun e => le_of_word _ ((Finset.card_le_univ _).trans (by simp)) _ ?_ (h2 e)⟩
  refine (StableHlo.Predicate.toNat_reduce_count_rows (n := 4096) (m := 8) (by decide) _ _ _ _ (ix1 e)).trans ?_
  refine congrArg Finset.card (Finset.filter_congr fun t _ => ?_)
  have hb : ∀ v : BitVec 32, IntOp.cmpi .eq (a (ix1 t)) v = 1#1 ↔ a (ix1 t) = v := fun v =>
    ⟨fun h => eq_of_beq (bit_true h), fun h => by rw [h]; show BitVec.ofBool (v == v) = 1#1; rw [beq_self_eq_true]; rfl⟩
  have hm : (∀ v : BitVec 1, v = IntOp.cmpi .eq (a (ix1 t)) (BitVec.ofNat 32 e.val) → (v = 1#1 ↔ E t = e)) := fun v hv => by
    rw [hv, hb, hE]; exact ⟨word_inj, fun h => by rw [h]⟩
  apply hm
  erw [Routing.ij_eq_ix2]
  pointwise!

end Cert.Moe

end
-- ==== Proof.Whole.lean ====
/-
  What the whole program leaves: every token's row times the two weight matrices of the expert it names.
-/
module

public import proofs.«01_k».proof.Proof.Slots

@[expose] public section

set_option maxRecDepth 20000

noncomputable section

namespace Cert.Moe

open Cert.KernelIdeal Cert.KernelIdeal.Gen
open Idealize.ShloMosaic Idealize.ShloMosaic.TcCoe

variable (m : (ℓ : Loc nD τ sig) → Buf (Elt Ideal) ℓ) (c : Dev nD)

/-- The slot numbers. -/
abbrev slotsOf : Vec Ideal S4096 .i32 := V3 m c main_v17

theorem slots_first : V3 m c main_v18 = shapeCast S8x512 (slotsOf m c) shapeCasts_S4096_S8x512 := by
  unfold slotsOf V3
  after_reads_simp
  rfl
theorem slots_last : A6 m c main_v21 = shapeCast S8x512 (slotsOf m c) shapeCasts_S4096_S8x512 := by
  have h : A5 m c main_v17 = slotsOf m c := (A5_of m c main_v17 (by decide)).trans (A4_of m c main_v17 (by decide))
  rw [← h]
  unfold A6
  after_reads_simp
  rfl

/-- An array that the host and the packing leave alone. -/
theorem kept4 (r : Ref sig .tc) (h4 : r ≠ main_v19) (h3 : r ∉ hostOps0_2_W) (h2 : r ∉ hostOps0_1_W) (h1 : r ∉ hostOps0_W) :
    A4 m c r = m ((c : Thread nD τ).loc r) :=
  (A4_of m c r h4).trans <| (V3_of m c r h3).trans <| (V2_of m c r h2).trans <| (V1_of m c r h1).trans rfl

theorem rows_packed : A4 m c main_v19 = packed (slotsOf m c) (m ((c : Thread nD τ).loc main_arg0)) := by
  have h0 : V3 m c main_arg0 = m ((c : Thread nD τ).loc main_arg0) :=
    (V3_of m c main_arg0 (by decide)).trans <| (V2_of m c main_arg0 (by decide)).trans <| (V1_of m c main_arg0 (by decide)).trans rfl
  rw [← h0]
  exact (Pipeline.afterRegion_arr (dat0 (mem (V3 m)) (O₀ c) c) (V3 m c) launch0.win.arr_inj 2).trans
    (pack_arr (mem (V3 m)) (O₀ c) c (slotsOf m c) (slots_first m c))

theorem results_unpacked : A7 m c main_v22 = unpacked (slotsOf m c) (outV (mem (A4 m)) c) := by
  have h0 : A6 m c main_v20 = outV (mem (A4 m)) c := (A6_of m c main_v20 (by decide)).trans (V₁_out (mem (A4 m)) c)
  rw [← h0]
  exact (Pipeline.afterRegion_arr (dat2 (mem (A6 m)) c) (A6 m c) launch2.win.arr_inj 2).trans
    (unpack_arr (mem (A6 m)) c (slotsOf m c) (slots_last m c))

section
variable (E : Fin 4096 → Fin 8) (hE : ∀ t, m ((c : Thread nD τ).loc main_arg1) (ix1 t) = BitVec.ofNat 32 (E t).val)
  (hc : ∀ e, (Finset.univ.filter fun t => E t = e).card ≤ 576) (t : Fin 4096) (jj : Fin 4) (o : Fin 2048)
include hE hc

/-- The place of a token among its expert's. -/
def place (E : Fin 4096 → Fin 8) (hc : ∀ e, (Finset.univ.filter fun t => E t = e).card ≤ 576) (t : Fin 4096) : Fin 576 :=
  ⟨upTo E t (E t) - 1, by have := (upTo_le E t (E t)).trans (hc _); have := upTo_pos E t; omega⟩

theorem row_of (d : Fin 2048) : A4 m c main_v19 (ix3 (E t) (place E hc t) d) = m ((c : Thread nD τ).loc main_arg0) (ix2 t d) := by
  rw [rows_packed]
  exact packed_at (slotsOf m c) E (place E hc) (slotW m c E hE hc) (fun t u h1 h2 => place_inj E h1 (by
    have h := congrArg Fin.val h2
    have := upTo_pos E t
    have := upTo_pos E u
    show _ = _
    change upTo E t (E t) - 1 = upTo E u (E u) - 1 at h
    omega)) _ t d

theorem result_of : A7 m c main_v22 (ix2 t o) = outV (mem (A4 m)) c (ix3 (E t) (place E hc t) o) := by
  rw [results_unpacked]
  exact unpacked_at (slotsOf m c) E (place E hc) (slotW m c E hE hc) _ t o

/-- A token of one of the device's own experts. -/
theorem result_lo (h : E t = lo c jj) :
    A7 m c main_v22 (ix2 t o) = ff (fun d => m ((c : Thread nD τ).loc main_arg0) (ix2 t d))
      (fun d f => m ((c : Thread nD τ).loc main_arg2) (ix3 jj d f)) (fun f : Fin 4096 => m ((c : Thread nD τ).loc main_arg3) (ix3 jj f o)) := by
  have hx := row_of m c E hE hc t
  rw [h] at hx
  rw [result_of m c E hE hc t o, h, outV_lo]
  show ff (fun d => A4 m c main_v19 (ix3 (lo c jj) (place E hc t) d)) (fun d f => A4 m (c) main_arg2 (ix3 jj d f)) (fun f : Fin 4096 => A4 m (c) main_arg3 (ix3 jj f o)) = _
  rw [kept4 m (c) main_arg2 (by decide) (by decide) (by decide) (by decide), kept4 m (c) main_arg3 (by decide) (by decide) (by decide) (by decide)]
  simp only [hx]
/-- A token of one of its partner's. -/
theorem result_ro (h : E t = ro c jj) :
    A7 m c main_v22 (ix2 t o) = ff (fun d => m ((c : Thread nD τ).loc main_arg0) (ix2 t d))
      (fun d f => m ((peer c : Thread nD τ).loc main_arg2) (ix3 jj d f)) (fun f : Fin 4096 => m ((peer c : Thread nD τ).loc main_arg3) (ix3 jj f o)) := by
  have hx := row_of m c E hE hc t
  rw [h] at hx
  rw [result_of m c E hE hc t o, h, outV_ro]
  show ff (fun d => A4 m c main_v19 (ix3 (ro c jj) (place E hc t) d)) (fun d f => A4 m (peer c) main_arg2 (ix3 jj d f)) (fun f : Fin 4096 => A4 m (peer c) main_arg3 (ix3 jj f o)) = _
  rw [kept4 m (peer c) main_arg2 (by decide) (by decide) (by decide) (by decide), kept4 m (peer c) main_arg3 (by decide) (by decide) (by decide) (by decide)]
  simp only [hx]
end

end Cert.Moe

end
-- ==== Proof.Equation.lean ====
/-
  What the program leaves on a device is that device's block of the reference's result.
-/
module

public import proofs.«01_k».proof.Proof.Reference
public import proofs.«01_k».proof.Proof.Whole

@[expose] public section

set_option maxRecDepth 20000

noncomputable section

namespace Cert.Moe

open Cert.KernelIdeal Cert.KernelIdeal.Gen
open Idealize.ShloMosaic Idealize.ShloMosaic.TcCoe

/-- The block of device `c` of an array cut in two along its first dimension, by the mesh axis "x". -/
abbrev cut {n b₁ b₂ : ℕ} (N : ℕ) (h : Layout.TilesN ⟨3, ![n, b₁, b₂]⟩ ⟨3, ![N, b₁, b₂]⟩ fun b => Layout.cutSize [2, 4, 4] ((![[0], [], []] : Fin 3 → List ℕ) b))
    (c : Dev nD) (v : (⟨3, ![N, b₁, b₂]⟩ : Shape).Idx → EReal) : (⟨3, ![n, b₁, b₂]⟩ : Shape).Idx → EReal :=
  Layout.blockN ⟨3, ![n, b₁, b₂]⟩ ⟨3, ![N, b₁, b₂]⟩ (Layout.meshBlock [2, 4, 4] ![[0], [], []] c) v h

theorem own_or_other (x y : Fin 2) : x = y ∨ x = 1 - y := by revert x y; decide

theorem lin_x (c : Dev nD) : Layout.meshLin [2, 4, 4] c.val [0] = (xOf c).val := by revert c; decide

/-- Row block `e` of device `c`'s block. -/
theorem cut_apply {n b₁ b₂ : ℕ} (N : ℕ) (h) (c : Dev nD) (v : (⟨3, ![N, b₁, b₂]⟩ : Shape).Idx → EReal) (e : Fin n) (r : Fin b₁) (o : Fin b₂)
    (g : Fin N) (hg : g.val = (xOf c).val * n + e.val) : cut N h c v (ix3 e r o) = v (ix3 g r o) := by
  unfold cut
  rw [Layout.blockN_apply]
  congr 1
  funext a
  apply Fin.ext
  rw [Layout.TilesN.idx_val]
  match a with
  | ⟨0, _⟩ => show Layout.meshLin [2, 4, 4] c.val [0] * n + e.val = g.val; rw [lin_x, hg]
  | ⟨1, _⟩ => show 0 * b₁ + r.val = r.val; omega
  | ⟨2, _⟩ => show 0 * b₂ + o.val = o.val; omega

theorem tiles_x : Layout.TilesN ⟨2, ![4096, 2048]⟩ ⟨2, ![8192, 2048]⟩ fun b => Layout.cutSize [2, 4, 4] ((![[0], []] : Fin 2 → List ℕ) b) := by decide
theorem tiles_a : Layout.TilesN ⟨1, ![4096]⟩ ⟨1, ![8192]⟩ fun b => Layout.cutSize [2, 4, 4] ((![[0]] : Fin 1 → List ℕ) b) := by decide
theorem tiles_A : Layout.TilesN ⟨3, ![4, 2048, 4096]⟩ ⟨3, ![8, 2048, 4096]⟩ fun b => Layout.cutSize [2, 4, 4] ((![[0], [], []] : Fin 3 → List ℕ) b) := by decide
theorem tiles_B : Layout.TilesN ⟨3, ![4, 4096, 2048]⟩ ⟨3, ![8, 4096, 2048]⟩ fun b => Layout.cutSize [2, 4, 4] ((![[0], [], []] : Fin 3 → List ℕ) b) := by decide

/-- The token that is number `t` on device `c`. -/
abbrev whole (c : Dev nD) (t : Fin 4096) : Fin 8192 := ⟨(xOf c).val * 4096 + t.val, by have := (xOf c).isLt; omega⟩

/-- The rows of device `c`, -/
abbrev cutx (c : Dev nD) (v : (⟨2, ![8192, 2048]⟩ : Shape).Idx → EReal) : (⟨2, ![4096, 2048]⟩ : Shape).Idx → EReal :=
  Layout.blockN ⟨2, ![4096, 2048]⟩ ⟨2, ![8192, 2048]⟩ (Layout.meshBlock [2, 4, 4] ![[0], []] c) v tiles_x
/-- and its experts' numbers. -/
abbrev cuta (c : Dev nD) (v : (⟨1, ![8192]⟩ : Shape).Idx → BitVec 32) : (⟨1, ![4096]⟩ : Shape).Idx → BitVec 32 :=
  Layout.blockN ⟨1, ![4096]⟩ ⟨1, ![8192]⟩ (Layout.meshBlock [2, 4, 4] ![[0]] c) v tiles_a

theorem cutx_apply (c : Dev nD) (v) (t : Fin 4096) (o : Fin 2048) : cutx c v (ix2 t o) = v (ix2 (whole c t) o) := by
  unfold cutx
  rw [Layout.blockN_apply]
  congr 1
  funext a
  apply Fin.ext
  rw [Layout.TilesN.idx_val]
  match a with
  | ⟨0, _⟩ => show Layout.meshLin [2, 4, 4] c.val [0] * 4096 + t.val = (xOf c).val * 4096 + t.val; rw [lin_x]
  | ⟨1, _⟩ => show 0 * 2048 + o.val = o.val; omega
theorem cuta_apply (c : Dev nD) (v) (t : Fin 4096) : cuta c v (ix1 t) = v (ix1 (whole c t)) := by
  unfold cuta
  rw [Layout.blockN_apply]
  congr 1
  funext a
  apply Fin.ext
  rw [Layout.TilesN.idx_val]
  match a with
  | ⟨0, _⟩ => show Layout.meshLin [2, 4, 4] c.val [0] * 4096 + t.val = (xOf c).val * 4096 + t.val; rw [lin_x]

variable (m : (ℓ : Loc nD τ sig) → Buf (Elt Ideal) ℓ) (m' : (ℓ : Loc Cert.ReferenceIdeal.nD Cert.ReferenceIdeal.τ Cert.ReferenceIdeal.sig) → Buf (Elt Ideal) ℓ)
  (h0 : ∀ c : Dev nD, m ((c : Thread nD τ).loc main_arg0) = cutx c (Ref.X m'))
  (h1 : ∀ c : Dev nD, m ((c : Thread nD τ).loc main_arg1) = cuta c (Ref.a m'))
  (h2 : ∀ c : Dev nD, m ((c : Thread nD τ).loc main_arg2) = cut 8 tiles_A c (Ref.A m'))
  (h3 : ∀ c : Dev nD, m ((c : Thread nD τ).loc main_arg3) = cut 8 tiles_B c (Ref.B m'))
  (hp : ∀ c : Dev nD, Cert.Pre_fits_KernelIdeal.fn (F := Ideal) (m ((c : Thread nD τ).loc main_arg0)) (m ((c : Thread nD τ).loc main_arg1))
    (m ((c : Thread nD τ).loc main_arg2)) (m ((c : Thread nD τ).loc main_arg3)) = fun _ => 1#1)
include h0 h1 h2 h3

/-- With the weights of device `d`, at the expert that is number `jj` of that device's four. -/
theorem ff_at (c d : Dev nD) (e : Fin 8) (jj : Fin 4) (he : e = lo d jj) (t : Fin 4096)
    (ht : m ((c : Thread nD τ).loc main_arg1) (ix1 t) = BitVec.ofNat 32 e.val) (o : Fin 2048) :
    ff (fun k => m ((c : Thread nD τ).loc main_arg0) (ix2 t k)) (fun k f => m ((d : Thread nD τ).loc main_arg2) (ix3 jj k f))
        (fun f : Fin 4096 => m ((d : Thread nD τ).loc main_arg3) (ix3 jj f o))
      = cutx c (Cert.ReferenceIdeal.Value.res_main_v113 (F := Ideal) m' 0) (ix2 t o) := by
  have hw : e.val = (xOf d).val * 4 + jj.val := by rw [he]; show 4 * (xOf d).val + jj.val = _; omega
  rw [h1, cuta_apply] at ht
  rw [cutx_apply, Ref.out_apply m' _ o e ht, h0, h2, h3]
  simp only [cutx_apply c (Ref.X m') t, cut_apply 8 _ d (Ref.A m') jj _ _ e hw, cut_apply 8 _ d (Ref.B m') jj _ _ e hw]

include hp in
/-- Every device ends with its rows of the reference's result. -/
theorem result_eq (c : Dev nD) : A7 m c main_v22 = cutx c (Cert.ReferenceIdeal.Value.res_main_v113 (F := Ideal) m' 0) := by
  obtain ⟨E, hE, hc⟩ := fits_says _ _ _ _ (hp c)
  funext j
  obtain ⟨t, o, rfl⟩ : ∃ (t : Fin 4096) (o : Fin 2048), j = ix2 t o := ⟨j 0, j 1, eq_ix2 j⟩
  obtain ⟨⟨x, jj⟩, hx⟩ := grp.surjective (E t)
  rcases (own_or_other x (xOf c)) with rfl | rfl
  · have hx : E t = lo c jj := hx.symm
    exact (result_lo m c E hE hc t jj o hx).trans (ff_at m m' h0 h1 h2 h3 c c (E t) jj hx t (hE t) o)
  · have hx : E t = ro c jj := hx.symm
    exact (result_ro m c E hE hc t jj o hx).trans (ff_at m m' h0 h1 h2 h3 c (peer c) (E t) jj (hx.trans (lo_peer c jj).symm) t (hE t) o)

end Cert.Moe

end
-- ==== Proof.lean ====
/-
  The claims: the kernel and its idealization run, keep their arguments and end with every counter at zero; so does the reference; and,
  where every token names an expert and no expert is named by more than 576 of a device's tokens, every device ends with its rows of the
  reference's result.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_fits_KernelIdeal
public import proofs.«01_k».proof.Proof.Gen.Pre_fits_ReferenceIdeal
public import proofs.«01_k».proof.Proof.Launch
public import proofs.«01_k».proof.Proof.Equation
public import Idealize.ShloMosaic.Adequacy
public import Idealize.ShloMosaic.Init

@[expose] public section

noncomputable section

namespace Cert.Proof

open Idealize.ShloMosaic Idealize.SL.Sem

/-- The kernel and its idealization are one text: the same bodies under the same labels. -/
theorem bodies_eq : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | 0, (t, s) => rfl
  | 1, (t, s) => rfl
  | 2, (t, s) => rfl
theorem defs_eq : Cert.Kernel.defs (F := Bits) = Cert.KernelIdeal.defs (F := Bits) := congrArg (Pipeline.defs _) bodies_eq

/-- So the one run, taken at bit patterns, is the kernel's. -/
theorem frame_kernel : Cert.quiescent_Kernel := by
  intro m ρ _
  rw [defs_eq]
  exact (θ_run Cert.KernelIdeal.defs _ _).mono (fun _ h => ⟨fun c => ⟨(h.1 c).1, (h.1 c).2.1, (h.1 c).2.2.1, (h.1 c).2.2.2.1⟩, h.2⟩)
    (Cert.Moe.run_main (F := Bits) m ρ)

/-- The same run over the reals. -/
theorem frame_ideal : Cert.quiescent_KernelIdeal := fun m ρ _ =>
  (θ_run Cert.KernelIdeal.defs _ _).mono (fun _ h => ⟨fun c => ⟨(h.1 c).1, (h.1 c).2.1, (h.1 c).2.2.1, (h.1 c).2.2.2.1⟩, h.2⟩)
    (Cert.Moe.run_main (F := Ideal) m ρ)

/-- The reference is straight-line and declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Where every expert's tokens fit, every device ends with its rows of the reference's result. -/
theorem value : Cert.algebraic_KernelIdeal_ReferenceIdeal_pre_fits_KernelIdeal := by
  intro m ρ m' ρ' hp hagree
  refine ⟨Cert.ReferenceIdeal.Value.res_main_v113 (F := Ideal) m' 0, ?_, ?_⟩
  · exact (θ_run Cert.KernelIdeal.defs _ _).mono
      (fun _ h c => ⟨(h.1 c).2.2.2.2.trans (Cert.Moe.result_eq m m' (fun c => (hagree c).1) (fun c => (hagree c).2.1) (fun c => (hagree c).2.2.1)
          (fun c => (hagree c).2.2.2) hp c), (h.1 c).1, (h.1 c).2.1, (h.1 c).2.2.1, (h.1 c).2.2.2.1⟩)
      (Cert.Moe.run_main (F := Ideal) m ρ)
  · exact (θ_run Cert.ReferenceIdeal.defs _ _).mono (fun _ h => h 0) (Cert.ReferenceIdeal.Value.run (F := Ideal) m' ρ')

/-- A frame under a precondition is the frame. -/
theorem frame_ideal_fits : Cert.quiescent_KernelIdeal_pre_fits_KernelIdeal := fun m ρ _ => frame_ideal m ρ trivial
theorem frame_reference_fits : Cert.quiescent_ReferenceIdeal_pre_fits_ReferenceIdeal := fun m ρ _ => frame_reference m ρ trivial

theorem claim : Cert.Claim :=
  ⟨Cert.Kernel.Gen.facts, Cert.KernelIdeal.Gen.facts, Cert.ReferenceIdeal.Gen.facts, Cert.Pre_fits_KernelIdeal.Gen.facts, Cert.Pre_fits_ReferenceIdeal.Gen.facts,
    frame_kernel, frame_ideal, frame_ideal_fits, frame_reference, frame_reference_fits, trivial, value⟩

end Cert.Proof

end
